-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel6 [hPre_tables_route : Cert.Pre_tables_route.Facts] (m : (ℓ : Loc Cert.Kernel6.nD Cert.Kernel6.τ Cert.Kernel6.sig) → Buf (Elt Bits) ℓ) : Prop :=
  ∀ c : Dev Cert.Kernel6.nD,
    (Cert.Pre_tables_route.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8))).1 = (fun _ => 1#1)
    ∧ (Cert.Pre_tables_route.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8))).2.1 = (fun _ => 1#1)
    ∧ (Cert.Pre_tables_route.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8))).2.2.1 = (fun _ => 1#1)
    ∧ (Cert.Pre_tables_route.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8))).2.2.2.1 = (fun _ => 1#1)
    ∧ (Cert.Pre_tables_route.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8))).2.2.2.2.1 = (fun _ => 1#1)
    ∧ (Cert.Pre_tables_route.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8))).2.2.2.2.2.1 = (fun _ => 1#1)
    ∧ (Cert.Pre_tables_route.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8))).2.2.2.2.2.2 = (fun _ => 1#1)

def Pre_Kernel6Ideal [hPre_tables_route : Cert.Pre_tables_route.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_tables_route.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).1 = (fun _ => 1#1)
    ∧ (Cert.Pre_tables_route.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.1 = (fun _ => 1#1)
    ∧ (Cert.Pre_tables_route.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.1 = (fun _ => 1#1)
    ∧ (Cert.Pre_tables_route.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.1 = (fun _ => 1#1)
    ∧ (Cert.Pre_tables_route.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.2.1 = (fun _ => 1#1)
    ∧ (Cert.Pre_tables_route.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.2.2.1 = (fun _ => 1#1)
    ∧ (Cert.Pre_tables_route.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_tables_route [hPre_tables_route : Cert.Pre_tables_route.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_tables_route.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).1 = (fun _ => 1#1)
    ∧ (Cert.Pre_tables_route.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.1 = (fun _ => 1#1)
    ∧ (Cert.Pre_tables_route.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.1 = (fun _ => 1#1)
    ∧ (Cert.Pre_tables_route.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.2.1 = (fun _ => 1#1)
    ∧ (Cert.Pre_tables_route.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.2.2.1 = (fun _ => 1#1)
    ∧ (Cert.Pre_tables_route.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.2.2.2.1 = (fun _ => 1#1)
    ∧ (Cert.Pre_tables_route.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel6 [hKernel6 : Cert.Kernel6.Facts] [hPre_tables_route : Cert.Pre_tables_route.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] [hPre_tables_route : Cert.Pre_tables_route.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_tables_route [hReference6Ideal : Cert.Reference6Ideal.Facts] [hPre_tables_route : Cert.Pre_tables_route.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_tables_route m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_v66) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel6_Kernel6Ideal : Prop :=
  True

def algebraic_Kernel6Ideal_Reference6Ideal [hKernel6Ideal : Cert.Kernel6Ideal.Facts] [hReference6Ideal : Cert.Reference6Ideal.Facts] [hPre_tables_route : Cert.Pre_tables_route.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v53) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel3 : Cert.Kernel3.Facts) (hKernel3Ideal : Cert.Kernel3Ideal.Facts) (hReference3Ideal : Cert.Reference3Ideal.Facts) (hKernel6 : Cert.Kernel6.Facts) (hKernel6Ideal : Cert.Kernel6Ideal.Facts) (hReference6Ideal : Cert.Reference6Ideal.Facts) (hPre_scores_finite : Cert.Pre_scores_finite.Facts) (hPre_tables_route : Cert.Pre_tables_route.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel6 (hKernel6 := hKernel6) (hPre_tables_route := hPre_tables_route)
    ∧ quiescent_Kernel6Ideal (hKernel6Ideal := hKernel6Ideal) (hPre_tables_route := hPre_tables_route)
    ∧ quiescent_Reference6Ideal (hReference6Ideal := hReference6Ideal)
    ∧ quiescent_Reference6Ideal_pre_tables_route (hReference6Ideal := hReference6Ideal) (hPre_tables_route := hPre_tables_route)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel3_Kernel3Ideal
    ∧ algebraic_Kernel3Ideal_Reference3Ideal (hKernel3Ideal := hKernel3Ideal) (hReference3Ideal := hReference3Ideal)
    ∧ preserves_Kernel6_Kernel6Ideal
    ∧ algebraic_Kernel6Ideal_Reference6Ideal (hKernel6Ideal := hKernel6Ideal) (hReference6Ideal := hReference6Ideal) (hPre_tables_route := hPre_tables_route)
-- ==== Pre_scores_finite.lean ====
abbrev S34816x3072 : Shape := ⟨2, ![34816, 3072]⟩
abbrev S1x16x15x31 : Shape := ⟨4, ![1, 16, 15, 31]⟩
abbrev S32768x1024 : Shape := ⟨2, ![32768, 1024]⟩
abbrev S_ : Shape := ⟨0, ![]⟩
abbrev S34816x1024 : Shape := ⟨2, ![34816, 1024]⟩

class Facts : Prop where
  slices_S34816x3072_S32768x1024_0_0 : S34816x3072.Slices ![0, 0] S32768x1024
  bcast_S_S32768x1024 : S_.BroadcastsInDim S32768x1024 (![] : Fin 0 → Fin S32768x1024.rank)
  slices_S34816x3072_S34816x1024_0_1024 : S34816x3072.Slices ![0, 1024] S34816x1024
  bcast_S_S34816x1024 : S_.BroadcastsInDim S34816x1024 (![] : Fin 0 → Fin S34816x1024.rank)
  bcast_S_S1x16x15x31 : S_.BroadcastsInDim S1x16x15x31 (![] : Fin 0 → Fin S1x16x15x31.rank)

variable [Facts]

def fn {F : FTy → Type} [FloatOps F] (main_arg0 : FVec F S34816x3072 .bf16) (main_arg1 : FVec F S1x16x15x31 .f32) : IVec S32768x1024 1 × IVec S34816x1024 1 × IVec S1x16x15x31 1 :=
  let main_v0 : FVec F S32768x1024 .bf16 := (extractStridedSlice S32768x1024 ![0, 0] · slices_S34816x3072_S32768x1024_0_0) main_arg0
  let main_v1 : FVec F S32768x1024 .bf16 := Host.absf main_v0
  let main_cst : FVec F S_ .bf16 := constant S_ .bf16 0x7F80#16
  let main_v2 : FVec F S32768x1024 .bf16 := broadcastInDim S32768x1024 ![] bcast_S_S32768x1024 main_cst
  let main_v3 : IVec S32768x1024 1 := cmpf .olt main_v1 main_v2
  let main_v4 : FVec F S34816x1024 .bf16 := (extractStridedSlice S34816x1024 ![0, 1024] · slices_S34816x3072_S34816x1024_0_1024) main_arg0
  let main_v5 : FVec F S34816x1024 .bf16 := Host.absf main_v4
  let main_cst_0 : FVec F S_ .bf16 := constant S_ .bf16 0x7F80#16
  let main_v6 : FVec F S34816x1024 .bf16 := broadcastInDim S34816x1024 ![] bcast_S_S34816x1024 main_cst_0
  let main_v7 : IVec S34816x1024 1 := cmpf .olt main_v5 main_v6
  let main_v8 : FVec F S1x16x15x31 .f32 := Host.absf main_arg1
  let main_cst_1 : FVec F S_ .f32 := constant S_ .f32 0x7F800000#32
  let main_v9 : FVec F S1x16x15x31 .f32 := broadcastInDim S1x16x15x31 ![] bcast_S_S1x16x15x31 main_cst_1
  let main_v10 : IVec S1x16x15x31 1 := cmpf .olt main_v8 main_v9
  (main_v3, main_v7, main_v10)
-- ==== Pre_tables_route.lean ====
abbrev S34816x2048 : Shape := ⟨2, ![34816, 2048]⟩
abbrev S576 : Shape := ⟨1, ![576]⟩
abbrev S576x1x256 : Shape := ⟨3, ![576, 1, 256]⟩
abbrev S32x2048x2048 : Shape := ⟨3, ![32, 2048, 2048]⟩
abbrev S32x1x2048 : Shape := ⟨3, ![32, 1, 2048]⟩
abbrev S32x1024x2048 : Shape := ⟨3, ![32, 1024, 2048]⟩
abbrev S256 : Shape := ⟨1, ![256]⟩
abbrev S1x256 : Shape := ⟨2, ![1, 256]⟩
abbrev S576x1 : Shape := ⟨2, ![576, 1]⟩
abbrev S576x256 : Shape := ⟨2, ![576, 256]⟩
abbrev S147456 : Shape := ⟨1, ![147456]⟩
abbrev S_ : Shape := ⟨0, ![]⟩
abbrev S139264 : Shape := ⟨1, ![139264]⟩
abbrev S147456x1 : Shape := ⟨2, ![147456, 1]⟩
abbrev S139264x1 : Shape := ⟨2, ![139264, 1]⟩

class Facts : Prop where
  bcast_S256_S1x256_1 : S256.BroadcastsInDim S1x256 (![1] : Fin 1 → Fin S1x256.rank)
  bcast_S576_S576x1_0 : S576.BroadcastsInDim S576x1 (![0] : Fin 1 → Fin S576x1.rank)
  bcast_S1x256_S576x256_0_1 : S1x256.BroadcastsInDim S576x256 (![0, 1] : Fin 2 → Fin S576x256.rank)
  bcast_S576x1_S576x256_0_1 : S576x1.BroadcastsInDim S576x256 (![0, 1] : Fin 2 → Fin S576x256.rank)
  shapeCasts_S576x256_S147456 : S576x256.ShapeCasts S147456
  shapeCasts_S576x1x256_S147456 : S576x1x256.ShapeCasts S147456
  bcast_S_S139264 : S_.BroadcastsInDim S139264 (![] : Fin 0 → Fin S139264.rank)
  bcast_S_S147456 : S_.BroadcastsInDim S147456 (![] : Fin 0 → Fin S147456.rank)
  bcast_S147456_S147456x1_0 : S147456.BroadcastsInDim S147456x1 (![0] : Fin 1 → Fin S147456x1.rank)
  bcast_S_S576 : S_.BroadcastsInDim S576 (![] : Fin 0 → Fin S576.rank)
  bcast_S_S576x1x256 : S_.BroadcastsInDim S576x1x256 (![] : Fin 0 → Fin S576x1x256.rank)
  bcast_S139264_S139264x1_0 : S139264.BroadcastsInDim S139264x1 (![0] : Fin 1 → Fin S139264x1.rank)
  scatter_S139264_S147456x1_S147456_n_0_0_1_wf : ScatterDims.WF S139264 S147456x1 S147456 [] [0] [0] 1
  gather_S147456_S139264x1_S139264_n_0_n_n_0_1_1_wf : GatherDims.WF S147456 S139264x1 S139264 [] [0] [] [0] [] 1 ![1]
  gather_S139264_S147456x1_S147456_n_0_n_n_0_1_1_wf : GatherDims.WF S139264 S147456x1 S147456 [] [0] [] [0] [] 1 ![1]

variable [Facts]

def scatter_S139264_S147456x1_S147456_n_0_0_1 : ScatterDims S139264 S147456x1 S147456 where
  updateWindowDims := []
  insertedWindowDims := [0]
  scatterDimsToOperandDims := [0]
  indexVectorDim := 1
  wf := scatter_S139264_S147456x1_S147456_n_0_0_1_wf
def gather_S147456_S139264x1_S139264_n_0_n_n_0_1_1 : GatherDims S147456 S139264x1 S139264 where
  offsetDims := []
  collapsedSliceDims := [0]
  operandBatchingDims := []
  startIndicesBatchingDims := []
  startIndexMap := [0]
  indexVectorDim := 1
  sliceSizes := ![1]
  wf := gather_S147456_S139264x1_S139264_n_0_n_n_0_1_1_wf
def gather_S139264_S147456x1_S147456_n_0_n_n_0_1_1 : GatherDims S139264 S147456x1 S147456 where
  offsetDims := []
  collapsedSliceDims := [0]
  operandBatchingDims := []
  startIndicesBatchingDims := []
  startIndexMap := [0]
  indexVectorDim := 1
  sliceSizes := ![1]
  wf := gather_S139264_S147456x1_S147456_n_0_n_n_0_1_1_wf
def fn_where {F : FTy → Type} [FloatOps F] (arg0 : IVec S147456 1) (arg1 : IVec S147456 32) (arg2 : IVec S_ 32) : IVec S147456 32 :=
  let v0 : IVec S_ 32 := id arg2
  let v1 : IVec S147456 32 := broadcastInDim S147456 ![] bcast_S_S147456 v0
  let v2 : IVec S147456 32 := select arg0 arg1 v1
  v2

def fn_take {F : FTy → Type} [FloatOps F] (arg0 : IVec S147456 1) (arg1 : IVec S139264 32) : IVec S139264 1 :=
  let v0 : IVec S139264x1 32 := broadcastInDim S139264x1 ![0] bcast_S139264_S139264x1_0 arg1
  let v1 : IVec S139264 1 := (fun x i => Host.gather gather_S147456_S139264x1_S139264_n_0_n_n_0_1_1 x i) arg0 v0
  v1

def fn_take_0 {F : FTy → Type} [FloatOps F] (arg0 : IVec S147456 32) (arg1 : IVec S139264 32) : IVec S139264 32 :=
  let v0 : IVec S139264x1 32 := broadcastInDim S139264x1 ![0] bcast_S139264_S139264x1_0 arg1
  let v1 : IVec S139264 32 := (fun x i => Host.gather gather_S147456_S139264x1_S139264_n_0_n_n_0_1_1 x i) arg0 v0
  v1

def fn_take_1 {F : FTy → Type} [FloatOps F] (arg0 : IVec S139264 32) (arg1 : IVec S147456 32) : IVec S147456 32 :=
  let v0 : IVec S147456x1 32 := broadcastInDim S147456x1 ![0] bcast_S147456_S147456x1_0 arg1
  let v1 : IVec S147456 32 := (fun x i => Host.gather gather_S139264_S147456x1_S147456_n_0_n_n_0_1_1 x i) arg0 v0
  v1

def fn_part2 {F : FTy → Type} [FloatOps F] (main_arg4 : IVec S576x1x256 32) (main_v6 : IVec S147456 1) (main_v7 : IVec S147456 32) (main_v8 : IVec S147456 32) (main_v17 : IVec S139264 32) (main_v22 : IVec S576 1) (main_v27 : IVec S576 1) (main_v32 : IVec S576x1x256 1) (main_v34 : IVec S576x1x256 1) (main_v35 : IVec S576x1x256 32) : IVec S576 1 × IVec S576 1 × IVec S576x1x256 1 × IVec S576x1x256 1 × IVec S139264 1 × IVec S139264 1 × IVec S147456 1 :=
  let main_v36 : IVec S576x1x256 1 := cmpi .slt main_arg4 main_v35
  let main_v37 : IVec S576x1x256 1 := andi main_v34 main_v36
  let main_c_11 : IVec S_ 32 := constantI S_ 32 0#32
  let main_v38 : IVec S139264 32 := broadcastInDim S139264 ![] bcast_S_S139264 main_c_11
  let main_v39 : IVec S139264 1 := cmpi .sge main_v17 main_v38
  let main_c_12 : IVec S_ 32 := constantI S_ 32 147456#32
  let main_v40 : IVec S139264 32 := broadcastInDim S139264 ![] bcast_S_S139264 main_c_12
  let main_v41 : IVec S139264 1 := cmpi .slt main_v17 main_v40
  let main_v42 : IVec S139264 1 := andi main_v39 main_v41
  let main_v43 : IVec S139264 1 := fn_take (F := F) main_v6 main_v17
  let main_v44 : IVec S139264 32 := fn_take_0 (F := F) main_v7 main_v17
  let main_v45 : IVec S139264 32 := iotaInDim S139264 32 0
  let main_v46 : IVec S139264 1 := cmpi .eq main_v44 main_v45
  let main_v47 : IVec S139264 1 := andi main_v43 main_v46
  let main_v48 : IVec S147456 1 := noti main_v6
  let main_v49 : IVec S147456 32 := fn_take_1 (F := F) main_v17 main_v7
  let main_v50 : IVec S147456 1 := cmpi .eq main_v49 main_v8
  let main_v51 : IVec S147456 1 := ori main_v48 main_v50
  (main_v22, main_v27, main_v32, main_v37, main_v42, main_v47, main_v51)

def fn_part1 {F : FTy → Type} [FloatOps F] (main_arg1 : IVec S576 32) (main_arg2 : IVec S576 32) (main_arg3 : IVec S576x1x256 32) (main_arg4 : IVec S576x1x256 32) (main_v6 : IVec S147456 1) (main_v7 : IVec S147456 32) (main_v8 : IVec S147456 32) (main_v17 : IVec S139264 32) (main_v18 : IVec S576 32) : IVec S576 1 × IVec S576 1 × IVec S576x1x256 1 × IVec S576x1x256 1 × IVec S139264 1 × IVec S139264 1 × IVec S147456 1 :=
  let main_v19 : IVec S576 1 := cmpi .sge main_arg1 main_v18
  let main_c_4 : IVec S_ 32 := constantI S_ 32 32#32
  let main_v20 : IVec S576 32 := broadcastInDim S576 ![] bcast_S_S576 main_c_4
  let main_v21 : IVec S576 1 := cmpi .slt main_arg1 main_v20
  let main_v22 : IVec S576 1 := andi main_v19 main_v21
  let main_c_5 : IVec S_ 32 := constantI S_ 32 0#32
  let main_v23 : IVec S576 32 := broadcastInDim S576 ![] bcast_S_S576 main_c_5
  let main_v24 : IVec S576 1 := cmpi .sge main_arg2 main_v23
  let main_c_6 : IVec S_ 32 := constantI S_ 32 256#32
  let main_v25 : IVec S576 32 := broadcastInDim S576 ![] bcast_S_S576 main_c_6
  let main_v26 : IVec S576 1 := cmpi .sle main_arg2 main_v25
  let main_v27 : IVec S576 1 := andi main_v24 main_v26
  let main_c_7 : IVec S_ 32 := constantI S_ 32 0#32
  let main_v28 : IVec S576x1x256 32 := broadcastInDim S576x1x256 ![] bcast_S_S576x1x256 main_c_7
  let main_v29 : IVec S576x1x256 1 := cmpi .sge main_arg3 main_v28
  let main_c_8 : IVec S_ 32 := constantI S_ 32 34816#32
  let main_v30 : IVec S576x1x256 32 := broadcastInDim S576x1x256 ![] bcast_S_S576x1x256 main_c_8
  let main_v31 : IVec S576x1x256 1 := cmpi .slt main_arg3 main_v30
  let main_v32 : IVec S576x1x256 1 := andi main_v29 main_v31
  let main_c_9 : IVec S_ 32 := constantI S_ 32 0#32
  let main_v33 : IVec S576x1x256 32 := broadcastInDim S576x1x256 ![] bcast_S_S576x1x256 main_c_9
  let main_v34 : IVec S576x1x256 1 := cmpi .sge main_arg4 main_v33
  let main_c_10 : IVec S_ 32 := constantI S_ 32 139264#32
  let main_v35 : IVec S576x1x256 32 := broadcastInDim S576x1x256 ![] bcast_S_S576x1x256 main_c_10
  fn_part2 (F := F) main_arg4 main_v6 main_v7 main_v8 main_v17 main_v22 main_v27 main_v32 main_v34 main_v35

def fn {F : FTy → Type} [FloatOps F] (main_arg0 : FVec F S34816x2048 .f32) (main_arg1 : IVec S576 32) (main_arg2 : IVec S576 32) (main_arg3 : IVec S576x1x256 32) (main_arg4 : IVec S576x1x256 32) (main_arg5 : FVec F S32x2048x2048 .bf16) (main_arg6 : FVec F S32x1x2048 .f32) (main_arg7 : FVec F S32x1024x2048 .bf16) (main_arg8 : FVec F S32x1x2048 .f32) : IVec S576 1 × IVec S576 1 × IVec S576x1x256 1 × IVec S576x1x256 1 × IVec S139264 1 × IVec S139264 1 × IVec S147456 1 :=
  let main_v0 : IVec S256 32 := iotaInDim S256 32 0
  let main_v1 : IVec S1x256 32 := broadcastInDim S1x256 ![1] bcast_S256_S1x256_1 main_v0
  let main_v2 : IVec S576x1 32 := broadcastInDim S576x1 ![0] bcast_S576_S576x1_0 main_arg2
  let main_v3 : IVec S576x256 32 := broadcastInDim S576x256 ![0, 1] bcast_S1x256_S576x256_0_1 main_v1
  let main_v4 : IVec S576x256 32 := broadcastInDim S576x256 ![0, 1] bcast_S576x1_S576x256_0_1 main_v2
  let main_v5 : IVec S576x256 1 := cmpi .slt main_v3 main_v4
  let main_v6 : IVec S147456 1 := shapeCast S147456 main_v5 shapeCasts_S576x256_S147456
  let main_v7 : IVec S147456 32 := shapeCast S147456 main_arg4 shapeCasts_S576x1x256_S147456
  let main_v8 : IVec S147456 32 := iotaInDim S147456 32 0
  let main_c : IVec S_ 32 := constantI S_ 32 0#32
  let main_v9 : IVec S139264 32 := broadcastInDim S139264 ![] bcast_S_S139264 main_c
  let main_c_0 : IVec S_ 32 := constantI S_ 32 139264#32
  let main_v10 : IVec S147456 32 := fn_where (F := F) main_v6 main_v7 main_c_0
  let main_c_1 : IVec S_ 32 := constantI S_ 32 0#32
  let main_v11 : IVec S147456 32 := broadcastInDim S147456 ![] bcast_S_S147456 main_c_1
  let main_v12 : IVec S147456 1 := cmpi .slt main_v10 main_v11
  let main_c_2 : IVec S_ 32 := constantI S_ 32 139264#32
  let main_v13 : IVec S147456 32 := broadcastInDim S147456 ![] bcast_S_S147456 main_c_2
  let main_v14 : IVec S147456 32 := addi main_v10 main_v13
  let main_v15 : IVec S147456 32 := select main_v12 main_v14 main_v10
  let main_v16 : IVec S147456x1 32 := broadcastInDim S147456x1 ![0] bcast_S147456_S147456x1_0 main_v15
  let main_v17 : IVec S139264 32 := (fun x i u => Host.scatter scatter_S139264_S147456x1_S147456_n_0_0_1 (fun _ b => b) x i u) main_v9 main_v16 main_v8
  let main_c_3 : IVec S_ 32 := constantI S_ 32 0#32
  let main_v18 : IVec S576 32 := broadcastInDim S576 ![] bcast_S_S576 main_c_3
  fn_part1 (F := F) main_arg1 main_arg2 main_arg3 main_arg4 main_v6 main_v7 main_v8 main_v17 main_v18
-- ==== Kernel.lean ====
abbrev S34816x3072 : Shape := ⟨2, ![34816, 3072]⟩
abbrev S1x16x15x31 : Shape := ⟨4, ![1, 16, 15, 31]⟩
abbrev S16x15x31 : Shape := ⟨3, ![16, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S16x15x64x64 : Shape := ⟨4, ![16, 15, 64, 64]⟩
abbrev S1x1x64x64 : Shape := ⟨4, ![1, 1, 64, 64]⟩
abbrev S16x14x64x64 : Shape := ⟨4, ![16, 14, 64, 64]⟩
abbrev S16x14x64x128 : Shape := ⟨4, ![16, 14, 64, 128]⟩
abbrev S16x15x64x128 : Shape := ⟨4, ![16, 15, 64, 128]⟩
abbrev S16x1x64x64 : Shape := ⟨4, ![16, 1, 64, 64]⟩
abbrev S16x1x64x128 : Shape := ⟨4, ![16, 1, 64, 128]⟩
abbrev S16x45x64x128 : Shape := ⟨4, ![16, 45, 64, 128]⟩
abbrev S32768x1024 : Shape := ⟨2, ![32768, 1024]⟩
abbrev S512x128 : Shape := ⟨2, ![512, 128]⟩
abbrev S4096x128 : Shape := ⟨2, ![4096, 128]⟩
abbrev S256x128 : Shape := ⟨2, ![256, 128]⟩
abbrev S2x45x64x128 : Shape := ⟨4, ![2, 45, 64, 128]⟩
abbrev S1024x128 : Shape := ⟨2, ![1024, 128]⟩
abbrev S1280x128 : Shape := ⟨2, ![1280, 128]⟩
abbrev S512x1280 : Shape := ⟨2, ![512, 1280]⟩
abbrev S1x1x64x128 : Shape := ⟨4, ![1, 1, 64, 128]⟩
abbrev S64x128 : Shape := ⟨2, ![64, 128]⟩
abbrev S64x256 : Shape := ⟨2, ![64, 256]⟩
abbrev S64x1280 : Shape := ⟨2, ![64, 1280]⟩
abbrev S512 : Shape := ⟨1, ![512]⟩
abbrev S512x1 : Shape := ⟨2, ![512, 1]⟩

abbrev nBuf : Space → Nat
  | .hbm => 72
  | .vmem => 14
  | .smem => 0
  | _ => 0

abbrev bufTy : (tb : Table) → Fin (tcTables nBuf tb) → BufTy
  | .hbm, ⟨0, _⟩ => ⟨S34816x3072, .bf16⟩
  | .hbm, ⟨1, _⟩ => ⟨S1x16x15x31, .f32⟩
  | .hbm, ⟨2, _⟩ => ⟨S16x15x31, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S1x64, .i32⟩
  | .hbm, ⟨16, _⟩ => ⟨S64x1, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S1x64, .i32⟩
  | .hbm, ⟨21, _⟩ => ⟨S64x1, .i32⟩
  | .hbm, ⟨22, _⟩ => ⟨S_, .i32⟩
  | .hbm, ⟨23, _⟩ => ⟨S64x1, .i32⟩
  | .hbm, ⟨24, _⟩ => ⟨S64x1, .i32⟩
  | .hbm, ⟨25, _⟩ => ⟨S64x64, .i32⟩
  | .hbm, ⟨26, _⟩ => ⟨S64x64, .i32⟩
  | .hbm, ⟨27, _⟩ => ⟨S64x64, .i1⟩
  | .hbm, ⟨28, _⟩ => ⟨S64x64, .i1⟩
  | .hbm, ⟨29, _⟩ => ⟨S1x64, .i32⟩
  | .hbm, ⟨30, _⟩ => ⟨S64x1, .i32⟩
  | .hbm, ⟨31, _⟩ => ⟨S64x64, .i32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S_, .i32⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i1⟩
  | .hbm, ⟨48, _⟩ => ⟨S_, .i32⟩
  | .hbm, ⟨49, _⟩ => ⟨S64x64, .i32⟩
  | .hbm, ⟨50, _⟩ => ⟨S64x64, .i32⟩
  | .hbm, ⟨51, _⟩ => ⟨S64x64, .i32⟩
  | .hbm, ⟨52, _⟩ => ⟨S64x64x1, .i32⟩
  | .hbm, ⟨53, _⟩ => ⟨S16x15x64x64, .f32⟩
  | .hbm, ⟨54, _⟩ => ⟨S1x1x64x64, .i1⟩
  | .hbm, ⟨55, _⟩ => ⟨S_, .f32⟩
  | .hbm, ⟨56, _⟩ => ⟨S_, .f32⟩
  | .hbm, ⟨57, _⟩ => ⟨S16x15x64x64, .i1⟩
  | .hbm, ⟨58, _⟩ => ⟨S16x15x64x64, .f32⟩
  | .hbm, ⟨59, _⟩ => ⟨S16x15x64x64, .f32⟩
  | .hbm, ⟨60, _⟩ => ⟨S_, .f32⟩
  | .hbm, ⟨61, _⟩ => ⟨S16x15x64x64, .f32⟩
  | .hbm, ⟨62, _⟩ => ⟨S16x14x64x64, .f32⟩
  | .hbm, ⟨63, _⟩ => ⟨S16x14x64x64, .f32⟩
  | .hbm, ⟨64, _⟩ => ⟨S16x14x64x128, .f32⟩
  | .hbm, ⟨65, _⟩ => ⟨S16x15x64x128, .f32⟩
  | .hbm, ⟨66, _⟩ => ⟨S16x15x64x128, .f32⟩
  | .hbm, ⟨67, _⟩ => ⟨S16x1x64x64, .f32⟩
  | .hbm, ⟨68, _⟩ => ⟨S16x1x64x64, .f32⟩
  | .hbm, ⟨69, _⟩ => ⟨S16x1x64x128, .f32⟩
  | .hbm, ⟨70, _⟩ => ⟨S16x45x64x128, .f32⟩
  | .hbm, ⟨71, _⟩ => ⟨S32768x1024, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S2x45x64x128, .f32⟩
  | .local _ .vmem, ⟨11, _⟩ => ⟨S2x45x64x128, .f32⟩
  | .local _ .vmem, ⟨12, _⟩ => ⟨S512x128, .bf16⟩
  | .local _ .vmem, ⟨13, _⟩ => ⟨S512x128, .bf16⟩
  | _, _ => ⟨S34816x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 8, 8], ![false, false, false]⟩

def k0_mult1 (i : grid0.Coords) : BitVec 32 :=
  let c48_i32 : BitVec 32 := 48#32
  let c0_i32 : BitVec 32 := 0#32
  let arg2 : BitVec 32 := BitVec.ofNat 32 (i 2).val
  let c8_i32 : BitVec 32 := 8#32
  let v3 : BitVec 32 := Scalar.muli arg2 c8_i32
  let c4_i32 : BitVec 32 := 4#32
  let v4 : BitVec 32 := Scalar.subi v3 c4_i32
  let v5 : BitVec 32 := Scalar.maxsi c0_i32 v4
  let v6 : BitVec 32 := Scalar.minsi c48_i32 v5
  let c64_i32_0 : BitVec 32 := 64#32
  let v7 : BitVec 32 := Scalar.muli v6 c64_i32_0
  v7
def k0_off1 (i : grid0.Coords) : Fin 2 → Nat :=
  let c48_i32 : BitVec 32 := 48#32
  let c0_i32 : BitVec 32 := 0#32
  let arg2 : BitVec 32 := BitVec.ofNat 32 (i 2).val
  let c8_i32 : BitVec 32 := 8#32
  let v3 : BitVec 32 := Scalar.muli arg2 c8_i32
  let c4_i32 : BitVec 32 := 4#32
  let v4 : BitVec 32 := Scalar.subi v3 c4_i32
  let v5 : BitVec 32 := Scalar.maxsi c0_i32 v4
  let v6 : BitVec 32 := Scalar.minsi c48_i32 v5
  let c64_i32_0 : BitVec 32 := 64#32
  let v7 : BitVec 32 := Scalar.muli v6 c64_i32_0
  let v8 : BitVec 32 := v7
  let v9 : Index := Scalar.indexCast v8
  let c0 : Index := 0#32
  ![v9.toNat, 0]
def k0_off2 (i : grid0.Coords) (c0_i32_12 : BitVec 32) (c0_i32_9 : BitVec 32) : Fin 4 → Nat :=
  let c0_806 : Index := 0#32
  let c44_i32_18 : BitVec 32 := 44#32
  let c0_i32_17 : BitVec 32 := 0#32
  let c48_i32 : BitVec 32 := 48#32
  let c0_i32 : BitVec 32 := 0#32
  let arg2 : BitVec 32 := BitVec.ofNat 32 (i 2).val
  let c8_i32 : BitVec 32 := 8#32
  let v3 : BitVec 32 := Scalar.muli arg2 c8_i32
  let c4_i32 : BitVec 32 := 4#32
  let v4 : BitVec 32 := Scalar.subi v3 c4_i32
  let v5 : BitVec 32 := Scalar.maxsi c0_i32 v4
  let v6 : BitVec 32 := Scalar.minsi c48_i32 v5
  let v25 : BitVec 32 := Scalar.addi v6 c0_i32_12
  let c56_i32 : BitVec 32 := 56#32
  let c0_i32_11 : BitVec 32 := 0#32
  let c8_i32_8 : BitVec 32 := 8#32
  let v20 : BitVec 32 := Scalar.muli arg2 c8_i32_8
  let v21 : BitVec 32 := Scalar.addi v20 c0_i32_9
  let c4_i32_10 : BitVec 32 := 4#32
  let v22 : BitVec 32 := Scalar.subi v21 c4_i32_10
  let v23 : BitVec 32 := Scalar.maxsi c0_i32_11 v22
  let v24 : BitVec 32 := Scalar.minsi c56_i32 v23
  let v28 : BitVec 1 := Scalar.cmpi .sge v25 v24
  let c8_i32_13 : BitVec 32 := 8#32
  let v29 : BitVec 32 := Scalar.addi v24 c8_i32_13
  let v30 : BitVec 1 := Scalar.cmpi .slt v25 v29
  let v31 : BitVec 1 := Scalar.andi v28 v30
  let c1_i32 : BitVec 32 := 1#32
  let v32 : BitVec 32 := Scalar.addi v25 c1_i32
  let v33 : BitVec 1 := Scalar.cmpi .sge v32 v24
  let c1_i32_14 : BitVec 32 := 1#32
  let v34 : BitVec 32 := Scalar.addi v25 c1_i32_14
  let c8_i32_15 : BitVec 32 := 8#32
  let v35 : BitVec 32 := Scalar.addi v24 c8_i32_15
  let v36 : BitVec 1 := Scalar.cmpi .slt v34 v35
  let v37 : BitVec 1 := Scalar.andi v33 v36
  let v38 : BitVec 1 := Scalar.andi v31 v37
  let v26 : BitVec 32 := Scalar.subi v25 v21
  let c7_i32 : BitVec 32 := 7#32
  let v27 : BitVec 32 := Scalar.addi v26 c7_i32
  let c14_i32 : BitVec 32 := 14#32
  let v39 : BitVec 32 := Scalar.addi c14_i32 v27
  let c29_i32 : BitVec 32 := 29#32
  let v40 : BitVec 32 := Scalar.addi c29_i32 v27
  let c1_i32_16 : BitVec 32 := 1#32
  let v41 : BitVec 32 := Scalar.addi v40 c1_i32_16
  let c44_i32 : BitVec 32 := 44#32
  let v42 : BitVec 32 := Scalar.select v37 v41 c44_i32
  let v43 : BitVec 32 := Scalar.select v31 v39 v42
  let v44 : BitVec 32 := Scalar.select v38 v27 v43
  let v45 : BitVec 32 := Scalar.maxsi c0_i32_17 v44
  let v46 : BitVec 32 := Scalar.minsi c44_i32_18 v45
  let v1471 : Index := Scalar.indexCast v46
  let c0_807 : Index := 0#32
  let c0_808 : Index := 0#32
  ![0, v1471.toNat, 0, 0]
def k0_off3 (i : grid0.Coords) (c0_i32_12 : BitVec 32) (c0_i32_9 : BitVec 32) : Fin 4 → Nat :=
  let c1 : Index := 1#32
  let c44_i32_18 : BitVec 32 := 44#32
  let c0_i32_17 : BitVec 32 := 0#32
  let c48_i32 : BitVec 32 := 48#32
  let c0_i32 : BitVec 32 := 0#32
  let arg2 : BitVec 32 := BitVec.ofNat 32 (i 2).val
  let c8_i32 : BitVec 32 := 8#32
  let v3 : BitVec 32 := Scalar.muli arg2 c8_i32
  let c4_i32 : BitVec 32 := 4#32
  let v4 : BitVec 32 := Scalar.subi v3 c4_i32
  let v5 : BitVec 32 := Scalar.maxsi c0_i32 v4
  let v6 : BitVec 32 := Scalar.minsi c48_i32 v5
  let v25 : BitVec 32 := Scalar.addi v6 c0_i32_12
  let c56_i32 : BitVec 32 := 56#32
  let c0_i32_11 : BitVec 32 := 0#32
  let c8_i32_8 : BitVec 32 := 8#32
  let v20 : BitVec 32 := Scalar.muli arg2 c8_i32_8
  let v21 : BitVec 32 := Scalar.addi v20 c0_i32_9
  let c4_i32_10 : BitVec 32 := 4#32
  let v22 : BitVec 32 := Scalar.subi v21 c4_i32_10
  let v23 : BitVec 32 := Scalar.maxsi c0_i32_11 v22
  let v24 : BitVec 32 := Scalar.minsi c56_i32 v23
  let v28 : BitVec 1 := Scalar.cmpi .sge v25 v24
  let c8_i32_13 : BitVec 32 := 8#32
  let v29 : BitVec 32 := Scalar.addi v24 c8_i32_13
  let v30 : BitVec 1 := Scalar.cmpi .slt v25 v29
  let v31 : BitVec 1 := Scalar.andi v28 v30
  let c1_i32 : BitVec 32 := 1#32
  let v32 : BitVec 32 := Scalar.addi v25 c1_i32
  let v33 : BitVec 1 := Scalar.cmpi .sge v32 v24
  let c1_i32_14 : BitVec 32 := 1#32
  let v34 : BitVec 32 := Scalar.addi v25 c1_i32_14
  let c8_i32_15 : BitVec 32 := 8#32
  let v35 : BitVec 32 := Scalar.addi v24 c8_i32_15
  let v36 : BitVec 1 := Scalar.cmpi .slt v34 v35
  let v37 : BitVec 1 := Scalar.andi v33 v36
  let v38 : BitVec 1 := Scalar.andi v31 v37
  let v26 : BitVec 32 := Scalar.subi v25 v21
  let c7_i32 : BitVec 32 := 7#32
  let v27 : BitVec 32 := Scalar.addi v26 c7_i32
  let c14_i32 : BitVec 32 := 14#32
  let v39 : BitVec 32 := Scalar.addi c14_i32 v27
  let c29_i32 : BitVec 32 := 29#32
  let v40 : BitVec 32 := Scalar.addi c29_i32 v27
  let c1_i32_16 : BitVec 32 := 1#32
  let v41 : BitVec 32 := Scalar.addi v40 c1_i32_16
  let c44_i32 : BitVec 32 := 44#32
  let v42 : BitVec 32 := Scalar.select v37 v41 c44_i32
  let v43 : BitVec 32 := Scalar.select v31 v39 v42
  let v44 : BitVec 32 := Scalar.select v38 v27 v43
  let v45 : BitVec 32 := Scalar.maxsi c0_i32_17 v44
  let v46 : BitVec 32 := Scalar.minsi c44_i32_18 v45
  let v1696 : Index := Scalar.indexCast v46
  let c0_1012 : Index := 0#32
  let c0_1013 : Index := 0#32
  ![1, v1696.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c8_i32 : BitVec 32 := 8#32
  let v1 : BitVec 32 := Scalar.addi c8_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c16_i32 : BitVec 32 := 16#32
  let v1 : BitVec 32 := Scalar.addi c16_i32 arg1
  let c0_i32 : BitVec 32 := 0#32
  ![v0.toNat, v1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2x45x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S34816x3072 : Shape := ⟨2, ![34816, 3072]⟩
abbrev S1x16x15x31 : Shape := ⟨4, ![1, 16, 15, 31]⟩
abbrev S32768x3072 : Shape := ⟨2, ![32768, 3072]⟩
abbrev S2048x3072 : Shape := ⟨2, ![2048, 3072]⟩
abbrev S32768x1024 : Shape := ⟨2, ![32768, 1024]⟩
abbrev S8x4096x16x64 : Shape := ⟨4, ![8, 4096, 16, 64]⟩
abbrev S2048x1024 : Shape := ⟨2, ![2048, 1024]⟩
abbrev S8x256x16x64 : Shape := ⟨4, ![8, 256, 16, 64]⟩
abbrev S16x15x31 : Shape := ⟨3, ![16, 15, 31]⟩
abbrev S8x64x64x16x64 : Shape := ⟨5, ![8, 64, 64, 16, 64]⟩
abbrev S_ : Shape := ⟨0, ![]⟩
abbrev S64 : Shape := ⟨1, ![64]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S64x8x1 : Shape := ⟨3, ![64, 8, 1]⟩
abbrev S8x64x8x64x16x64 : Shape := ⟨6, ![8, 64, 8, 64, 16, 64]⟩
abbrev S1x64 : Shape := ⟨2, ![1, 64]⟩
abbrev S64x64 : Shape := ⟨2, ![64, 64]⟩
abbrev S64x1x8x1 : Shape := ⟨4, ![64, 1, 8, 1]⟩
abbrev S1x64x1x64 : Shape := ⟨4, ![1, 64, 1, 64]⟩
abbrev S64x64x8x64 : Shape := ⟨4, ![64, 64, 8, 64]⟩
abbrev S64x64x8x64x1 : Shape := ⟨5, ![64, 64, 8, 64, 1]⟩
abbrev S64x64x8x64x2 : Shape := ⟨5, ![64, 64, 8, 64, 2]⟩
abbrev S16x64x64x8x64 : Shape := ⟨5, ![16, 64, 64, 8, 64]⟩
abbrev S8x16x64x64x8x64 : Shape := ⟨6, ![8, 16, 64, 64, 8, 64]⟩
abbrev S1x16x64x64x8x64 : Shape := ⟨6, ![1, 16, 64, 64, 8, 64]⟩
abbrev S64x1x64 : Shape := ⟨3, ![64, 1, 64]⟩
abbrev S8x16x64x64x256 : Shape := ⟨5, ![8, 16, 64, 64, 256]⟩
abbrev S8x16x64x64x512 : Shape := ⟨5, ![8, 16, 64, 64, 512]⟩
abbrev S8x16x64x64x768 : Shape := ⟨5, ![8, 16, 64, 64, 768]⟩
abbrev S8x16x64x64 : Shape := ⟨4, ![8, 16, 64, 64]⟩
abbrev S8x16x64x64x1 : Shape := ⟨5, ![8, 16, 64, 64, 1]⟩
abbrev S8x64x16x64x64 : Shape := ⟨5, ![8, 64, 16, 64, 64]⟩
abbrev S8x16x64x64x64 : Shape := ⟨5, ![8, 16, 64, 64, 64]⟩
abbrev S8x4096x1024 : Shape := ⟨3, ![8, 4096, 1024]⟩

abbrev nBuf : Space → Nat
  | .hbm => 168
  | .vmem => 0
  | .smem => 0
  | _ => 0

abbrev hbmTy0_0 (i : Nat) : BufTy := match i % 128 with
  | 0 => ⟨S34816x3072, .bf16⟩
  | 1 => ⟨S1x16x15x31, .f32⟩
  | 2 => ⟨S34816x3072, .f32⟩
  | 3 => ⟨S32768x3072, .f32⟩
  | 4 => ⟨S2048x3072, .f32⟩
  | 5 => ⟨S32768x1024, .f32⟩
  | 6 => ⟨S32768x1024, .f32⟩
  | 7 => ⟨S32768x1024, .f32⟩
  | 8 => ⟨S8x4096x16x64, .f32⟩
  | 9 => ⟨S8x4096x16x64, .f32⟩
  | 10 => ⟨S8x4096x16x64, .f32⟩
  | 11 => ⟨S2048x1024, .f32⟩
  | 12 => ⟨S2048x1024, .f32⟩
  | 13 => ⟨S2048x1024, .f32⟩
  | 14 => ⟨S8x256x16x64, .f32⟩
  | 15 => ⟨S8x256x16x64, .f32⟩
  | 16 => ⟨S8x256x16x64, .f32⟩
  | 17 => ⟨S16x15x31, .f32⟩
  | 18 => ⟨S8x64x64x16x64, .f32⟩
  | 19 => ⟨S_, .f32⟩
  | 20 => ⟨S8x64x64x16x64, .f32⟩
  | 21 => ⟨S8x64x64x16x64, .f32⟩
  | 22 => ⟨S8x64x64x16x64, .f32⟩
  | 23 => ⟨S8x64x64x16x64, .f32⟩
  | 24 => ⟨S64, .i32⟩
  | 25 => ⟨S_, .i32⟩
  | 26 => ⟨S64, .i32⟩
  | 27 => ⟨S64, .i32⟩
  | 28 => ⟨S_, .i32⟩
  | 29 => ⟨S_, .i32⟩
  | 30 => ⟨S_, .i32⟩
  | 31 => ⟨S64, .i32⟩
  | 32 => ⟨S64, .i32⟩
  | 33 => ⟨S_, .i32⟩
  | 34 => ⟨S64, .i32⟩
  | 35 => ⟨S64, .i32⟩
  | 36 => ⟨S64x1, .i32⟩
  | 37 => ⟨S8, .i32⟩
  | 38 => ⟨S1x8, .i32⟩
  | 39 => ⟨S64x8, .i32⟩
  | 40 => ⟨S64x8, .i32⟩
  | 41 => ⟨S64x8, .i32⟩
  | 42 => ⟨S_, .i32⟩
  | 43 => ⟨S64x8, .i32⟩
  | 44 => ⟨S64x8, .i1⟩
  | 45 => ⟨S_, .i32⟩
  | 46 => ⟨S64x8, .i32⟩
  | 47 => ⟨S64x8, .i32⟩
  | 48 => ⟨S64x8, .i32⟩
  | 49 => ⟨S64x8x1, .i32⟩
  | 50 => ⟨S8x64x8x64x16x64, .f32⟩
  | 51 => ⟨S_, .i32⟩
  | 52 => ⟨S64x8, .i32⟩
  | 53 => ⟨S64x8, .i1⟩
  | 54 => ⟨S_, .i32⟩
  | 55 => ⟨S64x8, .i32⟩
  | 56 => ⟨S64x8, .i32⟩
  | 57 => ⟨S64x8, .i32⟩
  | 58 => ⟨S64x8x1, .i32⟩
  | 59 => ⟨S8x64x8x64x16x64, .f32⟩
  | 60 => ⟨S64, .i32⟩
  | 61 => ⟨S_, .i32⟩
  | 62 => ⟨S64, .i32⟩
  | 63 => ⟨S64, .i32⟩
  | 64 => ⟨S_, .i32⟩
  | 65 => ⟨S_, .i32⟩
  | 66 => ⟨S_, .i32⟩
  | 67 => ⟨S64, .i32⟩
  | 68 => ⟨S64, .i32⟩
  | 69 => ⟨S_, .i32⟩
  | 70 => ⟨S64, .i32⟩
  | 71 => ⟨S64, .i32⟩
  | 72 => ⟨S1x64, .i32⟩
  | 73 => ⟨S64x1, .i32⟩
  | 74 => ⟨S64x64, .i32⟩
  | 75 => ⟨S64x64, .i32⟩
  | 76 => ⟨S64x64, .i1⟩
  | 77 => ⟨S1x64, .i32⟩
  | 78 => ⟨S64x1, .i32⟩
  | 79 => ⟨S_, .i32⟩
  | 80 => ⟨S64x1, .i32⟩
  | 81 => ⟨S64x1, .i32⟩
  | 82 => ⟨S64x64, .i32⟩
  | 83 => ⟨S64x64, .i32⟩
  | 84 => ⟨S64x64, .i1⟩
  | 85 => ⟨S64x64, .i1⟩
  | 86 => ⟨S64x1, .i32⟩
  | 87 => ⟨S64x8, .i32⟩
  | 88 => ⟨S64x8, .i32⟩
  | 89 => ⟨S_, .i32⟩
  | 90 => ⟨S64x8, .i32⟩
  | 91 => ⟨S64x8, .i32⟩
  | 92 => ⟨S1x64, .i32⟩
  | 93 => ⟨S64x1, .i32⟩
  | 94 => ⟨S64x64, .i32⟩
  | 95 => ⟨S64x64, .i32⟩
  | 96 => ⟨S64x64, .i32⟩
  | 97 => ⟨S_, .i32⟩
  | 98 => ⟨S_, .i32⟩
  | 99 => ⟨S_, .i32⟩
  | 100 => ⟨S64x64, .i32⟩
  | 101 => ⟨S64x64, .i32⟩
  | 102 => ⟨S_, .i32⟩
  | 103 => ⟨S64x64, .i32⟩
  | 104 => ⟨S64x64, .i32⟩
  | 105 => ⟨S_, .i32⟩
  | 106 => ⟨S64x64, .i32⟩
  | 107 => ⟨S64x64, .i32⟩
  | 108 => ⟨S64x1x8x1, .i32⟩
  | 109 => ⟨S1x64x1x64, .i32⟩
  | 110 => ⟨S_, .i32⟩
  | 111 => ⟨S64x1x8x1, .i32⟩
  | 112 => ⟨S64x1x8x1, .i1⟩
  | 113 => ⟨S_, .i32⟩
  | 114 => ⟨S64x1x8x1, .i32⟩
  | 115 => ⟨S64x1x8x1, .i32⟩
  | 116 => ⟨S64x1x8x1, .i32⟩
  | 117 => ⟨S_, .i32⟩
  | 118 => ⟨S1x64x1x64, .i32⟩
  | 119 => ⟨S1x64x1x64, .i1⟩
  | 120 => ⟨S_, .i32⟩
  | 121 => ⟨S1x64x1x64, .i32⟩
  | 122 => ⟨S1x64x1x64, .i32⟩
  | 123 => ⟨S1x64x1x64, .i32⟩
  | 124 => ⟨S64x64x8x64, .i32⟩
  | 125 => ⟨S64x64x8x64, .i32⟩
  | 126 => ⟨S64x64x8x64x1, .i32⟩
  | 127 => ⟨S64x64x8x64x1, .i32⟩
  | _ => ⟨S34816x3072, .bf16⟩

abbrev hbmTy0_1 (i : Nat) : BufTy := match i % 128 with
  | 0 => ⟨S64x64x8x64x2, .i32⟩
  | 1 => ⟨S16x64x64x8x64, .f32⟩
  | 2 => ⟨S8x16x64x64x8x64, .f32⟩
  | 3 => ⟨S1x16x64x64x8x64, .f32⟩
  | 4 => ⟨S8x16x64x64x8x64, .f32⟩
  | 5 => ⟨S8x16x64x64x8x64, .f32⟩
  | 6 => ⟨S64x1x64, .i1⟩
  | 7 => ⟨S_, .f32⟩
  | 8 => ⟨S_, .f32⟩
  | 9 => ⟨S8x16x64x64x8x64, .i1⟩
  | 10 => ⟨S8x16x64x64x8x64, .f32⟩
  | 11 => ⟨S8x16x64x64x8x64, .f32⟩
  | 12 => ⟨S8x16x64x64x256, .f32⟩
  | 13 => ⟨S8x16x64x64x512, .f32⟩
  | 14 => ⟨S8x16x64x64x768, .f32⟩
  | 15 => ⟨S_, .f32⟩
  | 16 => ⟨S8x16x64x64, .f32⟩
  | 17 => ⟨S_, .f32⟩
  | 18 => ⟨S8x16x64x64, .f32⟩
  | 19 => ⟨S8x16x64x64, .f32⟩
  | 20 => ⟨S8x16x64x64x1, .f32⟩
  | 21 => ⟨S8x16x64x64x768, .f32⟩
  | 22 => ⟨S8x16x64x64x768, .f32⟩
  | 23 => ⟨S8x16x64x64x768, .f32⟩
  | 24 => ⟨S_, .f32⟩
  | 25 => ⟨S8x16x64x64, .f32⟩
  | 26 => ⟨S8x16x64x64x1, .f32⟩
  | 27 => ⟨S8x16x64x64x768, .f32⟩
  | 28 => ⟨S8x16x64x64x768, .f32⟩
  | 29 => ⟨S8x16x64x64x512, .f32⟩
  | 30 => ⟨S8x16x64x64x8x64, .f32⟩
  | 31 => ⟨S8x64x16x64x64, .f32⟩
  | 32 => ⟨S8x64x64x16x64, .f32⟩
  | 33 => ⟨S8x16x64x64x256, .f32⟩
  | 34 => ⟨S8x16x64x64x64, .f32⟩
  | 35 => ⟨S8x64x64x16x64, .f32⟩
  | 36 => ⟨S8x64x64x16x64, .f32⟩
  | 37 => ⟨S8x4096x1024, .f32⟩
  | 38 => ⟨S32768x1024, .f32⟩
  | 39 => ⟨S32768x1024, .bf16⟩
  | _ => ⟨S34816x3072, .bf16⟩

abbrev hbmTy (i : Nat) : BufTy := match i / 128 with
  | 0 => hbmTy0_0 i
  | 1 => hbmTy0_1 i
  | _ => ⟨S34816x3072, .bf16⟩

abbrev bufTy : (tb : Table) → Fin (tcTables nBuf tb) → BufTy
  | .hbm, ⟨i, _⟩ => hbmTy i
  | _, _ => ⟨S34816x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c : Ref sig .tc := ⟨.hbm, 25, rfl⟩
abbrev main_v22 : Ref sig .tc := ⟨.hbm, 26, rfl⟩
abbrev main_v23 : Ref sig .tc := ⟨.hbm, 27, rfl⟩
abbrev main_c_0 : Ref sig .tc := ⟨.hbm, 28, rfl⟩
abbrev main_c_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_2 : Ref sig .tc := ⟨.hbm, 42, rfl⟩
abbrev main_v31 : Ref sig .tc := ⟨.hbm, 43, rfl⟩
abbrev main_v32 : Ref sig .tc := ⟨.hbm, 44, rfl⟩
abbrev main_c_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_4 : Ref sig .tc := ⟨.hbm, 51, rfl⟩
abbrev main_v38 : Ref sig .tc := ⟨.hbm, 52, rfl⟩
abbrev main_v39 : Ref sig .tc := ⟨.hbm, 53, rfl⟩
abbrev main_c_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_6 : Ref sig .tc := ⟨.hbm, 61, rfl⟩
abbrev main_v46 : Ref sig .tc := ⟨.hbm, 62, rfl⟩
abbrev main_v47 : Ref sig .tc := ⟨.hbm, 63, rfl⟩
abbrev main_c_7 : Ref sig .tc := ⟨.hbm, 64, rfl⟩
abbrev main_c_8 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_11 : Ref sig .tc := ⟨.hbm, 97, rfl⟩
abbrev main_c_12 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v72 : Ref sig .tc := ⟨.hbm, 104, rfl⟩
abbrev main_c_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_14 : Ref sig .tc := ⟨.hbm, 110, rfl⟩
abbrev main_v77 : Ref sig .tc := ⟨.hbm, 111, rfl⟩
abbrev main_v78 : Ref sig .tc := ⟨.hbm, 112, rfl⟩
abbrev main_c_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_16 : Ref sig .tc := ⟨.hbm, 117, rfl⟩
abbrev main_v82 : Ref sig .tc := ⟨.hbm, 118, rfl⟩
abbrev main_v83 : Ref sig .tc := ⟨.hbm, 119, rfl⟩
abbrev main_c_17 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_18 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_19 : Ref sig .tc := ⟨.hbm, 143, rfl⟩
abbrev main_v102 : Ref sig .tc := ⟨.hbm, 144, rfl⟩
abbrev main_cst_20 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_21 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩

abbrev nD : Nat := 1
abbrev τ : Topo := Topo.v7x

variable {F : FTy → Type} [FloatOps F]
-- ==== Kernel2.lean ====
abbrev S34816x2048 : Shape := ⟨2, ![34816, 2048]⟩
abbrev S16x6x2048 : Shape := ⟨3, ![16, 6, 2048]⟩
abbrev S1x2048 : Shape := ⟨2, ![1, 2048]⟩
abbrev S2048x8192 : Shape := ⟨2, ![2048, 8192]⟩
abbrev S34816x8192 : Shape := ⟨2, ![34816, 8192]⟩
abbrev S1024x2048 : Shape := ⟨2, ![1024, 2048]⟩
abbrev S1x6x2048 : Shape := ⟨3, ![1, 6, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S1x1x2048 : Shape := ⟨3, ![1, 1, 2048]⟩

abbrev nBuf : Space → Nat
  | .hbm => 5
  | .vmem => 10
  | .smem => 0
  | _ => 0

abbrev bufTy : (tb : Table) → Fin (tcTables nBuf tb) → BufTy
  | .hbm, ⟨0, _⟩ => ⟨S34816x2048, .f32⟩
  | .hbm, ⟨1, _⟩ => ⟨S16x6x2048, .f32⟩
  | .hbm, ⟨2, _⟩ => ⟨S1x2048, .f32⟩
  | .hbm, ⟨3, _⟩ => ⟨S2048x8192, .bf16⟩
  | .hbm, ⟨4, _⟩ => ⟨S34816x8192, .bf16⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S34816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![34, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c32768_i32 : BitVec 32 := 32768#32
  let v1 : BitVec 1 := Scalar.cmpi .slt v0 c32768_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.select v1 v18 c8_i32
  let c0_i32_4 : BitVec 32 := 0#32
  let c0_i32_5 : BitVec 32 := 0#32
  let c0_i32_6 : BitVec 32 := 0#32
  ![v19.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S34816x2048 : Shape := ⟨2, ![34816, 2048]⟩
abbrev S16x6x2048 : Shape := ⟨3, ![16, 6, 2048]⟩
abbrev S1x2048 : Shape := ⟨2, ![1, 2048]⟩
abbrev S2048x8192 : Shape := ⟨2, ![2048, 8192]⟩
abbrev S32768x2048 : Shape := ⟨2, ![32768, 2048]⟩
abbrev S8x4096x2048 : Shape := ⟨3, ![8, 4096, 2048]⟩
abbrev S2048x2048 : Shape := ⟨2, ![2048, 2048]⟩
abbrev S8x256x2048 : Shape := ⟨3, ![8, 256, 2048]⟩
abbrev S8x6x2048 : Shape := ⟨3, ![8, 6, 2048]⟩
abbrev S8x6x1x2048 : Shape := ⟨4, ![8, 6, 1, 2048]⟩
abbrev S1x6x2048 : Shape := ⟨3, ![1, 6, 2048]⟩
abbrev S6x2048 : Shape := ⟨2, ![6, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x1x1x2048 : Shape := ⟨4, ![8, 1, 1, 2048]⟩
abbrev S8x1x2048 : Shape := ⟨3, ![8, 1, 2048]⟩
abbrev S8x256 : Shape := ⟨2, ![8, 256]⟩
abbrev S8x256x1 : Shape := ⟨3, ![8, 256, 1]⟩
abbrev S8x4096x8192 : Shape := ⟨3, ![8, 4096, 8192]⟩
abbrev S8x256x8192 : Shape := ⟨3, ![8, 256, 8192]⟩
abbrev S32768x8192 : Shape := ⟨2, ![32768, 8192]⟩
abbrev S34816x8192 : Shape := ⟨2, ![34816, 8192]⟩

abbrev nBuf : Space → Nat
  | .hbm => 77
  | .vmem => 0
  | .smem => 0
  | _ => 0

abbrev bufTy : (tb : Table) → Fin (tcTables nBuf tb) → BufTy
  | .hbm, ⟨0, _⟩ => ⟨S34816x2048, .f32⟩
  | .hbm, ⟨1, _⟩ => ⟨S16x6x2048, .f32⟩
  | .hbm, ⟨2, _⟩ => ⟨S1x2048, .f32⟩
  | .hbm, ⟨3, _⟩ => ⟨S2048x8192, .bf16⟩
  | .hbm, ⟨4, _⟩ => ⟨S2048x8192, .f32⟩
  | .hbm, ⟨5, _⟩ => ⟨S32768x2048, .f32⟩
  | .hbm, ⟨6, _⟩ => ⟨S8x4096x2048, .f32⟩
  | .hbm, ⟨7, _⟩ => ⟨S2048x2048, .f32⟩
  | .hbm, ⟨8, _⟩ => ⟨S8x256x2048, .f32⟩
  | .hbm, ⟨9, _⟩ => ⟨S8x6x2048, .f32⟩
  | .hbm, ⟨10, _⟩ => ⟨S8x6x1x2048, .f32⟩
  | .hbm, ⟨11, _⟩ => ⟨S1x6x2048, .f32⟩
  | .hbm, ⟨12, _⟩ => ⟨S6x2048, .f32⟩
  | .hbm, ⟨13, _⟩ => ⟨S2048, .f32⟩
  | .hbm, ⟨14, _⟩ => ⟨S8x4096x2048, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x2048, .f32⟩
  | .hbm, ⟨26, _⟩ => ⟨S8x4096x2048, .f32⟩
  | .hbm, ⟨27, _⟩ => ⟨S1x1x2048, .f32⟩
  | .hbm, ⟨28, _⟩ => ⟨S8x4096x2048, .f32⟩
  | .hbm, ⟨29, _⟩ => ⟨S8x4096x2048, .f32⟩
  | .hbm, ⟨30, _⟩ => ⟨S8x1x1x2048, .f32⟩
  | .hbm, ⟨31, _⟩ => ⟨S8x1x2048, .f32⟩
  | .hbm, ⟨32, _⟩ => ⟨S8x1x1x2048, .f32⟩
  | .hbm, ⟨33, _⟩ => ⟨S8x1x2048, .f32⟩
  | .hbm, ⟨34, _⟩ => ⟨S_, .f32⟩
  | .hbm, ⟨35, _⟩ => ⟨S8x1x2048, .f32⟩
  | .hbm, ⟨36, _⟩ => ⟨S8x1x2048, .f32⟩
  | .hbm, ⟨37, _⟩ => ⟨S8x4096x2048, .f32⟩
  | .hbm, ⟨38, _⟩ => ⟨S8x4096x2048, .f32⟩
  | .hbm, ⟨39, _⟩ => ⟨S8x4096x2048, .f32⟩
  | .hbm, ⟨40, _⟩ => ⟨S8x4096x2048, .f32⟩
  | .hbm, ⟨41, _⟩ => ⟨S2048, .f32⟩
  | .hbm, ⟨42, _⟩ => ⟨S8x256x2048, .f32⟩
  | .hbm, ⟨43, _⟩ => ⟨S_, .f32⟩
  | .hbm, ⟨44, _⟩ => ⟨S8x256, .f32⟩
  | .hbm, ⟨45, _⟩ => ⟨S8x256x1, .f32⟩
  | .hbm, ⟨46, _⟩ => ⟨S_, .f32⟩
  | .hbm, ⟨47, _⟩ => ⟨S8x256x1, .f32⟩
  | .hbm, ⟨48, _⟩ => ⟨S8x256x1, .f32⟩
  | .hbm, ⟨49, _⟩ => ⟨S_, .f32⟩
  | .hbm, ⟨50, _⟩ => ⟨S8x256x1, .f32⟩
  | .hbm, ⟨51, _⟩ => ⟨S8x256x1, .f32⟩
  | .hbm, ⟨52, _⟩ => ⟨S8x256x1, .f32⟩
  | .hbm, ⟨53, _⟩ => ⟨S8x256x2048, .f32⟩
  | .hbm, ⟨54, _⟩ => ⟨S8x256x2048, .f32⟩
  | .hbm, ⟨55, _⟩ => ⟨S1x1x2048, .f32⟩
  | .hbm, ⟨56, _⟩ => ⟨S8x256x2048, .f32⟩
  | .hbm, ⟨57, _⟩ => ⟨S8x256x2048, .f32⟩
  | .hbm, ⟨58, _⟩ => ⟨S1x2048, .f32⟩
  | .hbm, ⟨59, _⟩ => ⟨S2048, .f32⟩
  | .hbm, ⟨60, _⟩ => ⟨S1x2048, .f32⟩
  | .hbm, ⟨61, _⟩ => ⟨S2048, .f32⟩
  | .hbm, ⟨62, _⟩ => ⟨S_, .f32⟩
  | .hbm, ⟨63, _⟩ => ⟨S2048, .f32⟩
  | .hbm, ⟨64, _⟩ => ⟨S2048, .f32⟩
  | .hbm, ⟨65, _⟩ => ⟨S1x1x2048, .f32⟩
  | .hbm, ⟨66, _⟩ => ⟨S8x256x2048, .f32⟩
  | .hbm, ⟨67, _⟩ => ⟨S8x256x2048, .f32⟩
  | .hbm, ⟨68, _⟩ => ⟨S1x1x2048, .f32⟩
  | .hbm, ⟨69, _⟩ => ⟨S8x256x2048, .f32⟩
  | .hbm, ⟨70, _⟩ => ⟨S8x256x2048, .f32⟩
  | .hbm, ⟨71, _⟩ => ⟨S8x4096x8192, .f32⟩
  | .hbm, ⟨72, _⟩ => ⟨S8x256x8192, .f32⟩
  | .hbm, ⟨73, _⟩ => ⟨S32768x8192, .f32⟩
  | .hbm, ⟨74, _⟩ => ⟨S2048x8192, .f32⟩
  | .hbm, ⟨75, _⟩ => ⟨S34816x8192, .f32⟩
  | .hbm, ⟨76, _⟩ => ⟨S34816x8192, .bf16⟩
  | _, _ => ⟨S34816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]
-- ==== Kernel4.lean ====
abbrev S34816x1024 : Shape := ⟨2, ![34816, 1024]⟩
abbrev S2x34816x1024 : Shape := ⟨3, ![2, 34816, 1024]⟩
abbrev S1x1024 : Shape := ⟨2, ![1, 1024]⟩
abbrev S1024x1024 : Shape := ⟨2, ![1024, 1024]⟩
abbrev S2048x2048 : Shape := ⟨2, ![2048, 2048]⟩
abbrev S34816x2048 : Shape := ⟨2, ![34816, 2048]⟩
abbrev S512x1024 : Shape := ⟨2, ![512, 1024]⟩
abbrev S2x512x1024 : Shape := ⟨3, ![2, 512, 1024]⟩
abbrev S512x2048 : Shape := ⟨2, ![512, 2048]⟩
abbrev S1x512x1024 : Shape := ⟨3, ![1, 512, 1024]⟩
abbrev S1024x2048 : Shape := ⟨2, ![1024, 2048]⟩

abbrev nBuf : Space → Nat
  | .hbm => 7
  | .vmem => 11
  | .smem => 0
  | _ => 0

abbrev bufTy : (tb : Table) → Fin (tcTables nBuf tb) → BufTy
  | .hbm, ⟨0, _⟩ => ⟨S34816x1024, .bf16⟩
  | .hbm, ⟨1, _⟩ => ⟨S2x34816x1024, .f32⟩
  | .hbm, ⟨2, _⟩ => ⟨S34816x1024, .f32⟩
  | .hbm, ⟨3, _⟩ => ⟨S1x1024, .f32⟩
  | .hbm, ⟨4, _⟩ => ⟨S1024x1024, .bf16⟩
  | .hbm, ⟨5, _⟩ => ⟨S2048x2048, .bf16⟩
  | .hbm, ⟨6, _⟩ => ⟨S34816x2048, .bf16⟩
  | .local _ .vmem, ⟨0, _⟩ => ⟨S512x1024, .bf16⟩
  | .local _ .vmem, ⟨1, _⟩ => ⟨S512x1024, .bf16⟩
  | .local _ .vmem, ⟨2, _⟩ => ⟨S2x512x1024, .f32⟩
  | .local _ .vmem, ⟨3, _⟩ => ⟨S2x512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S2048x2048, .bf16⟩
  | .local _ .vmem, ⟨9, _⟩ => ⟨S512x2048, .bf16⟩
  | .local _ .vmem, ⟨10, _⟩ => ⟨S512x2048, .bf16⟩
  | _, _ => ⟨S34816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S34816x1024 : Shape := ⟨2, ![34816, 1024]⟩
abbrev S2x34816x1024 : Shape := ⟨3, ![2, 34816, 1024]⟩
abbrev S1x1024 : Shape := ⟨2, ![1, 1024]⟩
abbrev S1024x1024 : Shape := ⟨2, ![1024, 1024]⟩
abbrev S2048x2048 : Shape := ⟨2, ![2048, 2048]⟩
abbrev S1024 : Shape := ⟨1, ![1024]⟩
abbrev S1x34816x1024 : Shape := ⟨3, ![1, 34816, 1024]⟩
abbrev S_ : Shape := ⟨0, ![]⟩
abbrev S34816x2048 : Shape := ⟨2, ![34816, 2048]⟩

abbrev nBuf : Space → Nat
  | .hbm => 49
  | .vmem => 0
  | .smem => 0
  | _ => 0

abbrev bufTy : (tb : Table) → Fin (tcTables nBuf tb) → BufTy
  | .hbm, ⟨0, _⟩ => ⟨S34816x1024, .bf16⟩
  | .hbm, ⟨1, _⟩ => ⟨S2x34816x1024, .f32⟩
  | .hbm, ⟨2, _⟩ => ⟨S34816x1024, .f32⟩
  | .hbm, ⟨3, _⟩ => ⟨S1x1024, .f32⟩
  | .hbm, ⟨4, _⟩ => ⟨S1024x1024, .bf16⟩
  | .hbm, ⟨5, _⟩ => ⟨S2048x2048, .bf16⟩
  | .hbm, ⟨6, _⟩ => ⟨S34816x1024, .f32⟩
  | .hbm, ⟨7, _⟩ => ⟨S1024x1024, .f32⟩
  | .hbm, ⟨8, _⟩ => ⟨S2048x2048, .f32⟩
  | .hbm, ⟨9, _⟩ => ⟨S1024, .f32⟩
  | .hbm, ⟨10, _⟩ => ⟨S1x1024, .f32⟩
  | .hbm, ⟨11, _⟩ => ⟨S34816x1024, .f32⟩
  | .hbm, ⟨12, _⟩ => ⟨S34816x1024, .f32⟩
  | .hbm, ⟨13, _⟩ => ⟨S1x34816x1024, .f32⟩
  | .hbm, ⟨14, _⟩ => ⟨S34816x1024, .f32⟩
  | .hbm, ⟨15, _⟩ => ⟨S34816x1024, .f32⟩
  | .hbm, ⟨16, _⟩ => ⟨S1x34816x1024, .f32⟩
  | .hbm, ⟨17, _⟩ => ⟨S34816x1024, .f32⟩
  | .hbm, ⟨18, _⟩ => ⟨S34816x1024, .f32⟩
  | .hbm, ⟨19, _⟩ => ⟨S34816x1024, .f32⟩
  | .hbm, ⟨20, _⟩ => ⟨S34816x1024, .f32⟩
  | .hbm, ⟨21, _⟩ => ⟨S_, .f32⟩
  | .hbm, ⟨22, _⟩ => ⟨S34816x1024, .f32⟩
  | .hbm, ⟨23, _⟩ => ⟨S34816x1024, .f32⟩
  | .hbm, ⟨24, _⟩ => ⟨S34816x1024, .f32⟩
  | .hbm, ⟨25, _⟩ => ⟨S_, .f32⟩
  | .hbm, ⟨26, _⟩ => ⟨S34816x1024, .f32⟩
  | .hbm, ⟨27, _⟩ => ⟨S34816x1024, .f32⟩
  | .hbm, ⟨28, _⟩ => ⟨S34816x1024, .f32⟩
  | .hbm, ⟨29, _⟩ => ⟨S_, .f32⟩
  | .hbm, ⟨30, _⟩ => ⟨S34816x1024, .f32⟩
  | .hbm, ⟨31, _⟩ => ⟨S34816x1024, .f32⟩
  | .hbm, ⟨32, _⟩ => ⟨S_, .f32⟩
  | .hbm, ⟨33, _⟩ => ⟨S34816x1024, .f32⟩
  | .hbm, ⟨34, _⟩ => ⟨S34816x1024, .f32⟩
  | .hbm, ⟨35, _⟩ => ⟨S34816x1024, .f32⟩
  | .hbm, ⟨36, _⟩ => ⟨S34816x1024, .f32⟩
  | .hbm, ⟨37, _⟩ => ⟨S34816x1024, .f32⟩
  | .hbm, ⟨38, _⟩ => ⟨S34816x1024, .f32⟩
  | .hbm, ⟨39, _⟩ => ⟨S_, .f32⟩
  | .hbm, ⟨40, _⟩ => ⟨S34816x1024, .f32⟩
  | .hbm, ⟨41, _⟩ => ⟨S34816x1024, .f32⟩
  | .hbm, ⟨42, _⟩ => ⟨S_, .f32⟩
  | .hbm, ⟨43, _⟩ => ⟨S34816x1024, .f32⟩
  | .hbm, ⟨44, _⟩ => ⟨S34816x1024, .f32⟩
  | .hbm, ⟨45, _⟩ => ⟨S34816x1024, .f32⟩
  | .hbm, ⟨46, _⟩ => ⟨S34816x2048, .f32⟩
  | .hbm, ⟨47, _⟩ => ⟨S34816x2048, .f32⟩
  | .hbm, ⟨48, _⟩ => ⟨S34816x2048, .bf16⟩
  | _, _ => ⟨S34816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel5.lean ====
abbrev S32768x2048 : Shape := ⟨2, ![32768, 2048]⟩
abbrev S34816x8192 : Shape := ⟨2, ![34816, 8192]⟩
abbrev S1x2048 : Shape := ⟨2, ![1, 2048]⟩
abbrev S2048x2048 : Shape := ⟨2, ![2048, 2048]⟩
abbrev S512x2048 : Shape := ⟨2, ![512, 2048]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S34816x8192, .bf16⟩
  | .hbm, ⟨2, _⟩ => ⟨S1x2048, .f32⟩
  | .hbm, ⟨3, _⟩ => ⟨S2048x2048, .bf16⟩
  | .hbm, ⟨4, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S2048x2048, .bf16⟩
  | .local _ .vmem, ⟨6, _⟩ => ⟨S512x2048, .bf16⟩
  | .local _ .vmem, ⟨7, _⟩ => ⟨S512x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S32768x2048 : Shape := ⟨2, ![32768, 2048]⟩
abbrev S34816x8192 : Shape := ⟨2, ![34816, 8192]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S34816x8192, .bf16⟩
  | .hbm, ⟨2, _⟩ => ⟨S1x2048, .f32⟩
  | .hbm, ⟨3, _⟩ => ⟨S2048x2048, .bf16⟩
  | .hbm, ⟨4, _⟩ => ⟨S32768x2048, .f32⟩
  | .hbm, ⟨5, _⟩ => ⟨S32768x2048, .bf16⟩
  | .hbm, ⟨6, _⟩ => ⟨S32768x2048, .f32⟩
  | .hbm, ⟨7, _⟩ => ⟨S2048x2048, .f32⟩
  | .hbm, ⟨8, _⟩ => ⟨S2048, .f32⟩
  | .hbm, ⟨9, _⟩ => ⟨S1x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Kernel3.lean ====
abbrev S34816x2048 : Shape := ⟨2, ![34816, 2048]⟩
abbrev S16x6x2048 : Shape := ⟨3, ![16, 6, 2048]⟩
abbrev S1x2048 : Shape := ⟨2, ![1, 2048]⟩
abbrev S2048x4096 : Shape := ⟨2, ![2048, 4096]⟩
abbrev S34816x3072 : Shape := ⟨2, ![34816, 3072]⟩
abbrev S34816x1024 : Shape := ⟨2, ![34816, 1024]⟩
abbrev S1024x2048 : Shape := ⟨2, ![1024, 2048]⟩
abbrev S1x6x2048 : Shape := ⟨3, ![1, 6, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S1x1x2048 : Shape := ⟨3, ![1, 1, 2048]⟩

abbrev nBuf : Space → Nat
  | .hbm => 6
  | .vmem => 12
  | .smem => 0
  | _ => 0

abbrev bufTy : (tb : Table) → Fin (tcTables nBuf tb) → BufTy
  | .hbm, ⟨0, _⟩ => ⟨S34816x2048, .f32⟩
  | .hbm, ⟨1, _⟩ => ⟨S16x6x2048, .f32⟩
  | .hbm, ⟨2, _⟩ => ⟨S1x2048, .f32⟩
  | .hbm, ⟨3, _⟩ => ⟨S2048x4096, .bf16⟩
  | .hbm, ⟨4, _⟩ => ⟨S34816x3072, .bf16⟩
  | .hbm, ⟨5, _⟩ => ⟨S34816x1024, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | _, _ => ⟨S34816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![34, 4], ![false, false]⟩

def k0_cond2 (i : grid0.Coords) : BitVec 1 :=
  let arg1 : BitVec 32 := BitVec.ofNat 32 (i 1).val
  let c3_i32 : BitVec 32 := 3#32
  let v6 : BitVec 1 := Scalar.cmpi .slt arg1 c3_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c3_i32_5 : BitVec 32 := 3#32
  let v9 : BitVec 1 := Scalar.cmpi .sge arg1 c3_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c32768_i32 : BitVec 32 := 32768#32
  let v1 : BitVec 1 := Scalar.cmpi .slt v0 c32768_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.select v1 v18 c8_i32
  let c0_i32_4 : BitVec 32 := 0#32
  let c0_i32_5 : BitVec 32 := 0#32
  let c0_i32_6 : BitVec 32 := 0#32
  ![v19.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S34816x2048 : Shape := ⟨2, ![34816, 2048]⟩
abbrev S16x6x2048 : Shape := ⟨3, ![16, 6, 2048]⟩
abbrev S1x2048 : Shape := ⟨2, ![1, 2048]⟩
abbrev S2048x4096 : Shape := ⟨2, ![2048, 4096]⟩
abbrev S32768x2048 : Shape := ⟨2, ![32768, 2048]⟩
abbrev S8x4096x2048 : Shape := ⟨3, ![8, 4096, 2048]⟩
abbrev S2048x2048 : Shape := ⟨2, ![2048, 2048]⟩
abbrev S8x256x2048 : Shape := ⟨3, ![8, 256, 2048]⟩
abbrev S8x6x2048 : Shape := ⟨3, ![8, 6, 2048]⟩
abbrev S8x6x1x2048 : Shape := ⟨4, ![8, 6, 1, 2048]⟩
abbrev S1x6x2048 : Shape := ⟨3, ![1, 6, 2048]⟩
abbrev S6x2048 : Shape := ⟨2, ![6, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x1x1x2048 : Shape := ⟨4, ![8, 1, 1, 2048]⟩
abbrev S8x1x2048 : Shape := ⟨3, ![8, 1, 2048]⟩
abbrev S8x256 : Shape := ⟨2, ![8, 256]⟩
abbrev S8x256x1 : Shape := ⟨3, ![8, 256, 1]⟩
abbrev S8x4096x4096 : Shape := ⟨3, ![8, 4096, 4096]⟩
abbrev S8x256x4096 : Shape := ⟨3, ![8, 256, 4096]⟩
abbrev S32768x4096 : Shape := ⟨2, ![32768, 4096]⟩
abbrev S34816x4096 : Shape := ⟨2, ![34816, 4096]⟩
abbrev S34816x3072 : Shape := ⟨2, ![34816, 3072]⟩
abbrev S34816x1024 : Shape := ⟨2, ![34816, 1024]⟩

abbrev nBuf : Space → Nat
  | .hbm => 79
  | .vmem => 0
  | .smem => 0
  | _ => 0

abbrev bufTy : (tb : Table) → Fin (tcTables nBuf tb) → BufTy
  | .hbm, ⟨0, _⟩ => ⟨S34816x2048, .f32⟩
  | .hbm, ⟨1, _⟩ => ⟨S16x6x2048, .f32⟩
  | .hbm, ⟨2, _⟩ => ⟨S1x2048, .f32⟩
  | .hbm, ⟨3, _⟩ => ⟨S2048x4096, .bf16⟩
  | .hbm, ⟨4, _⟩ => ⟨S2048x4096, .f32⟩
  | .hbm, ⟨5, _⟩ => ⟨S32768x2048, .f32⟩
  | .hbm, ⟨6, _⟩ => ⟨S8x4096x2048, .f32⟩
  | .hbm, ⟨7, _⟩ => ⟨S2048x2048, .f32⟩
  | .hbm, ⟨8, _⟩ => ⟨S8x256x2048, .f32⟩
  | .hbm, ⟨9, _⟩ => ⟨S8x6x2048, .f32⟩
  | .hbm, ⟨10, _⟩ => ⟨S8x6x1x2048, .f32⟩
  | .hbm, ⟨11, _⟩ => ⟨S1x6x2048, .f32⟩
  | .hbm, ⟨12, _⟩ => ⟨S6x2048, .f32⟩
  | .hbm, ⟨13, _⟩ => ⟨S2048, .f32⟩
  | .hbm, ⟨14, _⟩ => ⟨S8x4096x2048, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x2048, .f32⟩
  | .hbm, ⟨26, _⟩ => ⟨S8x4096x2048, .f32⟩
  | .hbm, ⟨27, _⟩ => ⟨S1x1x2048, .f32⟩
  | .hbm, ⟨28, _⟩ => ⟨S8x4096x2048, .f32⟩
  | .hbm, ⟨29, _⟩ => ⟨S8x4096x2048, .f32⟩
  | .hbm, ⟨30, _⟩ => ⟨S8x1x1x2048, .f32⟩
  | .hbm, ⟨31, _⟩ => ⟨S8x1x2048, .f32⟩
  | .hbm, ⟨32, _⟩ => ⟨S8x1x1x2048, .f32⟩
  | .hbm, ⟨33, _⟩ => ⟨S8x1x2048, .f32⟩
  | .hbm, ⟨34, _⟩ => ⟨S_, .f32⟩
  | .hbm, ⟨35, _⟩ => ⟨S8x1x2048, .f32⟩
  | .hbm, ⟨36, _⟩ => ⟨S8x1x2048, .f32⟩
  | .hbm, ⟨37, _⟩ => ⟨S8x4096x2048, .f32⟩
  | .hbm, ⟨38, _⟩ => ⟨S8x4096x2048, .f32⟩
  | .hbm, ⟨39, _⟩ => ⟨S8x4096x2048, .f32⟩
  | .hbm, ⟨40, _⟩ => ⟨S8x4096x2048, .f32⟩
  | .hbm, ⟨41, _⟩ => ⟨S2048, .f32⟩
  | .hbm, ⟨42, _⟩ => ⟨S8x256x2048, .f32⟩
  | .hbm, ⟨43, _⟩ => ⟨S_, .f32⟩
  | .hbm, ⟨44, _⟩ => ⟨S8x256, .f32⟩
  | .hbm, ⟨45, _⟩ => ⟨S8x256x1, .f32⟩
  | .hbm, ⟨46, _⟩ => ⟨S_, .f32⟩
  | .hbm, ⟨47, _⟩ => ⟨S8x256x1, .f32⟩
  | .hbm, ⟨48, _⟩ => ⟨S8x256x1, .f32⟩
  | .hbm, ⟨49, _⟩ => ⟨S_, .f32⟩
  | .hbm, ⟨50, _⟩ => ⟨S8x256x1, .f32⟩
  | .hbm, ⟨51, _⟩ => ⟨S8x256x1, .f32⟩
  | .hbm, ⟨52, _⟩ => ⟨S8x256x1, .f32⟩
  | .hbm, ⟨53, _⟩ => ⟨S8x256x2048, .f32⟩
  | .hbm, ⟨54, _⟩ => ⟨S8x256x2048, .f32⟩
  | .hbm, ⟨55, _⟩ => ⟨S1x1x2048, .f32⟩
  | .hbm, ⟨56, _⟩ => ⟨S8x256x2048, .f32⟩
  | .hbm, ⟨57, _⟩ => ⟨S8x256x2048, .f32⟩
  | .hbm, ⟨58, _⟩ => ⟨S1x2048, .f32⟩
  | .hbm, ⟨59, _⟩ => ⟨S2048, .f32⟩
  | .hbm, ⟨60, _⟩ => ⟨S1x2048, .f32⟩
  | .hbm, ⟨61, _⟩ => ⟨S2048, .f32⟩
  | .hbm, ⟨62, _⟩ => ⟨S_, .f32⟩
  | .hbm, ⟨63, _⟩ => ⟨S2048, .f32⟩
  | .hbm, ⟨64, _⟩ => ⟨S2048, .f32⟩
  | .hbm, ⟨65, _⟩ => ⟨S1x1x2048, .f32⟩
  | .hbm, ⟨66, _⟩ => ⟨S8x256x2048, .f32⟩
  | .hbm, ⟨67, _⟩ => ⟨S8x256x2048, .f32⟩
  | .hbm, ⟨68, _⟩ => ⟨S1x1x2048, .f32⟩
  | .hbm, ⟨69, _⟩ => ⟨S8x256x2048, .f32⟩
  | .hbm, ⟨70, _⟩ => ⟨S8x256x2048, .f32⟩
  | .hbm, ⟨71, _⟩ => ⟨S8x4096x4096, .f32⟩
  | .hbm, ⟨72, _⟩ => ⟨S8x256x4096, .f32⟩
  | .hbm, ⟨73, _⟩ => ⟨S32768x4096, .f32⟩
  | .hbm, ⟨74, _⟩ => ⟨S2048x4096, .f32⟩
  | .hbm, ⟨75, _⟩ => ⟨S34816x4096, .f32⟩
  | .hbm, ⟨76, _⟩ => ⟨S34816x3072, .f32⟩
  | .hbm, ⟨77, _⟩ => ⟨S34816x3072, .bf16⟩
  | .hbm, ⟨78, _⟩ => ⟨S34816x1024, .f32⟩
  | _, _ => ⟨S34816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩

abbrev nD : Nat := 1
abbrev τ : Topo := Topo.v7x

variable {F : FTy → Type} [FloatOps F]
-- ==== Kernel6.lean ====
abbrev S34816x2048 : Shape := ⟨2, ![34816, 2048]⟩
abbrev S576 : Shape := ⟨1, ![576]⟩
abbrev S576x1x256 : Shape := ⟨3, ![576, 1, 256]⟩
abbrev S32x2048x2048 : Shape := ⟨3, ![32, 2048, 2048]⟩
abbrev S32x1x2048 : Shape := ⟨3, ![32, 1, 2048]⟩
abbrev S32x1024x2048 : Shape := ⟨3, ![32, 1024, 2048]⟩
abbrev S139264x2048 : Shape := ⟨2, ![139264, 2048]⟩
abbrev S1x1x256 : Shape := ⟨3, ![1, 1, 256]⟩
abbrev S1x2048x2048 : Shape := ⟨3, ![1, 2048, 2048]⟩
abbrev S1 : Shape := ⟨1, ![1]⟩
abbrev S1x1x2048 : Shape := ⟨3, ![1, 1, 2048]⟩
abbrev S1x1024x2048 : Shape := ⟨3, ![1, 1024, 2048]⟩
abbrev S2x256x2048 : Shape := ⟨3, ![2, 256, 2048]⟩
abbrev S2 : Shape := ⟨1, ![2]⟩
abbrev S1x1x1 : Shape := ⟨3, ![1, 1, 1]⟩
abbrev S_ : Shape := ⟨0, ![]⟩
abbrev S1x2048 : Shape := ⟨2, ![1, 2048]⟩
abbrev S1x256x2048 : Shape := ⟨3, ![1, 256, 2048]⟩
abbrev S256x2048 : Shape := ⟨2, ![256, 2048]⟩
abbrev S2048x2048 : Shape := ⟨2, ![2048, 2048]⟩
abbrev S256x1024 : Shape := ⟨2, ![256, 1024]⟩
abbrev S1024x2048 : Shape := ⟨2, ![1024, 2048]⟩

abbrev nBuf : Space → Nat
  | .hbm => 8
  | .vmem => 10
  | .smem => 8
  | _ => 0

abbrev bufTy : (tb : Table) → Fin (tcTables nBuf tb) → BufTy
  | .hbm, ⟨0, _⟩ => ⟨S34816x2048, .f32⟩
  | .hbm, ⟨1, _⟩ => ⟨S576x1x256, .i32⟩
  | .hbm, ⟨2, _⟩ => ⟨S576x1x256, .i32⟩
  | .hbm, ⟨3, _⟩ => ⟨S32x2048x2048, .bf16⟩
  | .hbm, ⟨4, _⟩ => ⟨S32x1x2048, .f32⟩
  | .hbm, ⟨5, _⟩ => ⟨S32x1024x2048, .bf16⟩
  | .hbm, ⟨6, _⟩ => ⟨S32x1x2048, .f32⟩
  | .hbm, ⟨7, _⟩ => ⟨S139264x2048, .f32⟩
  | .local _ .vmem, ⟨0, _⟩ => ⟨S1x2048x2048, .bf16⟩
  | .local _ .vmem, ⟨1, _⟩ => ⟨S1x2048x2048, .bf16⟩
  | .local _ .vmem, ⟨2, _⟩ => ⟨S1x1x2048, .f32⟩
  | .local _ .vmem, ⟨3, _⟩ => ⟨S1x1x2048, .f32⟩
  | .local _ .vmem, ⟨4, _⟩ => ⟨S1x1024x2048, .bf16⟩
  | .local _ .vmem, ⟨5, _⟩ => ⟨S1x1024x2048, .bf16⟩
  | .local _ .vmem, ⟨6, _⟩ => ⟨S1x1x2048, .f32⟩
  | .local _ .vmem, ⟨7, _⟩ => ⟨S1x1x2048, .f32⟩
  | .local _ .vmem, ⟨8, _⟩ => ⟨S2x256x2048, .f32⟩
  | .local _ .vmem, ⟨9, _⟩ => ⟨S2x256x2048, .f32⟩
  | .local _ .smem, ⟨0, _⟩ => ⟨S576, .i32⟩
  | .local _ .smem, ⟨1, _⟩ => ⟨S576, .i32⟩
  | .local _ .smem, ⟨2, _⟩ => ⟨S1x1x256, .i32⟩
  | .local _ .smem, ⟨3, _⟩ => ⟨S1x1x256, .i32⟩
  | .local _ .smem, ⟨4, _⟩ => ⟨S1x1x256, .i32⟩
  | .local _ .smem, ⟨5, _⟩ => ⟨S1x1x256, .i32⟩
  | .local _ .smem, ⟨6, _⟩ => ⟨S1x1x256, .i32⟩
  | .local _ .smem, ⟨7, _⟩ => ⟨S1x1x256, .i32⟩
  | _, _ => ⟨S34816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg1 : Ref sig .tc := ⟨.smem, 0, rfl⟩
abbrev main_arg2 : Ref sig .tc := ⟨.smem, 1, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_stg2_0 : Ref sig .tc := ⟨.smem, 6, rfl⟩
abbrev cc0_stg2_1 : Ref sig .tc := ⟨.smem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![576], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_20 : BitVec 32 := 0#32
  let c256_i32_21 : BitVec 32 := 256#32
  let v35 : BitVec 32 := Scalar.addi c0_i32_20 c256_i32_21
  let c1_i32_22 : BitVec 32 := 1#32
  ⟨c0_i32_20, v35, c1_i32_22⟩
def k0_off2 (k0_t1 : Fin k0_t1_loop.trips) : Fin 3 → Nat :=
  let c0 : Index := 0#32
  let c0_24 : Index := 0#32
  let c0_i32_20 : BitVec 32 := 0#32
  let c1_i32_22 : BitVec 32 := 1#32
  let arg16 : BitVec 32 := Scf.iv c0_i32_20 c1_i32_22 k0_t1
  let v36 : Index := Scalar.indexCast arg16
  ![0, 0, v36.toNat]
def k0_off3 (k0_t1 : Fin k0_t1_loop.trips) : Fin 3 → Nat :=
  let c0_i32_25 : BitVec 32 := 0#32
  let c0_i32_20 : BitVec 32 := 0#32
  let c1_i32_22 : BitVec 32 := 1#32
  let arg16 : BitVec 32 := Scf.iv c0_i32_20 c1_i32_22 k0_t1
  let c0_i32_27 : BitVec 32 := 0#32
  ![0, arg16.toNat, 0]
def k0_off4 (v37 : BitVec 32) : Fin 2 → Nat :=
  let c0_i32_28 : BitVec 32 := 0#32
  ![v37.toNat, 0]

def k0_chk1 (i : grid0.Coords) (v37 : BitVec 32) : Prop :=
  (∀ (k0_h1 : k0_cond1 i = 1#1), ∀ a, (k0_off4 v37) a + S1x2048.size a ≤ S34816x2048.size a)
theorem k0_off4_inb : ∀ (i : grid0.Coords) (v37 : BitVec 32) (k0_hw1 : k0_chk1 i v37), ∀ (k0_h1 : k0_cond1 i = 1#1), ∀ a, (k0_off4 v37) a + S1x2048.size a ≤ S34816x2048.size a := fun i v37 k0_hw1 k0_h1 => k0_hw1 k0_h1

def k0_cond2 (i : grid0.Coords) : BitVec 1 :=
  let arg0 : BitVec 32 := BitVec.ofNat 32 (i 0).val
  let c1_i32_6 : BitVec 32 := 1#32
  let v14 : BitVec 32 := Scalar.addi arg0 c1_i32_6
  let c576_i32 : BitVec 32 := 576#32
  let v15 : BitVec 1 := Scalar.cmpi .slt v14 c576_i32
  let v16 : BitVec 32 := Scalar.extui v15
  let c0_i32_7 : BitVec 32 := 0#32
  let v17 : BitVec 1 := Scalar.cmpi .ne v16 c0_i32_7
  v17

@[reducible] def k0_t2_loop : Scf.Loop 32 :=
  let c0_i32_20 : BitVec 32 := 0#32
  let c256_i32_21 : BitVec 32 := 256#32
  let v35 : BitVec 32 := Scalar.addi c0_i32_20 c256_i32_21
  let c1_i32_22 : BitVec 32 := 1#32
  ⟨c0_i32_20, v35, c1_i32_22⟩
def k0_off5 (k0_t2 : Fin k0_t2_loop.trips) : Fin 3 → Nat :=
  let c0 : Index := 0#32
  let c0_24 : Index := 0#32
  let c0_i32_20 : BitVec 32 := 0#32
  let c1_i32_22 : BitVec 32 := 1#32
  let arg16 : BitVec 32 := Scf.iv c0_i32_20 c1_i32_22 k0_t2
  let v36 : Index := Scalar.indexCast arg16
  ![0, 0, v36.toNat]
def k0_off6 (i : grid0.Coords) : Fin 1 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  ![v10.toNat]
def k0_off7 (i : grid0.Coords) (k0_t2 : Fin k0_t2_loop.trips) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let c0_i32_20 : BitVec 32 := 0#32
  let c1_i32_22 : BitVec 32 := 1#32
  let arg16 : BitVec 32 := Scf.iv c0_i32_20 c1_i32_22 k0_t2
  let c0_i32_25 : BitVec 32 := 0#32
  ![v10.toNat, arg16.toNat, 0]
def k0_off8 (v37 : BitVec 32) : Fin 2 → Nat :=
  let c0_i32_26 : BitVec 32 := 0#32
  ![v37.toNat, 0]

def k0_chk2 (i : grid0.Coords) (v37 : BitVec 32) : Prop :=
  (∀ (k0_h2 : k0_cond2 i = 1#1), ∀ a, (k0_off8 v37) a + S1x2048.size a ≤ S34816x2048.size a)
theorem k0_off8_inb : ∀ (i : grid0.Coords) (v37 : BitVec 32) (k0_hw2 : k0_chk2 i v37), ∀ (k0_h2 : k0_cond2 i = 1#1), ∀ a, (k0_off8 v37) a + S1x2048.size a ≤ S34816x2048.size a := fun i v37 k0_hw2 k0_h2 => k0_hw2 k0_h2

@[reducible] def k0_t3_loop : Scf.Loop 32 :=
  let c0_i32_8 : BitVec 32 := 0#32
  let c256_i32 : BitVec 32 := 256#32
  let v18 : BitVec 32 := Scalar.addi c0_i32_8 c256_i32
  let c1_i32_9 : BitVec 32 := 1#32
  ⟨c0_i32_8, v18, c1_i32_9⟩
def k0_off9 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_20 : BitVec 32 := 0#32
  let c0_i32_21 : BitVec 32 := 0#32
  ![v9.toNat, 0, 0]
def k0_cond3 (i : grid0.Coords) : BitVec 1 :=
  let arg0 : BitVec 32 := BitVec.ofNat 32 (i 0).val
  let c2_i32_10 : BitVec 32 := 2#32
  let v19 : BitVec 1 := Scalar.cmpi .sge arg0 c2_i32_10
  let v20 : BitVec 32 := Scalar.extui v19
  let c0_i32_11 : BitVec 32 := 0#32
  let v21 : BitVec 1 := Scalar.cmpi .ne v20 c0_i32_11
  v21

def k0_off11 (i : grid0.Coords) : Fin 1 → Nat :=
  let arg0 : BitVec 32 := BitVec.ofNat 32 (i 0).val
  let c2_i32_20 : BitVec 32 := 2#32
  let v35 : BitVec 32 := Scalar.subi arg0 c2_i32_20
  let v36 : Index := Scalar.indexCast v35
  ![v36.toNat]
@[reducible] def k0_t4_loop (v37 : BitVec 32) : Scf.Loop 32 :=
  let c0_i32_22 : BitVec 32 := 0#32
  let v38 : BitVec 32 := Scalar.subi v37 c0_i32_22
  let c1_i32_23 : BitVec 32 := 1#32
  let v40 : BitVec 32 := Scalar.divsi v38 c1_i32_23
  let v41 : BitVec 32 := Scalar.muli v40 c1_i32_23
  let v42 : BitVec 32 := Scalar.addi c0_i32_22 v41
  let c1_i32_24 : BitVec 32 := 1#32
  ⟨c0_i32_22, v42, c1_i32_24⟩

def k0_off12 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_28 : BitVec 32 := 0#32
  let c0_i32_29 : BitVec 32 := 0#32
  ![v9.toNat, 0, 0]
@[reducible] def k0_t5_loop (v37 : BitVec 32) : Scf.Loop 32 :=
  let c0_i32_22 : BitVec 32 := 0#32
  let v38 : BitVec 32 := Scalar.subi v37 c0_i32_22
  let c1_i32_23 : BitVec 32 := 1#32
  let v40 : BitVec 32 := Scalar.divsi v38 c1_i32_23
  let v41 : BitVec 32 := Scalar.muli v40 c1_i32_23
  let v42 : BitVec 32 := Scalar.addi c0_i32_22 v41
  let v39 : BitVec 32 := Scalar.addi c0_i32_22 v38
  let c1_i32_25 : BitVec 32 := 1#32
  ⟨v42, v39, c1_i32_25⟩

def k0_chk3 (i : grid0.Coords) (v37 : BitVec 32) : Prop :=
  (∀ (k0_h3 : k0_cond3 i = 1#1), (k0_t4_loop v37).OK) ∧
  (∀ (k0_h3 : k0_cond3 i = 1#1), (k0_t5_loop v37).OK)
theorem k0_t4_ok : ∀ (i : grid0.Coords) (v37 : BitVec 32) (k0_hw3 : k0_chk3 i v37), ∀ (k0_h3 : k0_cond3 i = 1#1), (k0_t4_loop v37).OK := fun i v37 k0_hw3 k0_h3 => k0_hw3.1 k0_h3
theorem k0_t5_ok : ∀ (i : grid0.Coords) (v37 : BitVec 32) (k0_hw3 : k0_chk3 i v37), ∀ (k0_h3 : k0_cond3 i = 1#1), (k0_t5_loop v37).OK := fun i v37 k0_hw3 k0_h3 => k0_hw3.2 k0_h3

def k0_off14 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off15 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_28 : BitVec 32 := 0#32
  let c0_i32_29 : BitVec 32 := 0#32
  ![v9.toNat, 0, 0]
def k0_off16 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v35 : Index := Scalar.indexCast v9
  let c0 : Index := 0#32
  let c0_20 : Index := 0#32
  ![v35.toNat, 0, 0]
@[reducible] def k0_t6_loop (v23 : BitVec 32) : Scf.Loop 32 :=
  let c0_i32_15 : BitVec 32 := 0#32
  let v27 : BitVec 32 := Scalar.subi v23 c0_i32_15
  let c1_i32_16 : BitVec 32 := 1#32
  let v29 : BitVec 32 := Scalar.divsi v27 c1_i32_16
  let v30 : BitVec 32 := Scalar.muli v29 c1_i32_16
  let v31 : BitVec 32 := Scalar.addi c0_i32_15 v30
  let c1_i32_17 : BitVec 32 := 1#32
  ⟨c0_i32_15, v31, c1_i32_17⟩

def k0_off17 (v23 : BitVec 32) (k0_t6 : Fin (k0_t6_loop v23).trips) : Fin 3 → Nat :=
  let c0 : Index := 0#32
  let c0_20 : Index := 0#32
  let c0_i32_15 : BitVec 32 := 0#32
  let c1_i32_17 : BitVec 32 := 1#32
  let arg16 : BitVec 32 := Scf.iv c0_i32_15 c1_i32_17 k0_t6
  let v35 : Index := Scalar.indexCast arg16
  ![0, 0, v35.toNat]
def k0_off18 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off19 (v36 : BitVec 32) : Fin 2 → Nat :=
  let c0_i32_21 : BitVec 32 := 0#32
  ![v36.toNat, 0]

def k0_chk5 (v36 : BitVec 32) : Prop :=
  (∀ a, (k0_off19 v36) a + S1x2048.size a ≤ S139264x2048.size a)
theorem k0_off19_inb : ∀ (v36 : BitVec 32) (k0_hw5 : k0_chk5 v36), ∀ a, (k0_off19 v36) a + S1x2048.size a ≤ S139264x2048.size a := fun v36 k0_hw5 => k0_hw5

def k0_off20 (i : grid0.Coords) (v23 : BitVec 32) (k0_t6 : Fin (k0_t6_loop v23).trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_15 : BitVec 32 := 0#32
  let c1_i32_17 : BitVec 32 := 1#32
  let arg16 : BitVec 32 := Scf.iv c0_i32_15 c1_i32_17 k0_t6
  let c0_i32_22 : BitVec 32 := 0#32
  ![v9.toNat, arg16.toNat, 0]
@[reducible] def k0_t7_loop (v23 : BitVec 32) : Scf.Loop 32 :=
  let c0_i32_15 : BitVec 32 := 0#32
  let v27 : BitVec 32 := Scalar.subi v23 c0_i32_15
  let c1_i32_16 : BitVec 32 := 1#32
  let v29 : BitVec 32 := Scalar.divsi v27 c1_i32_16
  let v30 : BitVec 32 := Scalar.muli v29 c1_i32_16
  let v31 : BitVec 32 := Scalar.addi c0_i32_15 v30
  let v28 : BitVec 32 := Scalar.addi c0_i32_15 v27
  let c1_i32_18 : BitVec 32 := 1#32
  ⟨v31, v28, c1_i32_18⟩
def k0_off21 (v23 : BitVec 32) (k0_t7 : Fin (k0_t7_loop v23).trips) : Fin 3 → Nat :=
  let c0 : Index := 0#32
  let c0_20 : Index := 0#32
  let c0_i32_15 : BitVec 32 := 0#32
  let v27 : BitVec 32 := Scalar.subi v23 c0_i32_15
  let c1_i32_16 : BitVec 32 := 1#32
  let v29 : BitVec 32 := Scalar.divsi v27 c1_i32_16
  let v30 : BitVec 32 := Scalar.muli v29 c1_i32_16
  let v31 : BitVec 32 := Scalar.addi c0_i32_15 v30
  let c1_i32_18 : BitVec 32 := 1#32
  let arg16 : BitVec 32 := Scf.iv v31 c1_i32_18 k0_t7
  let v35 : Index := Scalar.indexCast arg16
  ![0, 0, v35.toNat]
def k0_off22 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off23 (v36 : BitVec 32) : Fin 2 → Nat :=
  let c0_i32_21 : BitVec 32 := 0#32
  ![v36.toNat, 0]

def k0_chk6 (v36 : BitVec 32) : Prop :=
  (∀ a, (k0_off23 v36) a + S1x2048.size a ≤ S139264x2048.size a)
theorem k0_off23_inb : ∀ (v36 : BitVec 32) (k0_hw6 : k0_chk6 v36), ∀ a, (k0_off23 v36) a + S1x2048.size a ≤ S139264x2048.size a := fun v36 k0_hw6 => k0_hw6

def k0_off24 (i : grid0.Coords) (v23 : BitVec 32) (k0_t7 : Fin (k0_t7_loop v23).trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_15 : BitVec 32 := 0#32
  let v27 : BitVec 32 := Scalar.subi v23 c0_i32_15
  let c1_i32_16 : BitVec 32 := 1#32
  let v29 : BitVec 32 := Scalar.divsi v27 c1_i32_16
  let v30 : BitVec 32 := Scalar.muli v29 c1_i32_16
  let v31 : BitVec 32 := Scalar.addi c0_i32_15 v30
  let c1_i32_18 : BitVec 32 := 1#32
  let arg16 : BitVec 32 := Scf.iv v31 c1_i32_18 k0_t7
  let c0_i32_22 : BitVec 32 := 0#32
  ![v9.toNat, arg16.toNat, 0]
def k0_cond5 (i : grid0.Coords) : BitVec 1 :=
  let arg0 : BitVec 32 := BitVec.ofNat 32 (i 0).val
  let c575_i32 : BitVec 32 := 575#32
  let v32 : BitVec 1 := Scalar.cmpi .eq arg0 c575_i32
  let v33 : BitVec 32 := Scalar.extui v32
  let c0_i32_19 : BitVec 32 := 0#32
  let v34 : BitVec 1 := Scalar.cmpi .ne v33 c0_i32_19
  v34

@[reducible] def k0_t8_loop (v23 : BitVec 32) : Scf.Loop 32 :=
  let c0_i32_21 : BitVec 32 := 0#32
  let v35 : BitVec 32 := Scalar.subi v23 c0_i32_21
  let c1_i32_22 : BitVec 32 := 1#32
  let v37 : BitVec 32 := Scalar.divsi v35 c1_i32_22
  let v38 : BitVec 32 := Scalar.muli v37 c1_i32_22
  let v39 : BitVec 32 := Scalar.addi c0_i32_21 v38
  let c1_i32_23 : BitVec 32 := 1#32
  ⟨c0_i32_21, v39, c1_i32_23⟩
def k0_off25 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off26 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_33 : BitVec 32 := 0#32
  let c0_i32_34 : BitVec 32 := 0#32
  ![v9.toNat, 0, 0]
@[reducible] def k0_t9_loop (v23 : BitVec 32) : Scf.Loop 32 :=
  let c0_i32_21 : BitVec 32 := 0#32
  let v35 : BitVec 32 := Scalar.subi v23 c0_i32_21
  let c1_i32_22 : BitVec 32 := 1#32
  let v37 : BitVec 32 := Scalar.divsi v35 c1_i32_22
  let v38 : BitVec 32 := Scalar.muli v37 c1_i32_22
  let v39 : BitVec 32 := Scalar.addi c0_i32_21 v38
  let v36 : BitVec 32 := Scalar.addi c0_i32_21 v35
  let c1_i32_24 : BitVec 32 := 1#32
  ⟨v39, v36, c1_i32_24⟩

def k0_chk4 (i : grid0.Coords) (v23 : BitVec 32) : Prop :=
  ((k0_t6_loop v23).OK) ∧
  (∀ k0_t6 : Fin (k0_t6_loop v23).trips, ∀ a, (k0_off17 v23 k0_t6) a + S1x1x1.size a ≤ S1x1x256.size a) ∧
  (∀ k0_t6 : Fin (k0_t6_loop v23).trips, ∀ a, (k0_off20 i v23 k0_t6) a + S1x1x2048.size a ≤ S2x256x2048.size a) ∧
  ((k0_t7_loop v23).OK) ∧
  (∀ k0_t7 : Fin (k0_t7_loop v23).trips, ∀ a, (k0_off21 v23 k0_t7) a + S1x1x1.size a ≤ S1x1x256.size a) ∧
  (∀ k0_t7 : Fin (k0_t7_loop v23).trips, ∀ a, (k0_off24 i v23 k0_t7) a + S1x1x2048.size a ≤ S2x256x2048.size a) ∧
  (∀ (k0_h5 : k0_cond5 i = 1#1), (k0_t8_loop v23).OK) ∧
  (∀ (k0_h5 : k0_cond5 i = 1#1), (k0_t9_loop v23).OK)
theorem k0_t6_ok : ∀ (i : grid0.Coords) (v23 : BitVec 32) (k0_hw4 : k0_chk4 i v23), (k0_t6_loop v23).OK := fun i v23 k0_hw4 => k0_hw4.1
theorem k0_off17_inb : ∀ (i : grid0.Coords) (v23 : BitVec 32) (k0_hw4 : k0_chk4 i v23) (k0_t6 : Fin (k0_t6_loop v23).trips), ∀ a, (k0_off17 v23 k0_t6) a + S1x1x1.size a ≤ S1x1x256.size a := fun i v23 k0_hw4 k0_t6 => k0_hw4.2.1 k0_t6
theorem k0_off20_inb : ∀ (i : grid0.Coords) (v23 : BitVec 32) (k0_hw4 : k0_chk4 i v23) (k0_t6 : Fin (k0_t6_loop v23).trips), ∀ a, (k0_off20 i v23 k0_t6) a + S1x1x2048.size a ≤ S2x256x2048.size a := fun i v23 k0_hw4 k0_t6 => k0_hw4.2.2.1 k0_t6
theorem k0_t7_ok : ∀ (i : grid0.Coords) (v23 : BitVec 32) (k0_hw4 : k0_chk4 i v23), (k0_t7_loop v23).OK := fun i v23 k0_hw4 => k0_hw4.2.2.2.1
theorem k0_off21_inb : ∀ (i : grid0.Coords) (v23 : BitVec 32) (k0_hw4 : k0_chk4 i v23) (k0_t7 : Fin (k0_t7_loop v23).trips), ∀ a, (k0_off21 v23 k0_t7) a + S1x1x1.size a ≤ S1x1x256.size a := fun i v23 k0_hw4 k0_t7 => k0_hw4.2.2.2.2.1 k0_t7
theorem k0_off24_inb : ∀ (i : grid0.Coords) (v23 : BitVec 32) (k0_hw4 : k0_chk4 i v23) (k0_t7 : Fin (k0_t7_loop v23).trips), ∀ a, (k0_off24 i v23 k0_t7) a + S1x1x2048.size a ≤ S2x256x2048.size a := fun i v23 k0_hw4 k0_t7 => k0_hw4.2.2.2.2.2.1 k0_t7
theorem k0_t8_ok : ∀ (i : grid0.Coords) (v23 : BitVec 32) (k0_hw4 : k0_chk4 i v23), ∀ (k0_h5 : k0_cond5 i = 1#1), (k0_t8_loop v23).OK := fun i v23 k0_hw4 k0_h5 => k0_hw4.2.2.2.2.2.2.1 k0_h5
theorem k0_t9_ok : ∀ (i : grid0.Coords) (v23 : BitVec 32) (k0_hw4 : k0_chk4 i v23), ∀ (k0_h5 : k0_cond5 i = 1#1), (k0_t9_loop v23).OK := fun i v23 k0_hw4 k0_h5 => k0_hw4.2.2.2.2.2.2.2 k0_h5

def k0_off27 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off28 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_33 : BitVec 32 := 0#32
  let c0_i32_34 : BitVec 32 := 0#32
  ![v9.toNat, 0, 0]
def k0_off29 (i : grid0.Coords) : Fin 1 → Nat :=
  let arg0 : BitVec 32 := BitVec.ofNat 32 (i 0).val
  let c1_i32_25 : BitVec 32 := 1#32
  let v40 : BitVec 32 := Scalar.subi arg0 c1_i32_25
  let v41 : Index := Scalar.indexCast v40
  ![v41.toNat]
@[reducible] def k0_t10_loop (v42 : BitVec 32) : Scf.Loop 32 :=
  let c0_i32_27 : BitVec 32 := 0#32
  let v43 : BitVec 32 := Scalar.subi v42 c0_i32_27
  let c1_i32_28 : BitVec 32 := 1#32
  let v45 : BitVec 32 := Scalar.divsi v43 c1_i32_28
  let v46 : BitVec 32 := Scalar.muli v45 c1_i32_28
  let v47 : BitVec 32 := Scalar.addi c0_i32_27 v46
  let c1_i32_29 : BitVec 32 := 1#32
  ⟨c0_i32_27, v47, c1_i32_29⟩

def k0_off30 (i : grid0.Coords) : Fin 1 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  ![v10.toNat]
def k0_off31 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let c0_i32_33 : BitVec 32 := 0#32
  let c0_i32_34 : BitVec 32 := 0#32
  ![v10.toNat, 0, 0]
@[reducible] def k0_t11_loop (v42 : BitVec 32) : Scf.Loop 32 :=
  let c0_i32_27 : BitVec 32 := 0#32
  let v43 : BitVec 32 := Scalar.subi v42 c0_i32_27
  let c1_i32_28 : BitVec 32 := 1#32
  let v45 : BitVec 32 := Scalar.divsi v43 c1_i32_28
  let v46 : BitVec 32 := Scalar.muli v45 c1_i32_28
  let v47 : BitVec 32 := Scalar.addi c0_i32_27 v46
  let v44 : BitVec 32 := Scalar.addi c0_i32_27 v43
  let c1_i32_30 : BitVec 32 := 1#32
  ⟨v47, v44, c1_i32_30⟩

def k0_chk7 (i : grid0.Coords) (v42 : BitVec 32) : Prop :=
  (∀ (k0_h5 : k0_cond5 i = 1#1), (k0_t10_loop v42).OK) ∧
  (∀ (k0_h5 : k0_cond5 i = 1#1), (k0_t11_loop v42).OK)
theorem k0_t10_ok : ∀ (i : grid0.Coords) (v42 : BitVec 32) (k0_hw7 : k0_chk7 i v42), ∀ (k0_h5 : k0_cond5 i = 1#1), (k0_t10_loop v42).OK := fun i v42 k0_hw7 k0_h5 => k0_hw7.1 k0_h5
theorem k0_t11_ok : ∀ (i : grid0.Coords) (v42 : BitVec 32) (k0_hw7 : k0_chk7 i v42), ∀ (k0_h5 : k0_cond5 i = 1#1), (k0_t11_loop v42).OK := fun i v42 k0_hw7 k0_h5 => k0_hw7.2 k0_h5

def k0_off32 (i : grid0.Coords) : Fin 1 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  ![v10.toNat]
def k0_off33 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let c0_i32_33 : BitVec 32 := 0#32
  let c0_i32_34 : BitVec 32 := 0#32
  ![v10.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c575_i32 : BitVec 32 := 575#32
  let v1 : BitVec 32 := Scalar.minsi v0 c575_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S34816x2048 : Shape := ⟨2, ![34816, 2048]⟩
abbrev S576 : Shape := ⟨1, ![576]⟩
abbrev S576x1x256 : Shape := ⟨3, ![576, 1, 256]⟩
abbrev S32x2048x2048 : Shape := ⟨3, ![32, 2048, 2048]⟩
abbrev S32x1x2048 : Shape := ⟨3, ![32, 1, 2048]⟩
abbrev S32x1024x2048 : Shape := ⟨3, ![32, 1024, 2048]⟩
abbrev S256 : Shape := ⟨1, ![256]⟩
abbrev S1x256 : Shape := ⟨2, ![1, 256]⟩
abbrev S576x1 : Shape := ⟨2, ![576, 1]⟩
abbrev S576x256 : Shape := ⟨2, ![576, 256]⟩
abbrev S147456 : Shape := ⟨1, ![147456]⟩
abbrev S_ : Shape := ⟨0, ![]⟩
abbrev S139264 : Shape := ⟨1, ![139264]⟩
abbrev S147456x1 : Shape := ⟨2, ![147456, 1]⟩
abbrev S139264x1 : Shape := ⟨2, ![139264, 1]⟩
abbrev S139264x2048 : Shape := ⟨2, ![139264, 2048]⟩
abbrev S139264x2048x2048 : Shape := ⟨3, ![139264, 2048, 2048]⟩
abbrev S139264x1x2048 : Shape := ⟨3, ![139264, 1, 2048]⟩
abbrev S139264x1024x2048 : Shape := ⟨3, ![139264, 1024, 2048]⟩
abbrev S139264x1x1024 : Shape := ⟨3, ![139264, 1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S34816x2048, .f32⟩
  | .hbm, ⟨1, _⟩ => ⟨S576, .i32⟩
  | .hbm, ⟨2, _⟩ => ⟨S576, .i32⟩
  | .hbm, ⟨3, _⟩ => ⟨S576x1x256, .i32⟩
  | .hbm, ⟨4, _⟩ => ⟨S576x1x256, .i32⟩
  | .hbm, ⟨5, _⟩ => ⟨S32x2048x2048, .bf16⟩
  | .hbm, ⟨6, _⟩ => ⟨S32x1x2048, .f32⟩
  | .hbm, ⟨7, _⟩ => ⟨S32x1024x2048, .bf16⟩
  | .hbm, ⟨8, _⟩ => ⟨S32x1x2048, .f32⟩
  | .hbm, ⟨9, _⟩ => ⟨S256, .i32⟩
  | .hbm, ⟨10, _⟩ => ⟨S1x256, .i32⟩
  | .hbm, ⟨11, _⟩ => ⟨S576x1, .i32⟩
  | .hbm, ⟨12, _⟩ => ⟨S576x256, .i32⟩
  | .hbm, ⟨13, _⟩ => ⟨S576x256, .i32⟩
  | .hbm, ⟨14, _⟩ => ⟨S576x256, .i1⟩
  | .hbm, ⟨15, _⟩ => ⟨S147456, .i1⟩
  | .hbm, ⟨16, _⟩ => ⟨S147456, .i32⟩
  | .hbm, ⟨17, _⟩ => ⟨S147456, .i32⟩
  | .hbm, ⟨18, _⟩ => ⟨S_, .i32⟩
  | .hbm, ⟨19, _⟩ => ⟨S139264, .i32⟩
  | .hbm, ⟨20, _⟩ => ⟨S_, .i32⟩
  | .hbm, ⟨21, _⟩ => ⟨S_, .i32⟩
  | .hbm, ⟨22, _⟩ => ⟨S147456, .i32⟩
  | .hbm, ⟨23, _⟩ => ⟨S147456, .i32⟩
  | .hbm, ⟨24, _⟩ => ⟨S_, .i32⟩
  | .hbm, ⟨25, _⟩ => ⟨S147456, .i32⟩
  | .hbm, ⟨26, _⟩ => ⟨S147456, .i1⟩
  | .hbm, ⟨27, _⟩ => ⟨S_, .i32⟩
  | .hbm, ⟨28, _⟩ => ⟨S147456, .i32⟩
  | .hbm, ⟨29, _⟩ => ⟨S147456, .i32⟩
  | .hbm, ⟨30, _⟩ => ⟨S147456, .i32⟩
  | .hbm, ⟨31, _⟩ => ⟨S147456x1, .i32⟩
  | .hbm, ⟨32, _⟩ => ⟨S139264, .i32⟩
  | .hbm, ⟨33, _⟩ => ⟨S576x1, .i32⟩
  | .hbm, ⟨34, _⟩ => ⟨S576x256, .i32⟩
  | .hbm, ⟨35, _⟩ => ⟨S147456, .i32⟩
  | .hbm, ⟨36, _⟩ => ⟨S139264x1, .i32⟩
  | .hbm, ⟨37, _⟩ => ⟨S139264, .i32⟩
  | .hbm, ⟨38, _⟩ => ⟨S147456, .i32⟩
  | .hbm, ⟨39, _⟩ => ⟨S139264x1, .i32⟩
  | .hbm, ⟨40, _⟩ => ⟨S139264, .i32⟩
  | .hbm, ⟨41, _⟩ => ⟨S139264x1, .i32⟩
  | .hbm, ⟨42, _⟩ => ⟨S139264x2048, .f32⟩
  | .hbm, ⟨43, _⟩ => ⟨S139264x1, .i32⟩
  | .hbm, ⟨44, _⟩ => ⟨S139264x2048x2048, .bf16⟩
  | .hbm, ⟨45, _⟩ => ⟨S139264x2048x2048, .f32⟩
  | .hbm, ⟨46, _⟩ => ⟨S139264x1, .i32⟩
  | .hbm, ⟨47, _⟩ => ⟨S139264x1x2048, .f32⟩
  | .hbm, ⟨48, _⟩ => ⟨S139264x1, .i32⟩
  | .hbm, ⟨49, _⟩ => ⟨S139264x1024x2048, .bf16⟩
  | .hbm, ⟨50, _⟩ => ⟨S139264x1024x2048, .f32⟩
  | .hbm, ⟨51, _⟩ => ⟨S139264x1, .i32⟩
  | .hbm, ⟨52, _⟩ => ⟨S139264x1x2048, .f32⟩
  | .hbm, ⟨53, _⟩ => ⟨S139264x1x2048, .f32⟩
  | .hbm, ⟨54, _⟩ => ⟨S139264x1x2048, .f32⟩
  | .hbm, ⟨55, _⟩ => ⟨S139264x1x2048, .f32⟩
  | .hbm, ⟨56, _⟩ => ⟨S139264x1x1024, .f32⟩
  | .hbm, ⟨57, _⟩ => ⟨S_, .f32⟩
  | .hbm, ⟨58, _⟩ => ⟨S139264x1x1024, .f32⟩
  | .hbm, ⟨59, _⟩ => ⟨S139264x1x1024, .f32⟩
  | .hbm, ⟨60, _⟩ => ⟨S139264x1x1024, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S139264x1x1024, .f32⟩
  | .hbm, ⟨65, _⟩ => ⟨S139264x1x1024, .f32⟩
  | .hbm, ⟨66, _⟩ => ⟨S_, .f32⟩
  | .hbm, ⟨67, _⟩ => ⟨S139264x1x1024, .f32⟩
  | .hbm, ⟨68, _⟩ => ⟨S139264x1x1024, .f32⟩
  | .hbm, ⟨69, _⟩ => ⟨S_, .f32⟩
  | .hbm, ⟨70, _⟩ => ⟨S139264x1x1024, .f32⟩
  | .hbm, ⟨71, _⟩ => ⟨S139264x1x1024, .f32⟩
  | .hbm, ⟨72, _⟩ => ⟨S139264x1x1024, .f32⟩
  | .hbm, ⟨73, _⟩ => ⟨S139264x1x1024, .f32⟩
  | .hbm, ⟨74, _⟩ => ⟨S_, .f32⟩
  | .hbm, ⟨75, _⟩ => ⟨S139264x1x1024, .f32⟩
  | .hbm, ⟨76, _⟩ => ⟨S139264x1x1024, .f32⟩
  | .hbm, ⟨77, _⟩ => ⟨S_, .f32⟩
  | .hbm, ⟨78, _⟩ => ⟨S139264x1x1024, .f32⟩
  | .hbm, ⟨79, _⟩ => ⟨S139264x1x1024, .f32⟩
  | .hbm, ⟨80, _⟩ => ⟨S139264x1x1024, .f32⟩
  | .hbm, ⟨81, _⟩ => ⟨S_, .f32⟩
  | .hbm, ⟨82, _⟩ => ⟨S139264x1x1024, .f32⟩
  | .hbm, ⟨83, _⟩ => ⟨S139264x1x1024, .f32⟩
  | .hbm, ⟨84, _⟩ => ⟨S139264x1x1024, .f32⟩
  | .hbm, ⟨85, _⟩ => ⟨S139264x1x2048, .f32⟩
  | .hbm, ⟨86, _⟩ => ⟨S139264x1x2048, .f32⟩
  | .hbm, ⟨87, _⟩ => ⟨S139264x2048, .f32⟩
  | _, _ => ⟨S34816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_v0 : Ref sig .tc := ⟨.hbm, 36, rfl⟩
abbrev main_v21 : Ref sig .tc := ⟨.hbm, 37, rfl⟩
abbrev main_v22 : Ref sig .tc := ⟨.hbm, 38, rfl⟩
abbrev main_call2_v0 : Ref sig .tc := ⟨.hbm, 39, rfl⟩
abbrev main_v23 : Ref sig .tc := ⟨.hbm, 40, rfl⟩
abbrev main_call3_v0 : Ref sig .tc := ⟨.hbm, 41, rfl⟩
abbrev main_v24 : Ref sig .tc := ⟨.hbm, 42, rfl⟩
abbrev main_call4_v0 : Ref sig .tc := ⟨.hbm, 43, rfl⟩
abbrev main_v25 : Ref sig .tc := ⟨.hbm, 44, rfl⟩
abbrev main_v26 : Ref sig .tc := ⟨.hbm, 45, rfl⟩
abbrev main_call5_v0 : Ref sig .tc := ⟨.hbm, 46, rfl⟩
abbrev main_v27 : Ref sig .tc := ⟨.hbm, 47, rfl⟩
abbrev main_call6_v0 : Ref sig .tc := ⟨.hbm, 48, rfl⟩
abbrev main_v28 : Ref sig .tc := ⟨.hbm, 49, rfl⟩
abbrev main_v29 : Ref sig .tc := ⟨.hbm, 50, rfl⟩
abbrev main_call7_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_cst_4 : Ref sig .tc := ⟨.hbm, 62, rfl⟩
abbrev main_call8_v0 : Ref sig .tc := ⟨.hbm, 63, rfl⟩
abbrev main_call8_v1 : Ref sig .tc := ⟨.hbm, 64, rfl⟩
abbrev main_call8_v2 : Ref sig .tc := ⟨.hbm, 65, rfl⟩
abbrev main_call8_v3 : Ref sig .tc := ⟨.hbm, 66, rfl⟩
abbrev main_call8_v4 : Ref sig .tc := ⟨.hbm, 67, rfl⟩
abbrev main_v38 : Ref sig .tc := ⟨.hbm, 68, rfl⟩
abbrev main_cst_5 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_6 : Ref sig .tc := ⟨.hbm, 74, rfl⟩
abbrev main_v43 : Ref sig .tc := ⟨.hbm, 75, rfl⟩
abbrev main_v44 : Ref sig .tc := ⟨.hbm, 76, rfl⟩
abbrev main_cst_7 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_8 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩

abbrev nD : Nat := 1
abbrev τ : Topo := Topo.v7x

variable {F : FTy → Type} [FloatOps F]
-- ==== Proof.KernelHead.lean ====
module

public import proofs.«01_k».proof.Proof.Gen.KernelIdeal.Value
public import Idealize.ShloMosaic.PureOps.Ideal
public import Idealize.ShloMosaic.Lib.Pointwise

@[expose] public section

set_option maxRecDepth 16384

noncomputable section

namespace Cert.Proof

open Idealize.ShloMosaic Idealize.SL.Sem Cert.KernelIdeal Cert.KernelIdeal.Gen

/-- One 64 × 128 tile of the first head's bias: the entry of the staged table that key-row pair `kp` of query row `rl` selects. -/
def tileLo (i : grid0.Coords) (z : Vec Ideal S2x45x64x128 .f32) (rl kp : Fin 8) : FVec Ideal S64x128 .f32 :=
  shapeCast S64x128 (View.ld z (Rect.unit (k0_off2 i (BitVec.ofNat 32 (2 * kp.val)) (BitVec.ofNat 32 rl.val)) S1x1x64x128.size
    (k0_off2_inb i kp rl)) : Vec Ideal S1x1x64x128 .f32) shapeCasts_S1x1x64x128_S64x128

/-- The same tile for the second head. -/
def tileHi (i : grid0.Coords) (z : Vec Ideal S2x45x64x128 .f32) (rl kp : Fin 8) : FVec Ideal S64x128 .f32 :=
  shapeCast S64x128 (View.ld z (Rect.unit (k0_off3 i (BitVec.ofNat 32 (2 * kp.val)) (BitVec.ofNat 32 rl.val)) S1x1x64x128.size
    (k0_off3_inb i kp rl)) : Vec Ideal S1x1x64x128 .f32) shapeCasts_S1x1x64x128_S64x128

/-- A query row's bias: eight tiles side by side, then 256 zero columns for the context keys. -/
def biasRow (t : Fin 8 → FVec Ideal S64x128 .f32) : FVec Ideal S64x1280 .f32 :=
  concatenate S64x1280 1 [⟨S64x128, t 0⟩, ⟨S64x128, t 1⟩, ⟨S64x128, t 2⟩, ⟨S64x128, t 3⟩, ⟨S64x128, t 4⟩, ⟨S64x128, t 5⟩,
    ⟨S64x128, t 6⟩, ⟨S64x128, t 7⟩, ⟨S64x256, broadcast S64x256 (Scalar.ofBits .f32 0x00000000#32)⟩]
    concatenates_S64x128_S64x128_S64x128_S64x128_S64x128_S64x128_S64x128_S64x128_S64x256_S64x1280_d1

/-- The bias of a block of eight query rows: the rows' biases stacked. -/
def biasAll (t : Fin 8 → Fin 8 → FVec Ideal S64x128 .f32) : FVec Ideal S512x1280 .f32 :=
  concatenate S512x1280 0 [⟨S64x1280, biasRow (t 0)⟩, ⟨S64x1280, biasRow (t 1)⟩, ⟨S64x1280, biasRow (t 2)⟩, ⟨S64x1280, biasRow (t 3)⟩,
    ⟨S64x1280, biasRow (t 4)⟩, ⟨S64x1280, biasRow (t 5)⟩, ⟨S64x1280, biasRow (t 6)⟩, ⟨S64x1280, biasRow (t 7)⟩]
    concatenates_S64x1280_S64x1280_S64x1280_S64x1280_S64x1280_S64x1280_S64x1280_S64x1280_S512x1280_d0

/-- The scores of a block: masked queries against the window's and the context's keys, plus the bias. -/
def scores (qh : FVec Ideal S512x128 .bf16) (keys : FVec Ideal S1280x128 .bf16) (B : FVec Ideal S512x1280 .f32) :
    FVec Ideal S512x1280 .f32 :=
  addf (matmul dot_S512x128_S1280x128_S512x1280_1_1_0_0_n_n none qh keys (constant S512x1280 .f32 0x00000000#32)) B

/-- The exponentials of the scores less their row's maximum. -/
def expScores (s : FVec Ideal S512x1280 .f32) : FVec Ideal S512x1280 .f32 :=
  exp (subf s (broadcastTo S512x1280 (shapeCast S512x1 (multiReduction .maximumf [1] S512 s 0xFF800000#32 reduces_S512x1280_S512
    (.inl rfl) rfl) shapeCasts_S512_S512x1) broadcasts_S512x1_S512x1280))

/-- One head's output over a block: the weighted sum of the values over the sum of the weights. -/
def headOut (p : FVec Ideal S512x1280 .f32) (vals : FVec Ideal S1280x128 .bf16) : FVec Ideal S512x128 .f32 :=
  divf (matmul dot_S512x1280_S1280x128_S512x128_1_0_0_1_n_n none (truncf .bf16 p bitsLt_bf16_f32) vals
      (constant S512x128 .f32 0x00000000#32))
    (broadcastTo S512x128 (shapeCast S512x1 (multiReduction .add [1] S512 p 0x00000000#32 reduces_S512x1280_S512
      (.inl rfl) rfl) shapeCasts_S512_S512x1) broadcasts_S512x1_S512x128)

/-- The window's rows of a batch's keys (or values) with the context's below. -/
def withCtx (i : grid0.Coords) (x : Vec Ideal S4096x128 .bf16) (xc : Vec Ideal S256x128 .bf16) : FVec Ideal S1280x128 .bf16 :=
  concatenate S1280x128 0 [⟨S1024x128, (View.ld x (Rect.unit (k0_off1 i) S1024x128.size (k0_off1_inb i)) : Vec Ideal S1024x128 .bf16)⟩,
    ⟨S256x128, xc⟩] concatenates_S1024x128_S256x128_S1280x128_d0

/-- The queries scaled by 1/8. -/
def scaledQ (q : Vec Ideal S512x128 .bf16) : FVec Ideal S512x128 .bf16 :=
  mulf q (broadcast S512x128 (Scalar.ofBits .bf16 0x3E00#16))

/-- The lanes of the first head. -/
def loLanes : IVec S512x128 1 := cmpi .slt (iota .tc S512x128 32 [1] iota_S512x128_d1_w32) (broadcast S512x128 64#32)

/-- The queries with the other head's lanes zeroed. -/
def laneQ (sel : IVec S512x128 1) (q : Vec Ideal S512x128 .bf16) : FVec Ideal S512x128 .bf16 :=
  select sel (scaledQ q) (broadcast S512x128 (Scalar.ofBits .bf16 0x0000#16))

/-- A block's output: both heads' outputs, each in its own lanes. -/
def blockOut (i : grid0.Coords) (x0 : Vec Ideal S512x128 .bf16) (x1 x2 : Vec Ideal S4096x128 .bf16)
    (x3 x4 : Vec Ideal S256x128 .bf16) (x5 : Vec Ideal S2x45x64x128 .f32) : FVec Ideal S512x128 .bf16 :=
  truncf .bf16 (select loLanes
    (headOut (expScores (scores (laneQ loLanes x0) (withCtx i x1 x3) (biasAll (tileLo i x5)))) (withCtx i x2 x4))
    (headOut (expScores (scores (laneQ (xori loLanes (constantI S512x128 1 1#1)) x0) (withCtx i x1 x3) (biasAll (tileHi i x5))))
      (withCtx i x2 x4))) bitsLt_bf16_f32

set_option maxHeartbeats 4000000 in
/-- What the body leaves in the output's staging buffer is `blockOut` of the staged inputs. -/
theorem out_eq (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S2x45x64x128 .f32) (harg8 : arg8.IsWhole) (arg9 : Memref sig .tc .vmem S512x128 .bf16) (harg9 : arg9.IsWhole)
    (x0 : Vec Ideal S512x128 .bf16) (x1 : Vec Ideal S4096x128 .bf16) (x2 : Vec Ideal S4096x128 .bf16) (x3 : Vec Ideal S256x128 .bf16) (x4 : Vec Ideal S256x128 .bf16) (x5 : Vec Ideal S2x45x64x128 .f32) :
    out0_A_6 c i arg3 harg3 arg4 harg4 arg5 harg5 arg6 harg6 arg7 harg7 arg8 harg8 arg9 harg9 x0 x1 x2 x3 x4 x5
      = blockOut i x0 x1 x2 x3 x4 x5 := by
  unfold out0_A_6
  rw [View.read_writes_eq_canon _ _ _ (cover0_A_6 c i arg3 harg3 arg4 harg4 arg5 harg5 arg6 harg6 arg7 harg7 arg8 harg8 arg9 harg9 x0 x1 x2 x3 x4 x5)]
  unfold kernelRun0_A
  dsimp only
  sl_unfold_words
  simp only [View.readAt_eq_ld, harg3.read_unread, harg4.read_unread, harg5.read_unread, harg6.read_unread, harg7.read_unread, harg8.read_unread]
  rw [View.canon_unit_zero (by decide)]
  rw [View.ld_unit_zero (by decide) _ x0, View.ld_unit_zero (by decide) _ x3, View.ld_unit_zero (by decide) _ x4]
  rfl

end Cert.Proof

end
-- ==== Proof.KernelIndex.lean ====
module

public import proofs.«01_k».proof.Proof.KernelHead
public import Idealize.ShloMosaic.Lib.Pipeline.ValueKit.Tiles

@[expose] public section

set_option maxRecDepth 16384

noncomputable section

namespace Cert.Proof

open Idealize.ShloMosaic Idealize.SL.Sem Cert.KernelIdeal Cert.KernelIdeal.Gen

/-- The f32 word of −∞ reads as `⊥`. -/
theorem negInf_f32 : Ideal.ofBits .f32 0xFF800000#32 = ⊥ := by simp [Ideal.ofBits, Ideal.ieee]

/-- The bf16 word of 1/8. -/
theorem eighth_bf16 : Ideal.ofBits .bf16 0x3E00#16 = ((1 / 8 : ℝ) : EReal) := by
  simp [Ideal.ofBits, Ideal.ieee]; rw [← EReal.coe_mul]; norm_num

/-- The f32 word of 1/8. -/
theorem eighth_f32 : Ideal.ofBits .f32 0x3E000000#32 = ((1 / 8 : ℝ) : EReal) := by
  simp [Ideal.ofBits, Ideal.ieee]; rw [← EReal.coe_mul]; norm_num

/-- `headOut` at an index: the weighted sum of a lane's values over the sum of the row's weights. -/
theorem headOut_apply (p : FVec Ideal S512x1280 .f32) (vals : FVec Ideal S1280x128 .bf16) (r : Fin 512) (l : Fin 128) :
    headOut p vals (ix2 r l)
      = Ideal.div (∑ k : Fin 1280, p (ix2 r k) * vals (ix2 k l)) (∑ k : Fin 1280, p (ix2 r k)) := by
  unfold headOut
  pointwise

/-- `expScores` at an index: the exponential of the score less the row's maximum. -/
theorem expScores_apply (s : FVec Ideal S512x1280 .f32) (r : Fin 512) (k : Fin 1280) :
    expScores s (ix2 r k) = Ideal.exp (s (ix2 r k) - Finset.univ.fold max ⊥ fun k' : Fin 1280 => s (ix2 r k')) := by
  unfold expScores
  pointwise
  rw [negInf_f32]

/-- `scores` at an index: the inner product over the 128 lanes plus the bias. -/
theorem scores_apply (qh : FVec Ideal S512x128 .bf16) (keys : FVec Ideal S1280x128 .bf16) (B : FVec Ideal S512x1280 .f32)
    (r : Fin 512) (k : Fin 1280) :
    scores qh keys B (ix2 r k) = (∑ d : Fin 128, qh (ix2 r d) * keys (ix2 k d)) + B (ix2 r k) := by
  unfold scores
  pointwise

/-- The first 1024 rows of `withCtx` are the window's. -/
theorem withCtx_win (i : grid0.Coords) (x : Vec Ideal S4096x128 .bf16) (xc : Vec Ideal S256x128 .bf16)
    (k : Fin 1280) (hk : k.val < 1024) (d : Fin 128) (n : Fin 4096) (hn : n.val = k0_off1 i 0 + k) :
    withCtx i x xc (ix2 k d) = x (ix2 n d) := by
  unfold withCtx
  pointwise
  rw [dif_pos hk]
  congr 1
  funext a
  match a with
  | ⟨0, _⟩ => exact Fin.ext hn.symm
  | ⟨1, _⟩ => exact Fin.ext (Nat.zero_add _)

/-- Its last 256 rows are the context's. -/
theorem withCtx_ctx (i : grid0.Coords) (x : Vec Ideal S4096x128 .bf16) (xc : Vec Ideal S256x128 .bf16)
    (k : Fin 256) (d : Fin 128) :
    withCtx i x xc (ix2 ⟨1024 + k, by omega⟩ d) = xc (ix2 k d) := by
  unfold withCtx
  pointwise

/-- Whether a lane's number is below 64, as a bit. -/
theorem lane_bit (d : Fin 128) : IntOp.cmpi CmpIPredicate.slt (BitVec.ofNat 32 d.val) 64#32 = if d.val < 64 then 1#1 else 0#1 := by
  revert d; decide +kernel

/-- The first head's queries: 1/8 of the query on the first 64 lanes, zero on the others. -/
theorem laneQ_lo (q : Vec Ideal S512x128 .bf16) (r : Fin 512) (d : Fin 128) :
    laneQ loLanes q (ix2 r d) = if d.val < 64 then q (ix2 r d) * ((1 / 8 : ℝ) : EReal) else 0 := by
  unfold laneQ loLanes scaledQ
  pointwise
  rw [lane_bit, eighth_bf16]
  split_ifs <;> rfl

/-- The second head's queries: 1/8 of the query on the last 64 lanes, zero on the others. -/
theorem laneQ_hi (q : Vec Ideal S512x128 .bf16) (r : Fin 512) (d : Fin 128) :
    laneQ (xori loLanes (constantI S512x128 1 1#1)) q (ix2 r d) = if d.val < 64 then 0 else q (ix2 r d) * ((1 / 8 : ℝ) : EReal) := by
  unfold laneQ loLanes scaledQ
  pointwise
  rw [lane_bit, eighth_bf16]
  split_ifs <;> rfl

/-- A cast of a 1 × 1 × 64 × 128 block to 64 × 128, at an index. -/
theorem cast_tile (w : Vec Ideal S1x1x64x128 .f32) (a : Fin 64) (b : Fin 128) :
    shapeCast S64x128 w shapeCasts_S1x1x64x128_S64x128 (ix2 a b) = w (ix4 0 0 a b) := by
  pointwise

/-- The first head's tile, at an index, is the selected entry of the staged table. -/
theorem tileLo_apply (i : grid0.Coords) (z : Vec Ideal S2x45x64x128 .f32) (rl kp : Fin 8) (a : Fin 64) (b : Fin 128)
    (n : Fin 45) (hn : n.val = k0_off2 i (BitVec.ofNat 32 (2 * kp.val)) (BitVec.ofNat 32 rl.val) 1) :
    tileLo i z rl kp (ix2 a b) = z (ix4 0 n a b) := by
  unfold tileLo
  rw [cast_tile]
  exact View.ld_unit_apply_of z _ _ _ _ _ (fun c => by
    match c with
    | ⟨0, _⟩ => rfl
    | ⟨1, _⟩ => exact hn
    | ⟨2, _⟩ => exact (Nat.zero_add _).symm
    | ⟨3, _⟩ => exact (Nat.zero_add _).symm)

/-- The second head's. -/
theorem tileHi_apply (i : grid0.Coords) (z : Vec Ideal S2x45x64x128 .f32) (rl kp : Fin 8) (a : Fin 64) (b : Fin 128)
    (n : Fin 45) (hn : n.val = k0_off3 i (BitVec.ofNat 32 (2 * kp.val)) (BitVec.ofNat 32 rl.val) 1) :
    tileHi i z rl kp (ix2 a b) = z (ix4 1 n a b) := by
  unfold tileHi
  rw [cast_tile]
  exact View.ld_unit_apply_of z _ _ _ _ _ (fun c => by
    match c with
    | ⟨0, _⟩ => rfl
    | ⟨1, _⟩ => exact hn
    | ⟨2, _⟩ => exact (Nat.zero_add _).symm
    | ⟨3, _⟩ => exact (Nat.zero_add _).symm)

/-- A row's bias on the window's columns: column `b` of tile `kp`. -/
theorem biasRow_win (t : Fin 8 → FVec Ideal S64x128 .f32) (kp : Fin 8) (a : Fin 64) (b : Fin 128) :
    biasRow t (ix2 a ⟨128 * kp + b, by omega⟩) = t kp (ix2 a b) := by
  unfold biasRow
  fin_cases kp <;> pointwise
  all_goals
    repeat first | rw [dif_pos (by omega)] | rw [dif_neg (by omega)]
    try exact congrArg _ (congrArg (ix2 a ·) (Fin.ext (by simp only []; omega)))

/-- A row's bias on the context's columns is zero. -/
theorem biasRow_ctx (t : Fin 8 → FVec Ideal S64x128 .f32) (a : Fin 64) (b : Fin 256) :
    biasRow t (ix2 a ⟨1024 + b, by omega⟩) = 0 := by
  unfold biasRow
  pointwise
  repeat rw [dif_neg (by omega)]

/-- The block's bias is its rows' biases stacked. -/
theorem biasAll_apply (t : Fin 8 → Fin 8 → FVec Ideal S64x128 .f32) (rl : Fin 8) (a : Fin 64) (c : Fin 1280) :
    biasAll t (ix2 ⟨64 * rl + a, by omega⟩ c) = biasRow (t rl) (ix2 a c) := by
  unfold biasAll
  generalize hb : (fun n => biasRow (t n)) = w
  have e : ∀ n, biasRow (t n) = w n := fun n => congrFun hb n
  simp only [e]
  fin_cases rl <;> pointwise
  all_goals
    repeat first | rw [dif_pos (by omega)] | rw [dif_neg (by omega)]
    try exact congrArg _ (congrArg (ix2 · _) (Fin.ext (by simp only []; omega)))

end Cert.Proof

end
-- ==== Proof.Spec.lean ====
module

public import proofs.«01_k».proof.Proof.KernelIndex

@[expose] public section

set_option maxRecDepth 16384

noncomputable section

namespace Cert.Proof

open Idealize.ShloMosaic Idealize.SL.Sem Cert.KernelIdeal Cert.KernelIdeal.Gen

/-- The first key row of query row `r`'s neighbourhood. -/
def row0 (r : ℕ) : ℕ := min 56 (r - 4)

/-- The first key row of the sixteen that serve the block `g` of eight query rows. -/
def win0 (g : ℕ) : ℕ := min 48 (8 * g - 4)

/-- Column `x` is one of query column `a`'s neighbours. -/
def colOk (a x : ℕ) : Prop := min 48 (a - 8) ≤ x ∧ x < min 48 (a - 8) + 16

instance (a x : ℕ) : Decidable (colOk a x) := inferInstanceAs (Decidable (_ ∧ _))

/-- The relative column's place in the bias array. -/
def colOff (a x : ℕ) : ℕ := min 30 (x + 15 - a)

/-- The row offset that half `lh` of entry `n` of the kernel's table holds, if it holds one. -/
def tabRow (n lh : ℕ) : Option ℕ :=
  if n < 14 then some (n + lh)
  else if n < 29 then (if lh = 0 then some (n - 14) else none)
  else if n < 44 then (if lh = 0 then none else some (n - 29))
  else none

/-- The row offset of key row `k` for query row `r`, if `k` lies in its neighbourhood. -/
def bandRow (r k : ℕ) : Option ℕ := if row0 r ≤ k ∧ k < row0 r + 8 then some (k + 7 - r) else none

/-- Grid coordinates with a given block of query rows. -/
def coordOf (g : Fin 8) : grid0.Coords := fun a => match a with
  | ⟨0, _⟩ => (0 : Fin 8)
  | ⟨1, _⟩ => (0 : Fin 8)
  | ⟨2, _⟩ => g

/-- The table entries' numbers are below 45. -/
theorem code_lt : ∀ g rl kp : Fin 8, k0_off2 (coordOf g) (BitVec.ofNat 32 (2 * kp.val)) (BitVec.ofNat 32 rl.val) 1 < 45 := by
  decide +kernel

/-- Both halves of the selected table entry hold the row offsets of the two key rows it stands for. -/
theorem code_row : ∀ g rl kp : Fin 8, ∀ lh : Fin 2,
    tabRow (k0_off2 (coordOf g) (BitVec.ofNat 32 (2 * kp.val)) (BitVec.ofNat 32 rl.val) 1) lh.val
      = bandRow (8 * g.val + rl.val) (win0 g.val + (2 * kp.val + lh.val)) := by
  decide +kernel

/-- The window's first row of keys. -/
theorem off_row : ∀ g : Fin 8, k0_off1 (coordOf g) 0 = 64 * win0 g.val := by decide +kernel

/-- The block of query rows of a grid point. -/
def rowBlock (i : grid0.Coords) : Fin 8 := i 2

/-- The three load offsets depend on the coordinates only through the block of query rows. -/
theorem off1_coord (i : grid0.Coords) : k0_off1 i = k0_off1 (coordOf (rowBlock i)) := rfl
/-- The same for the first head's table loads. -/
theorem off2_coord (i : grid0.Coords) (c d : BitVec 32) : k0_off2 i c d = k0_off2 (coordOf (rowBlock i)) c d := rfl
/-- The second head's table loads select the same entries. -/
theorem off3_coord (i : grid0.Coords) (c d : BitVec 32) : k0_off3 i c d 1 = k0_off2 (coordOf (rowBlock i)) c d 1 := rfl

/-- An array of rank 2 read at two numbers (0 outside). -/
def at2 {m n : ℕ} (X : Shape.Idx ⟨2, ![m, n]⟩ → EReal) (r c : ℕ) : EReal :=
  if h : r < m ∧ c < n then X (ix2 ⟨r, h.1⟩ ⟨c, h.2⟩) else 0

/-- The bias array at a head, a row offset and a column offset (0 outside). -/
def at3 (B : S1x16x15x31.Idx → EReal) (h j c : ℕ) : EReal :=
  if H : h < 16 ∧ j < 15 ∧ c < 31 then B (ix4 0 ⟨h, H.1⟩ ⟨j, H.2.1⟩ ⟨c, H.2.2⟩) else 0

/-- The scaled inner product of head `h` between query row `q` and key row `n` of the projections. -/
def dot (X : S34816x3072.Idx → EReal) (h q n : ℕ) : EReal :=
  ∑ d : Fin 64, at2 X q (64 * h + d) * ((1 / 8 : ℝ) : EReal) * at2 X n (1024 + 64 * h + d)

/-- The bias between columns `a` and `x` at a row offset, −∞ where there is none or the columns are no neighbours. -/
def zval (B : S1x16x15x31.Idx → EReal) (h a x : ℕ) : Option ℕ → EReal
  | some j => if colOk a x then at3 B h j (colOff a x) else ⊥
  | none => ⊥

/-- The kernel's score of the key at place `k` of its 1280, for batch `b`, head `h`, query row `r`, column `a`. -/
def kScore (X : S34816x3072.Idx → EReal) (B : S1x16x15x31.Idx → EReal) (b h r a : ℕ) (k : Fin 1280) : EReal :=
  if k.val < 1024 then
    dot X h (4096 * b + 64 * r + a) (4096 * b + 64 * win0 (r / 8) + k) + zval B h a (k % 64) (bandRow r (win0 (r / 8) + k / 64))
  else dot X h (4096 * b + 64 * r + a) (32768 + 256 * b + (k - 1024))

/-- The kernel's value at place `k`, lane `d`. -/
def kVal (X : S34816x3072.Idx → EReal) (b h r d : ℕ) (k : Fin 1280) : EReal :=
  if k.val < 1024 then at2 X (4096 * b + 64 * win0 (r / 8) + k) (2048 + 64 * h + d)
  else at2 X (32768 + 256 * b + (k - 1024)) (2048 + 64 * h + d)

/-- The weighted average of `V` with weights the exponentials of `S` less its maximum, divided once at the end. -/
def softAvg {n : ℕ} (S V : Fin n → EReal) : EReal :=
  Ideal.div (∑ k, Ideal.exp (S k - Finset.univ.fold max ⊥ S) * V k) (∑ k, Ideal.exp (S k - Finset.univ.fold max ⊥ S))

end Cert.Proof

end
-- ==== Proof.Block.lean ====
module

public import proofs.«01_k».proof.Proof.Spec

@[expose] public section

set_option maxRecDepth 16384

noncomputable section

namespace Cert.Proof

open Idealize.ShloMosaic Idealize.SL.Sem Cert.KernelIdeal Cert.KernelIdeal.Gen

/-- A place among the 1280 keys is a lane of one of eight tiles, or one of the 256 context keys. -/
theorem place_cases (k : Fin 1280) :
    (∃ (kp : Fin 8) (l : Fin 128), k = ⟨128 * kp + l, by omega⟩) ∨ ∃ j : Fin 256, k = ⟨1024 + j, by omega⟩ := by
  by_cases h : k.val < 1024
  · exact .inl ⟨⟨k.val / 128, by omega⟩, ⟨k.val % 128, by omega⟩, Fin.ext (by simp only []; omega)⟩
  · exact .inr ⟨⟨k.val - 1024, by omega⟩, Fin.ext (by simp only []; omega)⟩

/-- A sum over 128 lanes with the last 64 zeroed. -/
theorem sum_lo (f g : Fin 128 → EReal) (s : Fin 128 → EReal) (hs : ∀ d, s d = if d.val < 64 then f d else 0) :
    ∑ d, s d * g d = ∑ d : Fin 64, f ⟨d, by omega⟩ * g ⟨d, by omega⟩ := by
  rw [show (∑ d, s d * g d) = ∑ d : Fin (64 + 64), s d * g d from rfl, Fin.sum_univ_add]
  rw [show (∑ i : Fin 64, s (Fin.natAdd 64 i) * g (Fin.natAdd 64 i)) = 0 from
    Finset.sum_eq_zero fun i _ => by rw [hs, if_neg (by simp), zero_mul], add_zero]
  refine Finset.sum_congr rfl fun i _ => ?_
  rw [hs, if_pos (by simp)]
  rfl

/-- A sum over 128 lanes with the first 64 zeroed. -/
theorem sum_hi (f g : Fin 128 → EReal) (s : Fin 128 → EReal) (hs : ∀ d, s d = if d.val < 64 then 0 else f d) :
    ∑ d, s d * g d = ∑ d : Fin 64, f ⟨64 + d, by omega⟩ * g ⟨64 + d, by omega⟩ := by
  rw [show (∑ d, s d * g d) = ∑ d : Fin (64 + 64), s d * g d from rfl, Fin.sum_univ_add]
  rw [show (∑ i : Fin 64, s (Fin.castAdd 64 i) * g (Fin.castAdd 64 i)) = 0 from
    Finset.sum_eq_zero fun i _ => by rw [hs, if_pos (by simp), zero_mul], zero_add]
  refine Finset.sum_congr rfl fun i _ => ?_
  rw [hs, if_neg (by simp)]
  rfl

/-- Two reads of an array at equal numbers agree. -/
theorem at2_congr {m n : ℕ} (X : Shape.Idx ⟨2, ![m, n]⟩ → EReal) {r r' c c' : ℕ} (hr : r = r') (hc : c = c') :
    at2 X r c = at2 X r' c' := by rw [hr, hc]

/-- A selection by a decided bit. -/
theorem select_ite {α : Type} (p : Prop) [Decidable p] (x y : α) :
    Scalar.select (if p then 1#1 else 0#1) x y = if p then x else y := by
  split_ifs <;> rfl

section

variable (i : grid0.Coords) (X : S34816x3072.Idx → EReal) (B : S1x16x15x31.Idx → EReal) (b gp : ℕ)
  (x0 : Vec Ideal S512x128 .bf16) (x1 x2 : Vec Ideal S4096x128 .bf16) (x3 x4 : Vec Ideal S256x128 .bf16)
  (x5 : Vec Ideal S2x45x64x128 .f32)

/-- The rows of `withCtx`, staged from the projections at column `o`. -/
theorem withCtx_at (o : ℕ) (y : Vec Ideal S4096x128 .bf16) (yc : Vec Ideal S256x128 .bf16)
    (hy : ∀ n l, y (ix2 n l) = at2 X (4096 * b + n) (o + 128 * gp + l))
    (hyc : ∀ n l, yc (ix2 n l) = at2 X (32768 + 256 * b + n) (o + 128 * gp + l)) (k : Fin 1280) (l : Fin 128) :
    withCtx i y yc (ix2 k l) = if k.val < 1024 then at2 X (4096 * b + 64 * win0 (rowBlock i).val + k) (o + 128 * gp + l)
      else at2 X (32768 + 256 * b + (k - 1024)) (o + 128 * gp + l) := by
  have hw : win0 (rowBlock i).val ≤ 48 := by unfold win0; omega
  split_ifs with h
  · rw [withCtx_win i y yc k h l ⟨64 * win0 (rowBlock i).val + k, by omega⟩
      (by rw [off1_coord, off_row]), hy]
    congr 1
    simp only []; omega
  · obtain ⟨j, rfl⟩ : ∃ j : Fin 256, k = ⟨1024 + j, by clear h; omega⟩ := by
      rcases place_cases k with ⟨kp, l, rfl⟩ | hj
      · exact absurd (by simp only []; omega) h
      · exact hj
    rw [withCtx_ctx, hyc]
    congr 1
    simp only []; omega

/-- A row's bias from tiles that read the staged table. -/
theorem bias_at (h : ℕ) (t : Fin 8 → Fin 8 → FVec Ideal S64x128 .f32)
    (ht : ∀ rl kp a l, t rl kp (ix2 a l)
      = zval B h a (l % 64) (tabRow (k0_off2 (coordOf (rowBlock i)) (BitVec.ofNat 32 (2 * kp.val)) (BitVec.ofNat 32 rl.val) 1) (l / 64)))
    (rl : Fin 8) (a : Fin 64) (k : Fin 1280) :
    biasAll t (ix2 ⟨64 * rl + a, by omega⟩ k)
      = if k.val < 1024 then zval B h a (k % 64) (bandRow (8 * (rowBlock i).val + rl) (win0 (rowBlock i).val + k / 64)) else 0 := by
  rw [biasAll_apply]
  rcases place_cases k with ⟨kp, l, rfl⟩ | ⟨j, rfl⟩
  · rw [biasRow_win, ht, code_row (rowBlock i) rl kp ⟨l / 64, by omega⟩, if_pos (by simp only []; omega)]
    congr 1
    · simp only []; omega
    · congr 1
      simp only []; omega
  · rw [biasRow_ctx, if_neg (by simp only []; omega)]

/-- A head's scores from the staged queries, keys and table. -/
theorem scores_at (h : ℕ) (sel : IVec S512x128 1) (t : Fin 8 → Fin 8 → FVec Ideal S64x128 .f32)
    (hq : ∀ (r : Fin 512) (keys : FVec Ideal S1280x128 .bf16) (k : Fin 1280),
      ∑ d : Fin 128, laneQ sel x0 (ix2 r d) * keys (ix2 k d)
        = ∑ d : Fin 64, at2 X (4096 * b + 512 * (rowBlock i).val + r) (64 * h + d) * ((1 / 8 : ℝ) : EReal)
            * keys (ix2 k ⟨64 * (h % 2) + d, by omega⟩))
    (hx1 : ∀ n l, x1 (ix2 n l) = at2 X (4096 * b + n) (1024 + 128 * (h / 2) + l))
    (hx3 : ∀ n l, x3 (ix2 n l) = at2 X (32768 + 256 * b + n) (1024 + 128 * (h / 2) + l))
    (ht : ∀ rl kp a l, t rl kp (ix2 a l)
      = zval B h a (l % 64) (tabRow (k0_off2 (coordOf (rowBlock i)) (BitVec.ofNat 32 (2 * kp.val)) (BitVec.ofNat 32 rl.val) 1) (l / 64)))
    (rl : Fin 8) (a : Fin 64) (k : Fin 1280) :
    scores (laneQ sel x0) (withCtx i x1 x3) (biasAll t) (ix2 ⟨64 * rl + a, by omega⟩ k)
      = kScore X B b h (8 * (rowBlock i).val + rl) a k := by
  rw [scores_apply, hq, bias_at i B h t ht]
  simp only [withCtx_at i X b (h / 2) 1024 x1 x3 hx1 hx3]
  unfold kScore dot
  have e8 : (8 * (rowBlock i).val + rl.val) / 8 = (rowBlock i).val := by omega
  rw [e8]
  split_ifs with hk
  · congr 1
    refine Finset.sum_congr rfl fun d _ => ?_
    exact congrArg₂ (· * ·) (congrArg (· * _) (at2_congr X (by first | omega | (simp only []; omega)) rfl))
      (at2_congr X (by omega) (by first | omega | (simp only []; omega)))
  · rw [add_zero]
    refine Finset.sum_congr rfl fun d _ => ?_
    exact congrArg₂ (· * ·) (congrArg (· * _) (at2_congr X (by first | omega | (simp only []; omega)) rfl))
      (at2_congr X (by omega) (by first | omega | (simp only []; omega)))

/-- A head's output from its scores and the staged values. -/
theorem headOut_at (h : ℕ) (s : FVec Ideal S512x1280 .f32) (r : ℕ) (row : Fin 512) (a : ℕ)
    (hs : ∀ k, s (ix2 row k) = kScore X B b h (8 * (rowBlock i).val + r) a k) (hr : r < 8)
    (hx2 : ∀ n l, x2 (ix2 n l) = at2 X (4096 * b + n) (2048 + 128 * (h / 2) + l))
    (hx4 : ∀ n l, x4 (ix2 n l) = at2 X (32768 + 256 * b + n) (2048 + 128 * (h / 2) + l)) (d : Fin 64) :
    headOut (expScores s) (withCtx i x2 x4) (ix2 row ⟨64 * (h % 2) + d, by omega⟩)
      = softAvg (kScore X B b h (8 * (rowBlock i).val + r) a) (kVal X b h (8 * (rowBlock i).val + r) d) := by
  rw [headOut_apply]
  simp only [expScores_apply, hs, withCtx_at i X b (h / 2) 2048 x2 x4 hx2 hx4]
  unfold softAvg
  have e8 : (8 * (rowBlock i).val + r) / 8 = (rowBlock i).val := by omega
  congr 1
  refine Finset.sum_congr rfl fun k _ => ?_
  congr 1
  unfold kVal
  rw [e8]
  split_ifs <;> (congr 1; omega)

/-- The block's output from the staged inputs: each lane the softmax average of its head. -/
theorem block_at
    (hx0 : ∀ r l, x0 (ix2 r l) = at2 X (4096 * b + 512 * (rowBlock i).val + r) (128 * gp + l))
    (hx1 : ∀ n l, x1 (ix2 n l) = at2 X (4096 * b + n) (1024 + 128 * gp + l))
    (hx2 : ∀ n l, x2 (ix2 n l) = at2 X (4096 * b + n) (2048 + 128 * gp + l))
    (hx3 : ∀ n l, x3 (ix2 n l) = at2 X (32768 + 256 * b + n) (1024 + 128 * gp + l))
    (hx4 : ∀ n l, x4 (ix2 n l) = at2 X (32768 + 256 * b + n) (2048 + 128 * gp + l))
    (hx5 : ∀ hh n a l, x5 (ix4 hh n a l) = zval B (2 * gp + hh) a (l % 64) (tabRow n (l / 64)))
    (rl : Fin 8) (a : Fin 64) (hh : Fin 2) (d : Fin 64) :
    blockOut i x0 x1 x2 x3 x4 x5 (ix2 ⟨64 * rl + a, by omega⟩ ⟨64 * hh + d, by omega⟩)
      = softAvg (kScore X B b (2 * gp + hh) (8 * (rowBlock i).val + rl) a)
          (kVal X b (2 * gp + hh) (8 * (rowBlock i).val + rl) d) := by
  unfold blockOut
  generalize eL : headOut (expScores (scores (laneQ loLanes x0) (withCtx i x1 x3) (biasAll (tileLo i x5)))) (withCtx i x2 x4) = L
  generalize eR : headOut (expScores (scores (laneQ (xori loLanes (constantI S512x128 1 1#1)) x0) (withCtx i x1 x3)
    (biasAll (tileHi i x5)))) (withCtx i x2 x4) = R
  unfold loLanes
  pointwise
  rw [lane_bit ⟨64 * hh + d, by omega⟩, select_ite]
  have hg0 : (2 * gp + 0) / 2 = gp := by omega
  have hg1 : (2 * gp + 1) / 2 = gp := by omega
  have hm0 : (2 * gp + 0) % 2 = 0 := by omega
  have hm1 : (2 * gp + 1) % 2 = 1 := by omega
  have hrl : ∀ rl : Fin 8, ∀ a : Fin 64, ∀ l : Fin 128, ∀ kp : Fin 8, ∀ hh : Fin 2, ∀ n : Fin 45,
      n.val = k0_off2 (coordOf (rowBlock i)) (BitVec.ofNat 32 (2 * kp.val)) (BitVec.ofNat 32 rl.val) 1 →
      x5 (ix4 hh n a l) = zval B (2 * gp + hh) a (l % 64)
        (tabRow (k0_off2 (coordOf (rowBlock i)) (BitVec.ofNat 32 (2 * kp.val)) (BitVec.ofNat 32 rl.val) 1) (l / 64)) :=
    fun rl a l kp hh n hn => by rw [hx5, hn]
  by_cases hh0 : hh = 0
  · subst hh0
    rw [if_pos (by simp), ← eL]
    have := headOut_at i X B b x2 x4 (2 * gp + 0) _ rl.val ⟨64 * rl + a, by omega⟩ a.val
      (fun k => scores_at i X B b x0 x1 x3 (2 * gp + 0) loLanes (tileLo i x5) (fun r keys k => by
        rw [sum_lo _ _ _ fun d => laneQ_lo x0 r d]
        refine Finset.sum_congr rfl fun d _ => ?_
        rw [hx0]
        exact congrArg₂ (· * ·) (congrArg (· * _) (at2_congr X rfl (by simp only []; omega)))
          (congrArg (keys <| ix2 k ·) (Fin.ext (by simp only []; omega))))
        (by rw [hg0]; exact hx1) (by rw [hg0]; exact hx3)
        (fun rl kp a l => by
          rw [tileLo_apply i x5 rl kp a l ⟨_, code_lt (rowBlock i) rl kp⟩ (congrFun (off2_coord i _ _) 1).symm]
          exact hrl rl a l kp 0 _ rfl) rl a k)
      rl.2 (by rw [hg0]; exact hx2) (by rw [hg0]; exact hx4) d
    refine Eq.trans (congrArg _ (congrArg (ix2 _ ·) (Fin.ext ?_))) this
    simp only []; omega
  · obtain rfl : hh = 1 := by omega
    rw [if_neg (by simp), ← eR]
    have := headOut_at i X B b x2 x4 (2 * gp + 1) _ rl.val ⟨64 * rl + a, by omega⟩ a.val
      (fun k => scores_at i X B b x0 x1 x3 (2 * gp + 1) (xori loLanes (constantI S512x128 1 1#1)) (tileHi i x5) (fun r keys k => by
        rw [sum_hi _ _ _ fun d => laneQ_hi x0 r d]
        refine Finset.sum_congr rfl fun d _ => ?_
        rw [hx0]
        exact congrArg₂ (· * ·) (congrArg (· * _) (at2_congr X rfl (by simp only []; omega)))
          (congrArg (keys <| ix2 k ·) (Fin.ext (by simp only []; omega))))
        (by rw [hg1]; exact hx1) (by rw [hg1]; exact hx3)
        (fun rl kp a l => by
          rw [tileHi_apply i x5 rl kp a l ⟨_, code_lt (rowBlock i) rl kp⟩ (off3_coord i _ _).symm]
          exact hrl rl a l kp 1 _ rfl) rl a k)
      rl.2 (by rw [hg1]; exact hx2) (by rw [hg1]; exact hx4) d
    refine Eq.trans (congrArg _ (congrArg (ix2 _ ·) (Fin.ext ?_))) this
    simp only []; simp

end

end Cert.Proof

end
-- ==== Proof.Launch.lean ====
module

public import proofs.«01_k».proof.Proof.Block
public import Idealize.ShloMosaic.Lib.Pipeline.ValueKit.Point
public import Idealize.ShloMosaic.Lib.Claim

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The projections at launch. -/
def projs (c : Dev nD) : S34816x3072.Idx → EReal := m ((c : Thread nD τ).loc main_arg0)

/-- The relative position biases at launch. -/
def biases (c : Dev nD) : S1x16x15x31.Idx → EReal := m ((c : Thread nD τ).loc main_arg1)

/-- The kernel's result, element by element, from the arguments. -/
def attended (X : S34816x3072.Idx → EReal) (B : S1x16x15x31.Idx → EReal) : S32768x1024.Idx → EReal := fun j =>
  softAvg (kScore X B ((j 0).val / 4096) ((j 1).val / 64) ((j 0).val % 4096 / 64) ((j 0).val % 64))
    (kVal X ((j 0).val / 4096) ((j 1).val / 64) ((j 0).val % 4096 / 64) ((j 1).val % 64))

/-- An array of rank 2 read at an index. -/
theorem at2_eq {m n : ℕ} (X : Shape.Idx ⟨2, ![m, n]⟩ → EReal) (j : Shape.Idx ⟨2, ![m, n]⟩) (r c : ℕ)
    (hr : (j 0).val = r) (hc : (j 1).val = c) : X j = at2 X r c := by
  subst hr hc
  unfold at2
  rw [dif_pos ⟨(j 0).2, (j 1).2⟩]
  exact congrArg X (eq_ix2 j)

/-- The batch of a grid point. -/
def batchOf (i : grid0.Coords) : Fin 8 := i 0

/-- The pair of heads of a grid point. -/
def pairOf (i : grid0.Coords) : Fin 8 := i 1

set_option maxRecDepth 100000 in
/-- Where each window's block lies at a grid point. -/
theorem idx_facts : ∀ t : Fin cfg0.N,
    (win0_0.index t 0 = 8 * (batchOf (grid0.coords t)).val + (rowBlock (grid0.coords t)).val ∧ win0_0.index t 1 = (pairOf (grid0.coords t)).val)
    ∧ (win0_1.index t 0 = (batchOf (grid0.coords t)).val ∧ win0_1.index t 1 = 8 + (pairOf (grid0.coords t)).val)
    ∧ (win0_2.index t 0 = (batchOf (grid0.coords t)).val ∧ win0_2.index t 1 = 16 + (pairOf (grid0.coords t)).val)
    ∧ (win0_3.index t 0 = 128 + (batchOf (grid0.coords t)).val ∧ win0_3.index t 1 = 8 + (pairOf (grid0.coords t)).val)
    ∧ (win0_4.index t 0 = 128 + (batchOf (grid0.coords t)).val ∧ win0_4.index t 1 = 16 + (pairOf (grid0.coords t)).val)
    ∧ (win0_5.index t 0 = (pairOf (grid0.coords t)).val ∧ win0_5.index t 1 = 0 ∧ win0_5.index t 2 = 0 ∧ win0_5.index t 3 = 0)
    ∧ (win0_6.index t 0 = 8 * (batchOf (grid0.coords t)).val + (rowBlock (grid0.coords t)).val ∧ win0_6.index t 1 = (pairOf (grid0.coords t)).val) :=
  (by decide +kernel : ∀ t : Fin grid0.N, _)

/-- The projections are the first argument still when the grid starts. -/
theorem V_projs (c : Dev nD) : V m c main_arg0 = projs m c := V_main_arg0 m c

/-- The queries' block. -/
theorem blk0 (c : Dev nD) (t : Fin cfg0.N) (r : Fin 512) (l : Fin 128) :
    iblk m c 0 t (ix2 r l) = at2 (projs m c) (4096 * (batchOf (grid0.coords t)).val + 512 * (rowBlock (grid0.coords t)).val + r) (128 * (pairOf (grid0.coords t)).val + l) := by
  obtain ⟨⟨h00, h01⟩, ⟨h10, h11⟩, ⟨h20, h21⟩, ⟨h30, h31⟩, ⟨h40, h41⟩, ⟨h50, h51, h52, h53⟩, h60, h61⟩ := idx_facts t
  blk_simp [iblk]
  refine Eq.trans (congrFun (V_projs m c) _) (at2_eq _ _ _ _ ?_ ?_)
  · blk_simp
    omega
  · blk_simp
    omega

/-- The keys' block. -/
theorem blk1 (c : Dev nD) (t : Fin cfg0.N) (r : Fin 4096) (l : Fin 128) :
    X0_1 m c t (ix2 r l) = at2 (projs m c) (4096 * (batchOf (grid0.coords t)).val + r)
      (1024 + 128 * (pairOf (grid0.coords t)).val + l) := by
  obtain ⟨⟨h00, h01⟩, ⟨h10, h11⟩, ⟨h20, h21⟩, ⟨h30, h31⟩, ⟨h40, h41⟩, ⟨h50, h51, h52, h53⟩, h60, h61⟩ := idx_facts t
  unfold X0_1 Pipeline.Window.fill
  rw [dif_pos (moved0_1 t _)]
  blk_simp [iblk]
  refine Eq.trans (congrFun (V_projs m c) _) (at2_eq _ _ _ _ ?_ ?_)
  · blk_simp
    simp only []
    omega
  · blk_simp
    simp only []
    omega

/-- The values' block. -/
theorem blk2 (c : Dev nD) (t : Fin cfg0.N) (r : Fin 4096) (l : Fin 128) :
    X0_2 m c t (ix2 r l) = at2 (projs m c) (4096 * (batchOf (grid0.coords t)).val + r)
      (2048 + 128 * (pairOf (grid0.coords t)).val + l) := by
  obtain ⟨⟨h00, h01⟩, ⟨h10, h11⟩, ⟨h20, h21⟩, ⟨h30, h31⟩, ⟨h40, h41⟩, ⟨h50, h51, h52, h53⟩, h60, h61⟩ := idx_facts t
  unfold X0_2 Pipeline.Window.fill
  rw [dif_pos (moved0_2 t _)]
  blk_simp [iblk]
  refine Eq.trans (congrFun (V_projs m c) _) (at2_eq _ _ _ _ ?_ ?_)
  · blk_simp
    simp only []
    omega
  · blk_simp
    simp only []
    omega

/-- The context keys' block. -/
theorem blk3 (c : Dev nD) (t : Fin cfg0.N) (r : Fin 256) (l : Fin 128) :
    iblk m c 3 t (ix2 r l) = at2 (projs m c) (32768 + 256 * (batchOf (grid0.coords t)).val + r) (1024 + 128 * (pairOf (grid0.coords t)).val + l) := by
  obtain ⟨⟨h00, h01⟩, ⟨h10, h11⟩, ⟨h20, h21⟩, ⟨h30, h31⟩, ⟨h40, h41⟩, ⟨h50, h51, h52, h53⟩, h60, h61⟩ := idx_facts t
  blk_simp [iblk]
  refine Eq.trans (congrFun (V_projs m c) _) (at2_eq _ _ _ _ ?_ ?_)
  · blk_simp
    omega
  · blk_simp
    omega

/-- The context values' block. -/
theorem blk4 (c : Dev nD) (t : Fin cfg0.N) (r : Fin 256) (l : Fin 128) :
    iblk m c 4 t (ix2 r l) = at2 (projs m c) (32768 + 256 * (batchOf (grid0.coords t)).val + r) (2048 + 128 * (pairOf (grid0.coords t)).val + l) := by
  obtain ⟨⟨h00, h01⟩, ⟨h10, h11⟩, ⟨h20, h21⟩, ⟨h30, h31⟩, ⟨h40, h41⟩, ⟨h50, h51, h52, h53⟩, h60, h61⟩ := idx_facts t
  blk_simp [iblk]
  refine Eq.trans (congrFun (V_projs m c) _) (at2_eq _ _ _ _ ?_ ?_)
  · blk_simp
    omega
  · blk_simp
    omega

/-- The bias table's block: the pair's two heads. -/
theorem blk5 (c : Dev nD) (t : Fin cfg0.N) (hh : Fin 2) (n : Fin 45) (a : Fin 64) (l : Fin 128) :
    iblk m c 5 t (ix4 hh n a l) = V m c main_v44 (ix4 ⟨2 * (pairOf (grid0.coords t)).val + hh, by omega⟩ n a l) := by
  obtain ⟨⟨h00, h01⟩, ⟨h10, h11⟩, ⟨h20, h21⟩, ⟨h30, h31⟩, ⟨h40, h41⟩, ⟨h50, h51, h52, h53⟩, h60, h61⟩ := idx_facts t
  blk_simp [iblk]
  refine congrArg (V m c main_v44) (funext fun x => Fin.ext ?_)
  match x with
  | ⟨0, _⟩ => blk_simp; simp only []; omega
  | ⟨1, _⟩ => blk_simp; omega
  | ⟨2, _⟩ => blk_simp; omega
  | ⟨3, _⟩ => blk_simp; omega

/-- Once the host's table is known, the grid leaves `attended` in the output array. -/
theorem final_of_table (c : Dev nD)
    (hz : ∀ (h : Fin 16) (n : Fin 45) (a : Fin 64) (l : Fin 128),
      V m c main_v44 (ix4 h n a l) = zval (biases m c) h a (l % 64) (tabRow n (l / 64))) :
    (dats m 0 c).arrAt 6 cfg0.N = attended (projs m c) (biases m c) := by
  refine (dats m 0 c).arrAt_eq_of_covers 6 _ (by decide +kernel) fun t hf y => ?_
  blk_simp
  rw [after0_6]
  unfold outsAt0
  rw [out_eq]
  obtain ⟨r, l, rfl⟩ : ∃ (r : Fin 512) (l : Fin 128), y = ix2 r l := ⟨y 0, y 1, eq_ix2 y⟩
  obtain ⟨rl, a, rfl⟩ : ∃ (rl : Fin 8) (a : Fin 64), r = ⟨64 * rl + a, by omega⟩ :=
    ⟨⟨r.val / 64, by omega⟩, ⟨r.val % 64, by omega⟩, Fin.ext (by simp only []; omega)⟩
  obtain ⟨hh, d, rfl⟩ : ∃ (hh : Fin 2) (d : Fin 64), l = ⟨64 * hh + d, by omega⟩ :=
    ⟨⟨l.val / 64, by omega⟩, ⟨l.val % 64, by omega⟩, Fin.ext (by simp only []; omega)⟩
  refine (block_at (grid0.coords t) (projs m c) (biases m c) (batchOf (grid0.coords t)).val (pairOf (grid0.coords t)).val _ _ _ _ _ _
    (blk0 m c t) (blk1 m c t) (blk2 m c t) (blk3 m c t) (blk4 m c t)
    (fun hh n a l => by rw [blk5, hz]) rl a hh d).trans ?_
  obtain ⟨⟨h00, h01⟩, ⟨h10, h11⟩, ⟨h20, h21⟩, ⟨h30, h31⟩, ⟨h40, h41⟩, ⟨h50, h51, h52, h53⟩, h60, h61⟩ := idx_facts t
  have e0 : (((win0_6.blk t).view.emb (ix2 (⟨64 * rl + a, by omega⟩ : Fin 512) (⟨64 * hh + d, by omega⟩ : Fin 128))) 0).val
      = 4096 * (batchOf (grid0.coords t)).val + 512 * (rowBlock (grid0.coords t)).val + 64 * rl + a := by
    blk_simp
    simp only []
    omega
  have e1 : (((win0_6.blk t).view.emb (ix2 (⟨64 * rl + a, by omega⟩ : Fin 512) (⟨64 * hh + d, by omega⟩ : Fin 128))) 1).val
      = 128 * (pairOf (grid0.coords t)).val + 64 * hh + d := by
    blk_simp
    simp only []
    omega
  unfold attended
  have hb := (batchOf (grid0.coords t)).2
  have hr := (rowBlock (grid0.coords t)).2
  rw [e0, e1, show (4096 * (batchOf (grid0.coords t)).val + 512 * (rowBlock (grid0.coords t)).val + 64 * rl.val + a.val) / 4096 = (batchOf (grid0.coords t)).val by omega,
    show (4096 * (batchOf (grid0.coords t)).val + 512 * (rowBlock (grid0.coords t)).val + 64 * rl.val + a.val) % 4096 / 64 = 8 * (rowBlock (grid0.coords t)).val + rl.val by omega,
    show (4096 * (batchOf (grid0.coords t)).val + 512 * (rowBlock (grid0.coords t)).val + 64 * rl.val + a.val) % 64 = a.val by omega,
    show (128 * (pairOf (grid0.coords t)).val + 64 * hh.val + d.val) / 64 = 2 * (pairOf (grid0.coords t)).val + hh.val by omega,
    show (128 * (pairOf (grid0.coords t)).val + 64 * hh.val + d.val) % 64 = d.val by omega]

end Cert.Proof

end
-- ==== Proof.Table.lean ====
module

public import proofs.«01_k».proof.Proof.Launch
public import Idealize.ShloMosaic.Lib.Claim
public import Idealize.ShloMosaic.Lib.StableHlo.ReadAt
public import Idealize.ShloMosaic.Lib.Pointwise

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- An operand axis that a gather keeps whole is read at the result's coordinate for it. -/
theorem gather_kept {s si t : Shape} {w : ℕ} (d : GatherDims s si t) (j : t.Idx) (idx : IVec si w) (a : Fin s.rank)
    (h1 : a ∉ d.startIndexMap) (h2 : a ∉ d.operandBatchingDims) :
    d.start j idx a + d.batchCoord j a + d.offCoord j a = d.offCoord j a := by
  rw [show d.start j idx a = 0 from dif_neg h1, d.batchCoord_eq_zero _ _ h2, zero_add, zero_add]

/-- An operand axis that a gather indexes and collapses is read at the start index's component. -/
theorem gather_indexed {s si t : Shape} {w : ℕ} (d : GatherDims s si t) (j : t.Idx) (idx : IVec si w) (a : Fin s.rank)
    (h1 : a ∈ d.startIndexMap) (h2 : a ∉ d.operandBatchingDims) (h3 : a ∉ d.sKept) (x : si.Idx)
    (hx : d.siIdx j ⟨d.startIndexMap.idxOf a, List.idxOf_lt_length_iff.2 h1⟩ = x) :
    d.start j idx a + d.batchCoord j a + d.offCoord j a = min (idx x).toInt.toNat (s.size a - d.sliceSizes a) := by
  rw [d.batchCoord_eq_zero _ _ h2, d.offCoord_eq_zero _ _ h3, ← hx]
  exact dif_pos h1

/-- The bias gather: each column pair reads the bias at the column offset its index names. -/
theorem gather_cols (x : S16x15x31.Idx → EReal) (idx : IVec S64x64x1 32) (h : Fin 16) (j : Fin 15) (a y : Fin 64) (n : Fin 31)
    (hn : (idx (ix3 a y 0)).toInt.toNat = n.val) :
    Host.gather gather_S16x15x31_S64x64x1_S16x15x64x64_01_2_n_n_2_2_16151 x idx (ix4 h j a y) = x (ix3 h j n) := by
  unfold Host.gather
  congr 1
  funext b
  refine Fin.ext ?_
  show GatherDims.start _ _ _ b + GatherDims.batchCoord _ _ b + GatherDims.offCoord _ _ b = _
  match b with
  | ⟨0, _⟩ =>
    rw [gather_kept _ _ _ _ (by decide +revert) (by decide +revert)]
    rfl
  | ⟨1, _⟩ =>
    rw [gather_kept _ _ _ _ (by decide +revert) (by decide +revert)]
    rfl
  | ⟨2, _⟩ =>
    rw [gather_indexed _ _ _ _ (by decide +revert) (by decide +revert) (by decide +revert) (ix3 a y 0) (by
      funext b
      match b with
      | ⟨0, _⟩ => rfl
      | ⟨1, _⟩ => rfl
      | ⟨2, _⟩ => rfl), hn]
    show min n.val (31 - 1) = n.val
    omega

/-- Column offsets as the table computes them, clipped to ±15 and shifted by 15. -/
def offWords : IVec S64x64 32 :=
  addi (minsi (broadcastInDim S64x64 ![] bcast_S_S64x64 (id (constantI S_ 32 15#32)))
    (maxsi (broadcastInDim S64x64 ![] bcast_S_S64x64 (id (constantI S_ 32 4294967281#32)))
      (subi
        (broadcastInDim S64x64 ![0, 1] bcast_S1x64_S64x64_0_1
          (broadcastInDim S1x64 ![1] bcast_S64_S1x64_1 (iotaInDim S64 32 0)))
        (broadcastInDim S64x64 ![0, 1] bcast_S64x1_S64x64_0_1
          (broadcastInDim S64x1 ![0] bcast_S64_S64x1_0 (iotaInDim S64 32 0))))))
    (broadcastInDim S64x64 ![] bcast_S_S64x64 (constantI S_ 32 15#32))

/-- The same with negative offsets wrapped, as the indices of the bias gather. -/
def colWords : IVec S64x64x1 32 :=
  broadcastInDim S64x64x1 ![0, 1] bcast_S64x64_S64x64x1_0_1
    (select (cmpi CmpIPredicate.slt offWords (broadcastInDim S64x64 ![] bcast_S_S64x64 (constantI S_ 32 0#32)))
      (addi offWords (broadcastInDim S64x64 ![] bcast_S_S64x64 (constantI S_ 32 31#32))) offWords)

/-- The table's mask bit at a pair of columns. -/
def maskWord (a x : BitVec 32) : BitVec 1 :=
  IntOp.andi
    (IntOp.cmpi CmpIPredicate.sge x
      (IntOp.minsi (id (constantI S_ 32 48#32) ix0) (IntOp.maxsi (id (constantI S_ 32 0#32) ix0) (IntOp.subi a 8#32))))
    (IntOp.cmpi CmpIPredicate.slt x
      (IntOp.addi
        (IntOp.minsi (id (constantI S_ 32 48#32) ix0) (IntOp.maxsi (id (constantI S_ 32 0#32) ix0) (IntOp.subi a 8#32)))
        16#32))

/-- The mask holds at a pair of columns when they are neighbours. -/
theorem maskWord_eq : ∀ a x : Fin 64,
    maskWord (BitVec.ofNat 32 a.val) (BitVec.ofNat 32 x.val) = if colOk a x then 1#1 else 0#1 := by
  decide +kernel

/-- The gather's index at a pair of columns is their column offset. -/
theorem colWords_eq : ∀ a x : Fin 64, colWords (ix3 a x 0) = BitVec.ofNat 32 (colOff a x) := by
  intro a x
  unfold colWords offWords
  pointwise
  revert a x
  decide +kernel

/-- Minus infinity's word, read as an extended real. -/
theorem fill_eq : (id (constant (F := Ideal) S_ FTy.f32 4286578688#32) ix0 : EReal) = ⊥ := negInf_f32

/-- One element of the masked biases. -/
theorem masked_at (c : Dev nD) (h : Fin 16) (j : Fin 15) (a x : Fin 64) (w : BitVec 32) (hw : w = BitVec.ofNat 32 x.val) :
    Scalar.select (maskWord (BitVec.ofNat 32 a.val) w)
      (Host.gather gather_S16x15x31_S64x64x1_S16x15x64x64_01_2_n_n_2_2_16151
        (fun i => m (c, Proc.tc.devRef main_arg1) (ix4 0 (i 0) (i 1) (i 2))) colWords (ix4 h j a x))
      (id (constant (F := Ideal) S_ FTy.f32 4286578688#32) ix0 : EReal)
    = zval (biases m c) h a x (some j.val) := by
  subst hw
  have hc : colOff a x < 31 := by unfold colOff; omega
  rw [maskWord_eq, fill_eq, gather_cols _ _ _ _ _ _ ⟨colOff a x, hc⟩ (by
    rw [colWords_eq, BitVec.toInt_eq_toNat_of_lt (by rw [BitVec.toNat_ofNat]; omega), BitVec.toNat_ofNat]
    simp only []
    omega)]
  unfold zval
  by_cases ho : colOk a x
  · simp only [if_pos ho]
    unfold at3
    rw [dif_pos ⟨h.2, j.2, hc⟩]
    rfl
  · simp only [if_neg ho]
    rfl

set_option maxHeartbeats 2000000 in
/-- The kernel's table, entry by entry. -/
theorem table_at (c : Dev nD) (h : Fin 16) (n : Fin 45) (a : Fin 64) (l : Fin 128) :
    V m c main_v44 (ix4 h n a l) = zval (biases m c) h a (l % 64) (tabRow n (l / 64)) := by
  unfold V
  unfold_abbrev_sides
  after_reads_at
  have hl : (l.val < 64 ∧ l.val / 64 = 0 ∧ l.val % 64 = l.val) ∨ (64 ≤ l.val ∧ l.val / 64 = 1 ∧ l.val % 64 = l.val - 64) := by
    omega
  by_cases h1 : n.val < 14
  · refine (dif_pos h1).trans ?_
    after_reads_at
    rcases hl with ⟨hl, e1, e2⟩ | ⟨hl, e1, e2⟩
    · refine (dif_pos hl).trans ((masked_at m c h ⟨n, by omega⟩ a ⟨l, hl⟩ _ rfl).trans ?_)
      rw [e1, e2, tabRow, if_pos h1]
      rfl
    · refine (dif_neg (by omega)).trans ((masked_at m c h ⟨1 + n, by omega⟩ a ⟨l - 64, by omega⟩ _ rfl).trans ?_)
      rw [e1, e2, tabRow, if_pos h1, Nat.add_comm n.val 1]
  refine (dif_neg h1).trans ?_
  by_cases h2 : n.val < 29
  · refine (dif_pos (by omega)).trans ?_
    after_reads_at
    rcases hl with ⟨hl, e1, e2⟩ | ⟨hl, e1, e2⟩
    · refine (dif_pos hl).trans ((masked_at m c h ⟨n - 14, by omega⟩ a ⟨l, hl⟩ _ rfl).trans ?_)
      rw [e1, e2, tabRow, if_neg h1, if_pos h2, if_pos rfl]
    · refine (dif_neg (by omega)).trans (fill_eq.trans ?_)
      rw [e1, e2, tabRow, if_neg h1, if_pos h2, if_neg (by omega)]
      rfl
  refine (dif_neg (by omega)).trans ?_
  by_cases h3 : n.val < 44
  · refine (dif_pos (by omega)).trans ?_
    after_reads_at
    rcases hl with ⟨hl, e1, e2⟩ | ⟨hl, e1, e2⟩
    · refine (dif_pos hl).trans (fill_eq.trans ?_)
      rw [e1, e2, tabRow, if_neg h1, if_neg h2, if_pos h3, if_pos rfl]
      rfl
    · refine (dif_neg (by omega)).trans ((masked_at m c h ⟨n - 14 - 15, by omega⟩ a ⟨l - 64, by omega⟩ _ rfl).trans ?_)
      rw [e1, e2, tabRow, if_neg h1, if_neg h2, if_pos h3, if_neg (by omega), show n.val - 29 = n.val - 14 - 15 by omega]
  refine (dif_neg (by omega)).trans ?_
  after_reads_at
  rcases hl with ⟨hl, e1, e2⟩ | ⟨hl, e1, e2⟩
  · refine (dif_pos hl).trans (fill_eq.trans ?_)
    rw [tabRow, if_neg h1, if_neg h2, if_neg h3]
    rfl
  · refine (dif_neg (by omega)).trans (fill_eq.trans ?_)
    rw [tabRow, if_neg h1, if_neg h2, if_neg h3]
    rfl

/-- The kernel's result array is the attention of the arguments. -/
theorem final (c : Dev nD) : (dats m 0 c).arrAt 6 cfg0.N = attended (projs m c) (biases m c) :=
  final_of_table m c (table_at m c)

end Cert.Proof

end
-- ==== Proof.RefIndex.lean ====
module

public import proofs.«01_k».proof.Proof.Table
public import proofs.«01_k».proof.Proof.Gen.ReferenceIdeal.Read

@[expose] public section

set_option maxRecDepth 16384

noncomputable section

namespace Cert.Proof

open Idealize.ShloMosaic Idealize.ShloMosaic.TcCoe Idealize.SL.Sem Cert.ReferenceIdeal Cert.ReferenceIdeal.Gen Cert.ReferenceIdeal.Read

/-- The key rows of a query row's neighbourhood, as the reference's gather of the keys has them. -/
theorem keyRow_eq : ∀ (r : Fin 64) (k : Fin 8), val_main_v36 (F := Ideal) (ix3 r k 0) = BitVec.ofNat 32 (row0 r + k) := by
  decide +kernel

/-- The same for the gather of the values. -/
theorem valRow_eq : ∀ (r : Fin 64) (k : Fin 8), val_main_v43 (F := Ideal) (ix3 r k 0) = BitVec.ofNat 32 (row0 r + k) := by
  decide +kernel

/-- The reference's mask holds at a pair of columns when they are neighbours. -/
theorem colMask_eq : ∀ a x : Fin 64, val_main_v61 (F := Ideal) (ix2 a x) = if colOk a x then 1#1 else 0#1 := by
  decide +kernel

/-- The row offsets of the reference's bias gather. -/
theorem rowOff_eq : ∀ (r : Fin 64) (k : Fin 8), val_main_v81 (F := Ideal) (ix4 r 0 k 0) = BitVec.ofNat 32 (row0 r + k + 7 - r) := by
  decide +kernel

/-- The column offsets of the reference's bias gather. -/
theorem colOff_eq : ∀ a x : Fin 64, val_main_v86 (F := Ideal) (ix4 0 a 0 x) = BitVec.ofNat 32 (colOff a x) := by
  decide +kernel

end Cert.Proof

end
-- ==== Proof.RefReads.lean ====
module

public import proofs.«01_k».proof.Proof.RefIndex
public import Idealize.ShloMosaic.Lib.TwoAxisContraction

@[expose] public section

set_option maxRecDepth 16384

noncomputable section

namespace Cert.Proof

open Idealize.ShloMosaic Idealize.ShloMosaic.TcCoe Idealize.SL.Sem Cert.ReferenceIdeal Cert.ReferenceIdeal.Gen Cert.ReferenceIdeal.Read

variable (X : S34816x3072.Idx → EReal) (B : S1x16x15x31.Idx → EReal)

/-- An array of rank 2 read at a pair of places. -/
theorem at2_of {m n : ℕ} (X : Shape.Idx ⟨2, ![m, n]⟩ → EReal) (a : Fin m) (e : Fin n) (r c : ℕ) (hr : a.val = r) (hc : e.val = c) :
    X (ix2 a e) = at2 X r c :=
  at2_eq X _ _ _ hr hc

/-- The reference's scaled queries. -/
theorem refQ_at (b : Fin 8) (r a : Fin 64) (h : Fin 16) (d : Fin 64) :
    val_main_v18 (F := Ideal) X (ix5 b r a h d) = at2 X (4096 * b + 64 * r + a) (64 * h + d) * ((1 / 8 : ℝ) : EReal) := by
  unfold val_main_v18 val_main_v17 val_main_cst val_main_v16 val_main_v6 val_main_v3 val_main_v1 val_main_v0
  pointwise
  exact congrArg₂ (· * ·) (at2_of X _ _ _ _ (by simp only []; omega) (by simp only []; omega)) eighth_f32

/-- The reference's latent keys. -/
theorem refK_at (b : Fin 8) (r a : Fin 64) (h : Fin 16) (d : Fin 64) :
    val_main_v19 (F := Ideal) X (ix5 b r a h d) = at2 X (4096 * b + 64 * r + a) (1024 + 64 * h + d) := by
  unfold val_main_v19 val_main_v7 val_main_v4 val_main_v1 val_main_v0
  pointwise
  exact at2_of X _ _ _ _ (by simp only []; omega) (by simp only []; omega)

/-- The reference's latent values. -/
theorem refV_at (b : Fin 8) (r a : Fin 64) (h : Fin 16) (d : Fin 64) :
    val_main_v20 (F := Ideal) X (ix5 b r a h d) = at2 X (4096 * b + 64 * r + a) (2048 + 64 * h + d) := by
  unfold val_main_v20 val_main_v8 val_main_v5 val_main_v1 val_main_v0
  pointwise
  exact at2_of X _ _ _ _ (by simp only []; omega) (by simp only []; omega)

/-- The reference's context keys. -/
theorem refKc_at (b : Fin 8) (j : Fin 256) (h : Fin 16) (d : Fin 64) :
    val_main_v13 (F := Ideal) X (ix4 b j h d) = at2 X (32768 + 256 * b + j) (1024 + 64 * h + d) := by
  unfold val_main_v13 val_main_v10 val_main_v2 val_main_v0
  pointwise
  exact at2_of X _ _ _ _ (by simp only []; omega) (by simp only []; omega)

/-- The reference's context values. -/
theorem refVc_at (b : Fin 8) (j : Fin 256) (h : Fin 16) (d : Fin 64) :
    val_main_v14 (F := Ideal) X (ix4 b j h d) = at2 X (32768 + 256 * b + j) (2048 + 64 * h + d) := by
  unfold val_main_v14 val_main_v11 val_main_v2 val_main_v0
  pointwise
  exact at2_of X _ _ _ _ (by simp only []; omega) (by simp only []; omega)

/-- The gather of band rows reads, for each query row and place in the band, the row that its index names. -/
theorem gather_rows (x : S8x64x64x16x64.Idx → EReal) (idx : IVec S64x8x1 32) (b : Fin 8) (r : Fin 64) (k : Fin 8)
    (y : Fin 64) (h : Fin 16) (d n : Fin 64) (hn : (idx (ix3 r k 0)).toInt.toNat = n.val) :
    Host.gather gather_S8x64x64x16x64_S64x8x1_S8x64x8x64x16x64_0345_1_n_n_1_2_81641664 x idx (ix6 b r k y h d)
      = x (ix5 b n y h d) := by
  unfold Host.gather
  congr 1
  funext e
  refine Fin.ext ?_
  show GatherDims.start _ _ _ e + GatherDims.batchCoord _ _ e + GatherDims.offCoord _ _ e = _
  match e with
  | ⟨0, _⟩ =>
    rw [gather_kept _ _ _ _ (by decide +revert) (by decide +revert)]
    rfl
  | ⟨1, _⟩ =>
    rw [gather_indexed _ _ _ _ (by decide +revert) (by decide +revert) (by decide +revert) (ix3 r k 0) (by
      funext b
      match b with
      | ⟨0, _⟩ => rfl
      | ⟨1, _⟩ => rfl
      | ⟨2, _⟩ => rfl), hn]
    show min n.val (64 - 1) = n.val
    omega
  | ⟨2, _⟩ =>
    rw [gather_kept _ _ _ _ (by decide +revert) (by decide +revert)]
    rfl
  | ⟨3, _⟩ =>
    rw [gather_kept _ _ _ _ (by decide +revert) (by decide +revert)]
    rfl
  | ⟨4, _⟩ =>
    rw [gather_kept _ _ _ _ (by decide +revert) (by decide +revert)]
    rfl

/-- The gather of biases reads, for each pair of a query and a key, the row and column offset that its two indices name. -/
theorem gather_bias (x : S16x15x31.Idx → EReal) (idx : IVec S64x64x8x64x2 32) (h : Fin 16) (r a : Fin 64) (k : Fin 8)
    (y : Fin 64) (i : Fin 15) (j : Fin 31) (hi : (idx (ix5 r a k y 0)).toInt.toNat = i.val)
    (hj : (idx (ix5 r a k y 1)).toInt.toNat = j.val) :
    Host.gather gather_S16x15x31_S64x64x8x64x2_S16x64x64x8x64_0_12_n_n_12_4_1611 x idx (ix5 h r a k y) = x (ix3 h i j) := by
  unfold Host.gather
  congr 1
  funext e
  refine Fin.ext ?_
  show GatherDims.start _ _ _ e + GatherDims.batchCoord _ _ e + GatherDims.offCoord _ _ e = _
  match e with
  | ⟨0, _⟩ =>
    rw [gather_kept _ _ _ _ (by decide +revert) (by decide +revert)]
    rfl
  | ⟨1, _⟩ =>
    rw [gather_indexed _ _ _ _ (by decide +revert) (by decide +revert) (by decide +revert) (ix5 r a k y 0) (by
      funext b
      match b with
      | ⟨0, _⟩ => rfl
      | ⟨1, _⟩ => rfl
      | ⟨2, _⟩ => rfl
      | ⟨3, _⟩ => rfl
      | ⟨4, _⟩ => rfl), hi]
    show min i.val (15 - 1) = i.val
    omega
  | ⟨2, _⟩ =>
    rw [gather_indexed _ _ _ _ (by decide +revert) (by decide +revert) (by decide +revert) (ix5 r a k y 1) (by
      funext b
      match b with
      | ⟨0, _⟩ => rfl
      | ⟨1, _⟩ => rfl
      | ⟨2, _⟩ => rfl
      | ⟨3, _⟩ => rfl
      | ⟨4, _⟩ => rfl), hj]
    show min j.val (31 - 1) = j.val
    omega

/-- A word of a small number is that number. -/
theorem word_toNat (n : ℕ) (hn : n < 1024) : (BitVec.ofNat 32 n).toInt.toNat = n := by
  rw [BitVec.toInt_eq_toNat_of_lt (by rw [BitVec.toNat_ofNat]; omega), BitVec.toNat_ofNat]
  omega

/-- The keys of a query row's band. -/
theorem refKband_at (b : Fin 8) (r : Fin 64) (k : Fin 8) (y : Fin 64) (h : Fin 16) (d : Fin 64) :
    val_main_v37 (F := Ideal) X (ix6 b r k y h d) = at2 X (4096 * b + 64 * (row0 r + k) + y) (1024 + 64 * h + d) := by
  have hr : row0 r.val + k.val < 64 := by unfold row0; omega
  unfold val_main_v37
  rw [gather_rows _ _ _ _ _ _ _ _ ⟨row0 r + k, hr⟩ (by rw [keyRow_eq, word_toNat _ (by omega)]), refK_at]

/-- The values of a query row's band. -/
theorem refVband_at (b : Fin 8) (r : Fin 64) (k : Fin 8) (y : Fin 64) (h : Fin 16) (d : Fin 64) :
    val_main_v44 (F := Ideal) X (ix6 b r k y h d) = at2 X (4096 * b + 64 * (row0 r + k) + y) (2048 + 64 * h + d) := by
  have hr : row0 r.val + k.val < 64 := by unfold row0; omega
  unfold val_main_v44
  rw [gather_rows _ _ _ _ _ _ _ _ ⟨row0 r + k, hr⟩ (by rw [valRow_eq, word_toNat _ (by omega)]), refV_at]

/-- The biases, for each query and each key of its band. -/
theorem refBias_at (h : Fin 16) (r a : Fin 64) (k : Fin 8) (y : Fin 64) :
    val_main_v92 (F := Ideal) B (ix5 h r a k y) = at3 B h (row0 r + k + 7 - r) (colOff a y) := by
  have hr : row0 r.val + k.val + 7 - r.val < 15 := by unfold row0; omega
  have hc : colOff a.val y.val < 31 := by unfold colOff; omega
  have h0 : val_main_v91 (F := Ideal) (ix5 r a k y 0) = val_main_v81 (F := Ideal) (ix4 r 0 k 0) := by
    unfold val_main_v91 val_main_v89 val_main_v87
    pointwise
  have h1 : val_main_v91 (F := Ideal) (ix5 r a k y 1) = val_main_v86 (F := Ideal) (ix4 0 a 0 y) := by
    unfold val_main_v91 val_main_v90 val_main_v88
    pointwise
  unfold val_main_v92
  rw [gather_bias _ _ _ _ _ _ _ ⟨_, hr⟩ ⟨_, hc⟩ (by rw [h0, rowOff_eq, word_toNat _ (by omega)])
    (by rw [h1, colOff_eq, word_toNat _ (by omega)])]
  unfold at3
  rw [dif_pos ⟨h.2, hr, hc⟩]
  unfold val_main_v15
  pointwise

end Cert.Proof

end
-- ==== Proof.RefValue.lean ====
module

public import proofs.«01_k».proof.Proof.RefReads
public import Idealize.ShloMosaic.Lib.Pointwise

@[expose] public section

set_option maxRecDepth 16384

noncomputable section

namespace Cert.Proof

open Idealize.ShloMosaic Idealize.ShloMosaic.TcCoe Idealize.SL.Sem Cert.ReferenceIdeal Cert.ReferenceIdeal.Gen Cert.ReferenceIdeal.Read

variable (X : S34816x3072.Idx → EReal) (B : S1x16x15x31.Idx → EReal)

/-- The reference's score of place `t` of a query's 768 keys: its band of 8 rows of 64 columns, then the context. -/
def refScore (b h r a : ℕ) (t : Fin 768) : EReal :=
  if t.val < 512 then
    if colOk a (t % 64) then
      dot X h (4096 * b + 64 * r + a) (4096 * b + 64 * row0 r + t) + at3 B h (row0 r + t / 64 + 7 - r) (colOff a (t % 64))
    else ⊥
  else dot X h (4096 * b + 64 * r + a) (32768 + 256 * b + (t - 512))

/-- The reference's value at place `t`, lane `d`. -/
def refVal (b h r d : ℕ) (t : Fin 768) : EReal :=
  if t.val < 512 then at2 X (4096 * b + 64 * row0 r + t) (2048 + 64 * h + d)
  else at2 X (32768 + 256 * b + (t - 512)) (2048 + 64 * h + d)

/-- The products of a query with its band's keys. -/
theorem bandDot_at (b : Fin 8) (h : Fin 16) (r a : Fin 64) (k : Fin 8) (y : Fin 64) :
    val_main_v93 (F := Ideal) X (ix6 b h r a k y) = dot X h (4096 * b + 64 * r + a) (4096 * b + 64 * row0 r + (64 * k + y)) := by
  unfold val_main_v93 dot
  pointwise
  refine Finset.sum_congr rfl fun d _ => ?_
  rw [refQ_at, refKband_at]
  congr 2
  ring

/-- The products of a query with the context's keys. -/
theorem ctxDot_at (b : Fin 8) (h : Fin 16) (r a : Fin 64) (j : Fin 256) :
    val_main_v99 (F := Ideal) X (ix5 b h r a j) = dot X h (4096 * b + 64 * r + a) (32768 + 256 * b + j) := by
  unfold val_main_v99 dot
  pointwise
  refine Finset.sum_congr rfl fun d _ => ?_
  rw [refQ_at, refKc_at]

/-- The band's masked scores. -/
theorem bandScore_at (b : Fin 8) (h : Fin 16) (r a : Fin 64) (k : Fin 8) (y : Fin 64) :
    val_main_v98 (F := Ideal) X B (ix6 b h r a k y)
      = if colOk a y then dot X h (4096 * b + 64 * r + a) (4096 * b + 64 * row0 r + (64 * k + y)) + at3 B h (row0 r + k + 7 - r) (colOff a y)
        else ⊥ := by
  have hm : val_main_call3_v1 (F := Ideal) (ix6 b h r a k y) = if colOk a y then 1#1 else 0#1 := by
    unfold val_main_call3_v1 val_main_v97
    pointwise
    exact colMask_eq a y
  have hb : val_main_v95 (F := Ideal) B (ix6 b h r a k y) = at3 B h (row0 r + k + 7 - r) (colOff a y) := by
    unfold val_main_v95 val_main_v94
    pointwise
    exact refBias_at B h r a k y
  have hf : val_main_call3_v2 (F := Ideal) (ix6 b h r a k y) = (⊥ : EReal) := by
    unfold val_main_call3_v2 val_main_call3_v0 val_main_cst_18
    pointwise
    exact negInf_f32
  rw [val_main_v98_apply, val_main_v96_apply, hm, hb, hf, bandDot_at]
  by_cases ho : colOk a y
  · rw [if_pos ho, if_pos ho]
    rfl
  · rw [if_neg ho, if_neg ho]
    rfl

/-- All of a query's scores. -/
theorem score_at (b : Fin 8) (h : Fin 16) (r a : Fin 64) (t : Fin 768) :
    val_main_v101 (F := Ideal) X B (ix5 b h r a t) = refScore X B b h r a t := by
  unfold val_main_v101 val_main_v100
  unfold refScore
  pointwise
  by_cases ht : t.val < 512
  · refine (dif_pos ht).trans ?_
    rw [if_pos ht]
    refine Eq.trans ?_ ((bandScore_at X B b h r a ⟨t / 64, by omega⟩ ⟨t % 64, by omega⟩).trans ?_)
    · exact congrArg _ (congrArg₂ (ix6 b h r a) (Fin.ext (by omega)) (Fin.ext (by omega)))
    · simp only []
      rw [Nat.div_add_mod]
  · refine (dif_neg ht).trans ?_
    rw [if_neg ht]
    exact ctxDot_at X b h r a _

/-- The maximum along the last axis, from −∞. -/
theorem rowMax_at (y : (⟨S8x16x64x64x768, .f32⟩ : BufTy).Contents (Elt Ideal)) (b : Fin 8) (h : Fin 16) (r a : Fin 64) :
    (Host.reduce (FloatOps.maximumf (F := Ideal) (φ := .f32)) y (val_main_cst_19 (F := Ideal)) reducesTo_S8x16x64x64x768_S8x16x64x64_d4 h_S_ (ix4 b h r a) : EReal)
      = Finset.univ.fold max ⊥ fun t => y (ix5 b h r a t) := by
  unfold val_main_cst_19
  pointwise
  rw [negInf_f32]

/-- The largest of a query's scores. -/
theorem max_at (b : Fin 8) (h : Fin 16) (r a : Fin 64) :
    val_main_v104 (F := Ideal) X B (ix4 b h r a) = Finset.univ.fold max ⊥ (refScore X B b h r a) := by
  have e : val_main_v103 (F := Ideal) (ix4 b h r a) = (⊥ : EReal) := by
    unfold val_main_v103 val_main_cst_20
    pointwise
    exact negInf_f32
  rw [val_main_v104_apply, e]
  refine (max_eq_right bot_le).trans ?_
  unfold val_main_v102
  rw [rowMax_at]
  simp only [score_at]

/-- The weights before they are divided by their sum. -/
theorem weight_at (b : Fin 8) (h : Fin 16) (r a : Fin 64) (t : Fin 768) :
    val_main_v108 (F := Ideal) X B (ix5 b h r a t)
      = Ideal.exp (refScore X B b h r a t - Finset.univ.fold max ⊥ (refScore X B b h r a)) := by
  unfold val_main_v108 val_main_v107 val_main_v106 val_main_v105
  pointwise
  rw [score_at, max_at]

/-- The weights. -/
theorem prob_at (b : Fin 8) (h : Fin 16) (r a : Fin 64) (t : Fin 768) :
    val_main_v112 (F := Ideal) X B (ix5 b h r a t)
      = Ideal.div (Ideal.exp (refScore X B b h r a t - Finset.univ.fold max ⊥ (refScore X B b h r a)))
          (∑ s, Ideal.exp (refScore X B b h r a s - Finset.univ.fold max ⊥ (refScore X B b h r a))) := by
  unfold val_main_v112 val_main_v111 val_main_v110 val_main_v109 val_main_cst_21
  pointwise
  simp only [weight_at]

/-- A sum over 768 places: 8 rows of 64, then 256. -/
theorem sum_places (f : Fin 768 → EReal) :
    ∑ t, f t = (∑ x : Fin 8, ∑ y : Fin 64, f ⟨x * 64 + y, by omega⟩) + ∑ j : Fin 256, f ⟨512 + j, by omega⟩ := by
  rw [show (∑ t, f t) = _ from Fin.sum_univ_add (a := 512) (b := 256) f]
  refine congrArg₂ (· + ·) ?_ rfl
  rw [← Finset.sum_product', Finset.univ_product_univ]
  refine (Fintype.sum_equiv (finProdFinEquiv (m := 8) (n := 64)) _ _ fun p => ?_).symm
  refine congrArg f (Fin.ext ?_)
  show p.1.val * 64 + p.2.val = p.2.val + 64 * p.1.val
  omega

/-- The weighted average as the reference takes it: each weight divided by their sum first. -/
def softAvgEach {n : ℕ} (S V : Fin n → EReal) : EReal :=
  ∑ t, Ideal.div (Ideal.exp (S t - Finset.univ.fold max ⊥ S)) (∑ s, Ideal.exp (S s - Finset.univ.fold max ⊥ S)) * V t

/-- The band's share of the result. -/
theorem bandOut_at (b : Fin 8) (h : Fin 16) (r a d : Fin 64) :
    val_main_v115 (F := Ideal) X B (ix5 b r h d a)
      = ∑ x : Fin 8, ∑ y : Fin 64, val_main_v112 (F := Ideal) X B (ix5 b h r a ⟨x * 64 + y, by omega⟩)
          * refVal X b h r d ⟨x * 64 + y, by omega⟩ := by
  unfold val_main_v115 val_main_v114 val_main_v113
  pointwise
  refine Finset.sum_congr rfl fun x _ => Finset.sum_congr rfl fun y _ => ?_
  rw [refVband_at, mul_comm]
  refine congrArg _ ?_
  unfold refVal
  rw [if_pos (by simp only []; omega)]
  congr 1
  simp only []
  ring

/-- The context's share of the result. -/
theorem ctxOut_at (b : Fin 8) (h : Fin 16) (r a d : Fin 64) :
    val_main_v118 (F := Ideal) X B (ix5 b h d r a)
      = ∑ j : Fin 256, val_main_v112 (F := Ideal) X B (ix5 b h r a ⟨512 + j, by omega⟩) * refVal X b h r d ⟨512 + j, by omega⟩ := by
  unfold val_main_v118 val_main_v117
  pointwise
  refine Finset.sum_congr rfl fun j _ => ?_
  rw [refVc_at, mul_comm]
  refine congrArg _ ?_
  unfold refVal
  rw [if_neg (by simp only []; omega)]
  congr 1
  simp only []
  omega

/-- The reference's result, element by element. -/
theorem result_at (n : Fin 32768) (c : Fin 1024) :
    val_main_v123 (F := Ideal) X B (ix2 n c)
      = softAvgEach (refScore X B (n / 4096) (c / 64) (n % 4096 / 64) (n % 64)) (refVal X (n / 4096) (c / 64) (n % 4096 / 64) (c % 64)) := by
  unfold val_main_v123 val_main_v122 val_main_v121 val_main_v120 val_main_v119 val_main_v116
  pointwise
  rw [bandOut_at, ctxOut_at, ← sum_places fun t => val_main_v112 (F := Ideal) X B
    (ix5 ⟨n / 4096, by omega⟩ ⟨c / 64, by omega⟩ ⟨n / 64 % 64, by omega⟩ ⟨n % 64, by omega⟩ t)
      * refVal X (n / 4096) (c / 64) (n / 64 % 64) (c % 64) t]
  unfold softAvgEach
  simp only [prob_at]
  rw [show n.val % 4096 / 64 = n.val / 64 % 64 by omega]

end Cert.Proof

end
-- ==== Proof.Soft.lean ====
module

public import proofs.«01_k».proof.Proof.RefValue

@[expose] public section

set_option maxRecDepth 16384

noncomputable section

namespace Cert.Proof

open Idealize.ShloMosaic

/-- A nonnegative finite factor distributes over a sum of extended reals. -/
theorem sum_mul_finite {ι : Type*} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- A maximum taken from −∞ is the supremum. -/
theorem foldMax_eq_sup {ι : Type*} (s : Finset ι) (f : ι → EReal) : s.fold max ⊥ f = s.sup f := rfl

/-- An exponential is nonnegative. -/
theorem exp_nonneg' (x : EReal) : 0 ≤ Ideal.exp x := by
  induction x with
  | bot => exact le_of_eq rfl
  | top => exact le_top
  | coe r => exact EReal.coe_nonneg.2 (Real.exp_pos r).le

/-- The exponential of something below +∞ is below +∞. -/
theorem exp_ne_top (x : EReal) (hx : x ≠ ⊤) : Ideal.exp x ≠ ⊤ := by
  induction x with
  | bot => exact EReal.zero_ne_top
  | top => exact absurd rfl hx
  | coe r => exact EReal.coe_ne_top _

/-- Softmax over a larger set of places of which the rest score −∞, divided once at the end, is softmax over the smaller
set with each weight divided first; the scores are below +∞ and one of them is above −∞. -/
theorem softAvg_embed {m n : ℕ} (S V : Fin m → EReal) (S' V' : Fin n → EReal) (e : Fin n → Fin m) (he : Function.Injective e)
    (hS : ∀ t, S (e t) = S' t) (hV : ∀ t, V (e t) = V' t) (hoff : ∀ k, (∀ t, e t ≠ k) → S k = ⊥)
    (htop : ∀ t, S' t ≠ ⊤) (hbot : ∃ t, S' t ≠ ⊥) :
    softAvg S V = softAvgEach S' V' := by
  classical
  have hM : Finset.univ.fold max ⊥ S = Finset.univ.fold max ⊥ S' := by
    rw [foldMax_eq_sup, foldMax_eq_sup]
    apply le_antisymm
    · refine Finset.sup_le fun k _ => ?_
      by_cases hk : ∃ t, e t = k
      · obtain ⟨t, rfl⟩ := hk
        rw [hS]
        exact Finset.le_sup (f := S') (Finset.mem_univ t)
      · rw [hoff k fun t ht => hk ⟨t, ht⟩]
        exact bot_le
    · refine Finset.sup_le fun t _ => ?_
      rw [← hS]
      exact Finset.le_sup (f := S) (Finset.mem_univ (e t))
  unfold softAvg softAvgEach
  rw [hM]
  obtain ⟨t0, h0⟩ := hbot
  obtain ⟨t1, -, h1⟩ := Finset.exists_mem_eq_sup (Finset.univ : Finset (Fin n)) ⟨t0, Finset.mem_univ _⟩ S'
  have hle : ∀ t, S' t ≤ S' t1 := fun t => h1 ▸ Finset.le_sup (f := S') (Finset.mem_univ t)
  rw [foldMax_eq_sup, h1]
  have hb1 : S' t1 ≠ ⊥ := fun h => h0 (le_bot_iff.1 (h ▸ hle t0))
  have hself : S' t1 - S' t1 = 0 := EReal.sub_self (htop t1) hb1
  have hzero : ∀ k, (∀ t, e t ≠ k) → Ideal.exp (S k - S' t1) = 0 := fun k hk => by
    rw [hoff k hk, EReal.bot_sub]
    rfl
  have hsum : ∀ f : Fin m → EReal, (∀ k, (∀ t, e t ≠ k) → f k = 0) → ∑ k, f k = ∑ t, f (e t) := fun f hf => by
    rw [← Finset.sum_image (s := Finset.univ) (g := e) (f := f) fun a _ b _ hab => he hab]
    refine (Finset.sum_subset (Finset.subset_univ _) fun k _ hk => hf k fun t ht => hk ?_).symm
    exact Finset.mem_image.2 ⟨t, Finset.mem_univ t, ht⟩
  rw [hsum _ fun k hk => by rw [hzero k hk, zero_mul], hsum _ hzero]
  simp only [hS, hV]
  have hfin : ∀ t, Ideal.exp (S' t - S' t1) ≠ ⊤ := fun t => exp_ne_top _ (by
    rw [sub_eq_add_neg]
    exact EReal.add_ne_top (htop t) fun h => hb1 (EReal.neg_eq_top_iff.1 h))
  have hD : ∃ r : ℝ, 0 < r ∧ ∑ t, Ideal.exp (S' t - S' t1) = (r : EReal) := by
    have hge : (1 : EReal) ≤ ∑ t, Ideal.exp (S' t - S' t1) := by
      refine le_trans (le_of_eq ?_) (Finset.single_le_sum (f := fun t => Ideal.exp (S' t - S' t1))
        (fun t _ => exp_nonneg' _) (Finset.mem_univ t1))
      show (1 : EReal) = Ideal.exp (S' t1 - S' t1)
      rw [hself]
      show (1 : EReal) = ((Real.exp 0 : ℝ) : EReal)
      rw [Real.exp_zero, EReal.coe_one]
    have hne : ∑ t, Ideal.exp (S' t - S' t1) ≠ ⊤ := by
      refine Finset.sum_induction _ (· ≠ ⊤) (fun a b ha hb => EReal.add_ne_top ha hb) EReal.zero_ne_top fun t _ => hfin t
    have hnb : ∑ t, Ideal.exp (S' t - S' t1) ≠ ⊥ := fun h => by
      rw [h] at hge
      exact absurd (le_bot_iff.1 hge) (EReal.coe_ne_bot 1)
    refine ⟨(∑ t, Ideal.exp (S' t - S' t1)).toReal, ?_, (EReal.coe_toReal hne hnb).symm⟩
    rw [← EReal.coe_pos, EReal.coe_toReal hne hnb]
    exact lt_of_lt_of_le zero_lt_one hge
  obtain ⟨r, hr, hD⟩ := hD
  rw [hD, Ideal.div_coe hr.ne', sum_mul_finite _ _ _ (EReal.coe_nonneg.2 (by positivity)) (EReal.coe_ne_top _)]
  refine Finset.sum_congr rfl fun t _ => ?_
  rw [Ideal.div_coe hr.ne', mul_right_comm]

end Cert.Proof

end
-- ==== Proof.Equation.lean ====
module

public import proofs.«01_k».proof.Proof.Soft

@[expose] public section

set_option maxRecDepth 16384

noncomputable section

namespace Cert.Proof

open Idealize.ShloMosaic Cert.ReferenceIdeal Cert.ReferenceIdeal.Gen

/-- An extended real that is a real number. -/
def IsReal (x : EReal) : Prop := ∃ r : ℝ, x = r

/-- A real number is below +∞. -/
theorem IsReal.ne_top {x : EReal} (h : IsReal x) : x ≠ ⊤ := by
  obtain ⟨r, rfl⟩ := h
  exact EReal.coe_ne_top r

/-- A real number is above −∞. -/
theorem IsReal.ne_bot {x : EReal} (h : IsReal x) : x ≠ ⊥ := by
  obtain ⟨r, rfl⟩ := h
  exact EReal.coe_ne_bot r

/-- The sum of two real numbers is real. -/
theorem IsReal.add {x y : EReal} (hx : IsReal x) (hy : IsReal y) : IsReal (x + y) := by
  obtain ⟨r, rfl⟩ := hx
  obtain ⟨s, rfl⟩ := hy
  exact ⟨r + s, (EReal.coe_add r s).symm⟩

/-- The product of two real numbers is real. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- A finite sum of real numbers is real. -/
theorem IsReal.sum {ι : Type*} (s : Finset ι) (f : ι → EReal) (h : ∀ i ∈ s, IsReal (f i)) : IsReal (∑ i ∈ s, f i) :=
  Finset.sum_induction f IsReal (fun _ _ => IsReal.add) ⟨0, EReal.coe_zero.symm⟩ h

variable (X : S34816x3072.Idx → EReal) (B : S1x16x15x31.Idx → EReal)

/-- The latent queries, all keys and the biases are real numbers. -/
structure RealScores : Prop where
  /-- The latent queries are real numbers. -/
  query : ∀ r c, r < 32768 → c < 1024 → IsReal (at2 X r c)
  /-- All keys are real numbers. -/
  key : ∀ r c, 1024 ≤ c → c < 2048 → IsReal (at2 X r c)
  /-- The biases are real numbers. -/
  bias : ∀ h j c, IsReal (at3 B h j c)

/-- A scaled product of a query and a key is then a real number. -/
theorem dot_real (H : RealScores X B) (h q n : ℕ) (hh : h < 16) (hq : q < 32768) : IsReal (dot X h q n) := by
  unfold dot
  refine IsReal.sum _ _ fun d _ => ?_
  exact ((H.query _ _ hq (by omega)).mul ⟨1 / 8, rfl⟩).mul (H.key _ _ (by omega) (by omega))

/-- Where the reference's place `t` lies among the kernel's 1280, for query row `r`. -/
def place (r : ℕ) (hr : r < 64) (t : Fin 768) : Fin 1280 :=
  ⟨if t.val < 512 then 64 * (row0 r - win0 (r / 8)) + t else t + 512, by
    unfold row0 win0
    split <;> omega⟩

/-- The kernel's attention is the reference's: the rows of keys that it reads beside a query's neighbourhood score −∞. -/
theorem softAvg_place (H : RealScores X B) (b h r a d : ℕ) (hb : b < 8) (hh : h < 16) (hr : r < 64) (ha : a < 64) :
    softAvg (kScore X B b h r a) (kVal X b h r d) = softAvgEach (refScore X B b h r a) (refVal X b h r d) := by
  have hw : win0 (r / 8) ≤ row0 r ∧ row0 r + 8 ≤ win0 (r / 8) + 16 := by
    unfold row0 win0
    omega
  have hw8 : row0 r ≤ 56 ∧ r ≤ row0 r + 7 := by
    unfold row0
    omega
  have hq : 4096 * b + 64 * r + a < 32768 := by omega
  have hpos : ∀ t : Fin 768, t.val < 512 → (place r hr t).val = 64 * (row0 r - win0 (r / 8)) + t := fun t ht => if_pos ht
  have hneg : ∀ t : Fin 768, ¬ t.val < 512 → (place r hr t).val = t + 512 := fun t ht => if_neg ht
  refine softAvg_embed _ _ _ _ (place r hr) ?_ ?_ ?_ ?_ ?_ ?_
  · intro s t hst
    have hv := congrArg Fin.val hst
    apply Fin.ext
    by_cases hs : s.val < 512 <;> by_cases ht : t.val < 512
    · rw [hpos s hs, hpos t ht] at hv
      omega
    · rw [hpos s hs, hneg t ht] at hv
      omega
    · rw [hneg s hs, hpos t ht] at hv
      omega
    · rw [hneg s hs, hneg t ht] at hv
      omega
  · intro t
    unfold kScore refScore
    by_cases ht : t.val < 512
    · rw [if_pos ht, hpos t ht, if_pos (by omega)]
      rw [show 4096 * b + 64 * win0 (r / 8) + (64 * (row0 r - win0 (r / 8)) + t.val) = 4096 * b + 64 * row0 r + t.val by omega,
        show (64 * (row0 r - win0 (r / 8)) + t.val) % 64 = t.val % 64 by omega,
        show win0 (r / 8) + (64 * (row0 r - win0 (r / 8)) + t.val) / 64 = row0 r + t.val / 64 by omega]
      rw [bandRow, if_pos (by omega)]
      unfold zval
      by_cases ho : colOk a (t.val % 64)
      · simp only [if_pos ho]
      · simp only [if_neg ho]
        exact EReal.add_bot _
    · rw [if_neg ht, hneg t ht, if_neg (by omega)]
      congr 1
  · intro t
    unfold kVal refVal
    by_cases ht : t.val < 512
    · rw [if_pos ht, hpos t ht, if_pos (by omega)]
      congr 1
      omega
    · rw [if_neg ht, hneg t ht, if_neg (by omega)]
      congr 1
  · intro k hk
    have hk1 : k.val < 1024 := by
      by_contra hc
      refine hk ⟨k - 512, by omega⟩ (Fin.ext ?_)
      rw [hneg _ (by simp only []; omega)]
      simp only []
      omega
    have hrow : ¬ (row0 r ≤ win0 (r / 8) + k.val / 64 ∧ win0 (r / 8) + k.val / 64 < row0 r + 8) := fun hc => by
      refine hk ⟨k - 64 * (row0 r - win0 (r / 8)), by omega⟩ (Fin.ext ?_)
      rw [hpos _ (by simp only []; omega)]
      simp only []
      omega
    unfold kScore
    rw [if_pos hk1, bandRow, if_neg hrow]
    exact EReal.add_bot _
  · intro t
    unfold refScore
    by_cases ht : t.val < 512
    · rw [if_pos ht]
      by_cases ho : colOk a (t.val % 64)
      · rw [if_pos ho]
        exact ((dot_real X B H _ _ _ hh hq).add (H.bias _ _ _)).ne_top
      · rw [if_neg ho]
        exact bot_ne_top
    · rw [if_neg ht]
      exact (dot_real X B H _ _ _ hh hq).ne_top
  · refine ⟨⟨512, by omega⟩, ?_⟩
    unfold refScore
    rw [if_neg (by simp only []; omega)]
    exact (dot_real X B H _ _ _ hh hq).ne_bot

/-- Kernel and reference compute the same array when the scores are real numbers. -/
theorem attended_eq (H : RealScores X B) :
    attended X B = Cert.ReferenceIdeal.Read.val_main_v123 (F := Ideal) X B := by
  funext j
  obtain ⟨n, c, rfl⟩ : ∃ (n : Fin 32768) (c : Fin 1024), j = ix2 n c := ⟨j 0, j 1, eq_ix2 j⟩
  refine Eq.trans ?_ (result_at X B n c).symm
  exact softAvg_place X B H (n / 4096) (c / 64) (n % 4096 / 64) (n % 64) (c % 64) (by omega) (by omega) (by omega) (by omega)

end Cert.Proof

end
-- ==== Proof.Finite.lean ====
module

public import proofs.«01_k».proof.Defs
public import proofs.«01_k».proof.Proof.Equation

@[expose] public section

set_option maxRecDepth 16384

noncomputable section

namespace Cert.Proof

open Idealize.ShloMosaic Cert.ReferenceIdeal Cert.ReferenceIdeal.Gen

/-- An extended real of absolute value below +∞ is a real number. -/
theorem isReal_of_abs (x t : EReal) (ht : t = ⊤) (h : Ideal.cmp .olt (max x (-x)) t = 1#1) : IsReal x := by
  subst ht
  induction x with
  | bot => exact absurd h (by simp [Ideal.cmp])
  | top => exact absurd h (by simp [Ideal.cmp])
  | coe r => exact ⟨r, rfl⟩

/-- The word of +∞ in bf16. -/
theorem posInf_bf16 : Ideal.ofBits .bf16 0x7F80#16 = ⊤ := by simp [Ideal.ofBits, Ideal.ieee]

/-- The word of +∞ in f32. -/
theorem posInf_f32 : Ideal.ofBits .f32 0x7F800000#32 = ⊤ := by simp [Ideal.ofBits, Ideal.ieee]

/-- The precondition, read at the arguments: the latent queries, all keys and the biases are real numbers. -/
theorem realScores_of_pre [Cert.Pre_scores_finite.Facts] (X : S34816x3072.Idx → EReal) (B : S1x16x15x31.Idx → EReal)
    (h : (Cert.Pre_scores_finite.fn (F := Ideal) X B).1 = (fun _ => 1#1)
      ∧ (Cert.Pre_scores_finite.fn (F := Ideal) X B).2.1 = (fun _ => 1#1)
      ∧ (Cert.Pre_scores_finite.fn (F := Ideal) X B).2.2 = (fun _ => 1#1)) : RealScores X B := by
  obtain ⟨hq, hk, hb⟩ := h
  refine ⟨fun r c hr hc => ?_, fun r c h1 h2 => ?_, fun h j c => ?_⟩
  · have e : IsReal (extractStridedSlice Cert.Pre_scores_finite.S32768x1024 ![0, 0] X
        Cert.Pre_scores_finite.Facts.slices_S34816x3072_S32768x1024_0_0 (ix2 ⟨r, hr⟩ ⟨c, hc⟩)) :=
      isReal_of_abs _ _ posInf_bf16 (congrFun hq (ix2 ⟨r, hr⟩ ⟨c, hc⟩))
    refine Eq.mp (congrArg IsReal ?_) e
    pointwise
    exact at2_of X _ _ r c rfl rfl
  · by_cases hr : r < 34816
    · have e : IsReal (extractStridedSlice Cert.Pre_scores_finite.S34816x1024 ![0, 1024] X
          Cert.Pre_scores_finite.Facts.slices_S34816x3072_S34816x1024_0_1024 (ix2 ⟨r, hr⟩ ⟨c - 1024, by omega⟩)) :=
        isReal_of_abs _ _ posInf_bf16 (congrFun hk (ix2 ⟨r, hr⟩ ⟨c - 1024, by omega⟩))
      refine Eq.mp (congrArg IsReal ?_) e
      pointwise
      exact at2_of X _ _ r c rfl (by simp only []; omega)
    · unfold at2
      rw [dif_neg (by omega)]
      exact ⟨0, EReal.coe_zero.symm⟩
  · unfold at3
    by_cases H : h < 16 ∧ j < 15 ∧ c < 31
    · rw [dif_pos H]
      exact isReal_of_abs _ _ posInf_f32 (congrFun hb (ix4 0 ⟨h, H.1⟩ ⟨j, H.2.1⟩ ⟨c, H.2.2⟩))
    · rw [dif_neg H]
      exact ⟨0, EReal.coe_zero.symm⟩

end Cert.Proof

end
-- ==== Proof.Readout.lean ====
module

public import proofs.«01_k».proof.Proof.Gen.Kernel5Ideal.Value
public import proofs.«01_k».proof.Proof.Gen.Reference5Ideal.Run
public import proofs.«01_k».proof.Proof.Gen.Reference5Ideal.Read
public import proofs.«01_k».proof.Proof.RefReads
public import Idealize.ShloMosaic.Lib.Pipeline.ValueKit.Point
public import Idealize.ShloMosaic.Lib.Claim

@[expose] public section

set_option maxRecDepth 16384

noncomputable section

namespace Cert.Proof.Readout

open Idealize.ShloMosaic Idealize.ShloMosaic.TcCoe Idealize.SL.Sem Cert.Proof

/-- The recurrence's output, weighted and gated by the swish of the gate columns of the projections. -/
def gated (O : Shape.Idx ⟨2, ![32768, 2048]⟩ → EReal) (P : Shape.Idx ⟨2, ![34816, 8192]⟩ → EReal) (G : Shape.Idx ⟨2, ![1, 2048]⟩ → EReal)
    (r k : ℕ) : EReal :=
  at2 O r k * at2 G 0 k * (at2 P r (6144 + k) * Ideal.logistic (at2 P r (6144 + k)))

/-- The gated rows times the output weights. -/
def readOut (O : Shape.Idx ⟨2, ![32768, 2048]⟩ → EReal) (P : Shape.Idx ⟨2, ![34816, 8192]⟩ → EReal) (G : Shape.Idx ⟨2, ![1, 2048]⟩ → EReal)
    (W : Shape.Idx ⟨2, ![2048, 2048]⟩ → EReal) : Shape.Idx ⟨2, ![32768, 2048]⟩ → EReal := fun j =>
  ∑ k : Fin 2048, gated O P G (j 0).val k * at2 W k (j 1).val

section

open Cert.Kernel5Ideal Cert.Kernel5Ideal.Gen

variable (m : (ℓ : Loc nD τ sig) → Buf (Elt Ideal) ℓ)

/-- One block of the result, from staged blocks that are rows of the arguments. -/
theorem block_at (O : S32768x2048.Idx → EReal) (P : S34816x8192.Idx → EReal) (G : S1x2048.Idx → EReal) (W : S2048x2048.Idx → EReal)
    (x0 x1 : Vec Ideal S512x2048 .bf16) (x2 : Vec Ideal S1x2048 .f32) (x3 : Vec Ideal S2048x2048 .bf16) (R : ℕ)
    (h0 : ∀ (r : Fin 512) (k : Fin 2048), x0 (ix2 r k) = at2 O (R + r) k)
    (h1 : ∀ (r : Fin 512) (k : Fin 2048), x1 (ix2 r k) = at2 P (R + r) (6144 + k))
    (h2 : ∀ k : Fin 2048, x2 (ix2 0 k) = at2 G 0 k)
    (h3 : ∀ k l : Fin 2048, x3 (ix2 k l) = at2 W k l) (r : Fin 512) (l : Fin 2048) :
    out0_4 x0 x1 x2 x3 (ix2 r l) = ∑ k : Fin 2048, gated O P G (R + r) k * at2 W k l := by
  unfold out0_4
  rw [View.canon_unit_zero (by decide)]
  rw [View.ld_unit_zero (by decide) _ x0, View.ld_unit_zero (by decide) _ x1, View.ld_unit_zero (by decide) _ x2, View.ld_unit_zero (by decide) _ x3]
  unfold k0_pay1
  pointwise
  refine Finset.sum_congr rfl fun k _ => ?_
  rw [h0, h1, h2, h3]
  rfl

/-- Where each window's block lies at a grid point. -/
theorem idx_facts : ∀ t : Fin cfg0.N,
    (win0_0.index t 0 = t.val ∧ win0_0.index t 1 = 0) ∧ (win0_1.index t 0 = t.val ∧ win0_1.index t 1 = 3)
    ∧ (win0_2.index t 0 = 0 ∧ win0_2.index t 1 = 0) ∧ (win0_3.index t 0 = 0 ∧ win0_3.index t 1 = 0)
    ∧ (win0_4.index t 0 = t.val ∧ win0_4.index t 1 = 0) :=
  (by decide +kernel : ∀ t : Fin grid0.N, _)

/-- The recurrence's output at launch. -/
def outs (c : Dev nD) : S32768x2048.Idx → EReal := m ((c : Thread nD τ).loc main_arg0)

/-- The projections at launch. -/
def gates (c : Dev nD) : S34816x8192.Idx → EReal := m ((c : Thread nD τ).loc main_arg1)

/-- The norm weights at launch. -/
def norms (c : Dev nD) : S1x2048.Idx → EReal := m ((c : Thread nD τ).loc main_arg2)

/-- The output weights at launch. -/
def weights (c : Dev nD) : S2048x2048.Idx → EReal := m ((c : Thread nD τ).loc main_arg3)

/-- The block of window 0. -/
theorem blk0 (c : Dev nD) (t : Fin cfg0.N) (r : Fin 512) (k : Fin 2048) :
    iblk m c 0 t (ix2 r k) = at2 (outs m c) (512 * t.val + r) k := by
  obtain ⟨⟨h00, h01⟩, ⟨h10, h11⟩, ⟨h20, h21⟩, ⟨h30, h31⟩, ⟨h40, h41⟩⟩ := idx_facts t
  blk_simp [iblk]
  refine Eq.trans (congrFun (V_main_arg0 m c) _) (at2_eq _ _ _ _ ?_ ?_)
  · blk_simp
    omega
  · blk_simp
    omega

/-- The block of window 1. -/
theorem blk1 (c : Dev nD) (t : Fin cfg0.N) (r : Fin 512) (k : Fin 2048) :
    iblk m c 1 t (ix2 r k) = at2 (gates m c) (512 * t.val + r) (6144 + k) := by
  obtain ⟨⟨h00, h01⟩, ⟨h10, h11⟩, ⟨h20, h21⟩, ⟨h30, h31⟩, ⟨h40, h41⟩⟩ := idx_facts t
  blk_simp [iblk]
  refine Eq.trans (congrFun (V_main_arg1 m c) _) (at2_eq _ _ _ _ ?_ ?_)
  · blk_simp
    omega
  · blk_simp
    omega

/-- The block of window 2. -/
theorem blk2 (c : Dev nD) (t : Fin cfg0.N) (r : Fin 1) (k : Fin 2048) :
    iblk m c 2 t (ix2 r k) = at2 (norms m c) r k := by
  obtain ⟨⟨h00, h01⟩, ⟨h10, h11⟩, ⟨h20, h21⟩, ⟨h30, h31⟩, ⟨h40, h41⟩⟩ := idx_facts t
  blk_simp [iblk]
  refine Eq.trans (congrFun (V_main_arg2 m c) _) (at2_eq _ _ _ _ ?_ ?_)
  · blk_simp
    omega
  · blk_simp
    omega

/-- The block of window 3. -/
theorem blk3 (c : Dev nD) (t : Fin cfg0.N) (r : Fin 2048) (k : Fin 2048) :
    iblk m c 3 t (ix2 r k) = at2 (weights m c) r k := by
  obtain ⟨⟨h00, h01⟩, ⟨h10, h11⟩, ⟨h20, h21⟩, ⟨h30, h31⟩, ⟨h40, h41⟩⟩ := idx_facts t
  blk_simp [iblk]
  refine Eq.trans (congrFun (V_main_arg3 m c) _) (at2_eq _ _ _ _ ?_ ?_)
  · blk_simp
    omega
  · blk_simp
    omega

/-- The grid leaves `readOut` of the arguments in the output array. -/
theorem final (c : Dev nD) : (dats m 0 c).arrAt 4 cfg0.N = readOut (outs m c) (gates m c) (norms m c) (weights m c) := by
  refine (dats m 0 c).arrAt_eq_of_covers 4 _ (by decide +kernel) fun t hf y => ?_
  blk_simp
  rw [after0_4]
  obtain ⟨r, l, rfl⟩ : ∃ (r : Fin 512) (l : Fin 2048), y = ix2 r l := ⟨y 0, y 1, eq_ix2 y⟩
  refine (block_at (outs m c) (gates m c) (norms m c) (weights m c) _ _ _ _ (512 * t.val)
    (blk0 m c t) (blk1 m c t) (fun k => blk2 m c t 0 k) (blk3 m c t) r l).trans ?_
  obtain ⟨⟨h00, h01⟩, ⟨h10, h11⟩, ⟨h20, h21⟩, ⟨h30, h31⟩, ⟨h40, h41⟩⟩ := idx_facts t
  have e0 : (((win0_4.blk t).view.emb (ix2 r l)) 0).val = 512 * t.val + r := by
    blk_simp
    simp only []
    omega
  have e1 : (((win0_4.blk t).view.emb (ix2 r l)) 1).val = l := by
    blk_simp
    omega
  unfold readOut
  rw [e0, e1]

end

section

open Cert.Reference5Ideal Cert.Reference5Ideal.Gen Cert.Reference5Ideal.Read

/-- The reference's result is the same. -/
theorem reference_at (O : S32768x2048.Idx → EReal) (P : S34816x8192.Idx → EReal) (G : S1x2048.Idx → EReal) (W : S2048x2048.Idx → EReal) :
    val_main_v11 (F := Ideal) O P G W = readOut O P G W := by
  funext j
  obtain ⟨r, l, rfl⟩ : ∃ (r : Fin 32768) (l : Fin 2048), j = ix2 r l := ⟨j 0, j 1, eq_ix2 j⟩
  unfold val_main_v11 val_main_v10 val_main_v9 val_main_v8 val_main_v7 val_main_v6 val_main_v5 val_main_v4 val_main_v3 val_main_v2 val_main_v1 val_main_v0 val_main_call0_v5 val_main_call0_v4 val_main_call0_v3 val_main_call0_v2 val_main_call0_v1 val_main_call0_v0 val_main_call0_cst val_main_call0_cst_0
  pointwise
  refine Finset.sum_congr rfl fun k _ => ?_
  refine congrArg₂ (· * ·) ?_ (at2_of W _ _ _ _ rfl rfl)
  refine congrArg₂ (· * ·) (congrArg₂ (· * ·) (at2_of O _ _ _ _ rfl rfl) (at2_of G _ _ _ _ rfl rfl)) ?_
  have e : val_main_v2 (F := Ideal) P (ix2 r k) = at2 P r (6144 + k) := by
    unfold val_main_v2 val_main_v1
    pointwise
    exact at2_of P _ _ _ _ rfl rfl
  rw [e]
  exact congrArg (· * Ideal.logistic (at2 P r (6144 + k))) (at2_of P _ _ _ _ rfl rfl)

end

end Cert.Proof.Readout

end
-- ==== Proof.Merge.lean ====
module

public import proofs.«01_k».proof.Proof.Gen.Kernel4Ideal.Value
public import proofs.«01_k».proof.Proof.Gen.Reference4Ideal.Run
public import proofs.«01_k».proof.Proof.Gen.Reference4Ideal.Read
public import proofs.«01_k».proof.Proof.RefReads
public import Idealize.ShloMosaic.Lib.Pipeline.ValueKit.Point
public import Idealize.ShloMosaic.Lib.Claim

@[expose] public section

set_option maxRecDepth 16384

noncomputable section

namespace Cert.Proof.Merge

open Idealize.ShloMosaic Idealize.ShloMosaic.TcCoe Idealize.SL.Sem Cert.Proof

/-- An array of rank 3 read at natural indices (0 outside). -/
def at3n {a b n : ℕ} (X : Shape.Idx ⟨3, ![a, b, n]⟩ → EReal) (q r c : ℕ) : EReal :=
  if h : q < a ∧ r < b ∧ c < n then X (ix3 ⟨q, h.1⟩ ⟨r, h.2.1⟩ ⟨c, h.2.2⟩) else 0

/-- An array of rank 3 read at an index. -/
theorem at3n_eq {a b n : ℕ} (X : Shape.Idx ⟨3, ![a, b, n]⟩ → EReal) (j : Shape.Idx ⟨3, ![a, b, n]⟩) (q r c : ℕ)
    (hq : (j 0).val = q) (hr : (j 1).val = r) (hc : (j 2).val = c) : X j = at3n X q r c := by
  subst hq hr hc
  unfold at3n
  rw [dif_pos ⟨(j 0).2, (j 1).2, (j 2).2⟩]
  exact congrArg X (eq_ix3 j)

/-- The same at an index of three coordinates. -/
theorem at3n_of {a b n : ℕ} (X : Shape.Idx ⟨3, ![a, b, n]⟩ → EReal) (x : Fin a) (y : Fin b) (z : Fin n) (q r c : ℕ)
    (hq : x.val = q) (hr : y.val = r) (hc : z.val = c) : X (ix3 x y z) = at3n X q r c :=
  at3n_eq X _ _ _ _ hq hr hc

/-- The two scan directions and the skip connection, added. -/
def mixed (Y : Shape.Idx ⟨3, ![2, 34816, 1024]⟩ → EReal) (U : Shape.Idx ⟨2, ![34816, 1024]⟩ → EReal) (D : Shape.Idx ⟨2, ![1, 1024]⟩ → EReal)
    (r k : ℕ) : EReal :=
  at3n Y 0 r k + at3n Y 1 r k + at2 D 0 k * at2 U r k

/-- The tanh form of the gaussian error unit. -/
def gelu (x : EReal) : EReal :=
  x * (Ideal.ofBits FTy.f32 1056964608#32 * (1 + Ideal.tanh (Ideal.ofBits FTy.f32 1061962282#32 * (x + Ideal.ofBits FTy.f32 1027024659#32 * (x * (x * x))))))

/-- A row after the activation and the sigmoid gate computed from it. -/
def gatedRow (z : ℕ → EReal) (W : Shape.Idx ⟨2, ![1024, 1024]⟩ → EReal) (k : ℕ) : EReal :=
  gelu (z k) * Ideal.logistic (∑ i : Fin 1024, gelu (z i) * at2 W i k)

/-- Attention rows and gated rows times the two halves of the output weights. -/
def merged (A : Shape.Idx ⟨2, ![34816, 1024]⟩ → EReal) (Y : Shape.Idx ⟨3, ![2, 34816, 1024]⟩ → EReal) (U : Shape.Idx ⟨2, ![34816, 1024]⟩ → EReal)
    (D : Shape.Idx ⟨2, ![1, 1024]⟩ → EReal) (W : Shape.Idx ⟨2, ![1024, 1024]⟩ → EReal) (W2 : Shape.Idx ⟨2, ![2048, 2048]⟩ → EReal)
    (r l : ℕ) : EReal :=
  (∑ k : Fin 1024, at2 A r k * at2 W2 k l) + ∑ k : Fin 1024, gatedRow (mixed Y U D r) W k * at2 W2 (1024 + k) l

section

open Cert.Kernel4Ideal Cert.Kernel4Ideal.Gen

variable (m : (ℓ : Loc nD τ sig) → Buf (Elt Ideal) ℓ)

/-- One block of the result, from staged blocks that are rows of the arguments. -/
theorem block_at (A : S34816x1024.Idx → EReal) (Y : S2x34816x1024.Idx → EReal) (U : S34816x1024.Idx → EReal) (D : S1x1024.Idx → EReal)
    (W : S1024x1024.Idx → EReal) (W2 : S2048x2048.Idx → EReal)
    (x0 : Vec Ideal S512x1024 .bf16) (x1 : Vec Ideal S2x512x1024 .f32) (x2 : Vec Ideal S512x1024 .f32) (x3 : Vec Ideal S1x1024 .f32)
    (x4 : Vec Ideal S1024x1024 .bf16) (x5 : Vec Ideal S2048x2048 .bf16) (R : ℕ)
    (h0 : ∀ (r : Fin 512) (k : Fin 1024), x0 (ix2 r k) = at2 A (R + r) k)
    (h1 : ∀ (q : Fin 2) (r : Fin 512) (k : Fin 1024), x1 (ix3 q r k) = at3n Y q (R + r) k)
    (h2 : ∀ (r : Fin 512) (k : Fin 1024), x2 (ix2 r k) = at2 U (R + r) k)
    (h3 : ∀ k : Fin 1024, x3 (ix2 0 k) = at2 D 0 k)
    (h4 : ∀ k l : Fin 1024, x4 (ix2 k l) = at2 W k l)
    (h5 : ∀ k l : Fin 2048, x5 (ix2 k l) = at2 W2 k l) (r : Fin 512) (l : Fin 2048) :
    out0_6 x0 x1 x2 x3 x4 x5 (ix2 r l) = merged A Y U D W W2 (R + r) l := by
  unfold out0_6
  rw [View.canon_unit_zero (by decide)]
  rw [View.ld_unit_zero (by decide) _ x0, View.ld_unit_zero (by decide) _ x2, View.ld_unit_zero (by decide) _ x3, View.ld_unit_zero (by decide) _ x4]
  unfold k0_pay1 k0_pay2 k0_pay3
  pointwise
  have hz : ∀ k : Fin 1024, x1 (ix3 0 r k) + x1 (ix3 1 r k) + x3 (ix2 0 k) * x2 (ix2 r k) = mixed Y U D (R + r) k := fun k => by
    rw [h1, h1, h2, h3]
    rfl
  simp only [hz]
  refine congrArg₂ (· + ·) (Finset.sum_congr rfl fun k _ => ?_) (Finset.sum_congr rfl fun k _ => ?_)
  · rw [h0, h5]
  · rw [h5]
    refine congrArg (· * _) ?_
    refine congrArg (fun s => gelu (mixed Y U D (R + r) k) * Ideal.logistic s) (Finset.sum_congr rfl fun i _ => ?_)
    rw [h4]
    rfl

/-- Where each window's block lies at a grid point. -/
theorem idx_facts : ∀ t : Fin cfg0.N,
    (win0_0.index t 0 = t.val ∧ win0_0.index t 1 = 0) ∧ (win0_1.index t 0 = 0 ∧ win0_1.index t 1 = t.val ∧ win0_1.index t 2 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0) :=
  (by decide +kernel : ∀ t : Fin grid0.N, _)

/-- The attention's rows at launch. -/
def attn (c : Dev nD) : S34816x1024.Idx → EReal := m ((c : Thread nD τ).loc main_arg0)

/-- The two scans at launch. -/
def scans (c : Dev nD) : S2x34816x1024.Idx → EReal := m ((c : Thread nD τ).loc main_arg1)

/-- The scans' input at launch. -/
def inputs (c : Dev nD) : S34816x1024.Idx → EReal := m ((c : Thread nD τ).loc main_arg2)

/-- The skip weights at launch. -/
def skips (c : Dev nD) : S1x1024.Idx → EReal := m ((c : Thread nD τ).loc main_arg3)

/-- The gate's weights at launch. -/
def gluW (c : Dev nD) : S1024x1024.Idx → EReal := m ((c : Thread nD τ).loc main_arg4)

/-- The output weights at launch. -/
def outW (c : Dev nD) : S2048x2048.Idx → EReal := m ((c : Thread nD τ).loc main_arg5)

/-- The block of window 0. -/
theorem blk0 (c : Dev nD) (t : Fin cfg0.N) (r : Fin 512) (k : Fin 1024) :
    iblk m c 0 t (ix2 r k) = at2 (attn m c) (512 * t.val + r) k := by
  obtain ⟨⟨h00, h01⟩, ⟨h10, h11, h12⟩, ⟨h20, h21⟩, ⟨h30, h31⟩, ⟨h40, h41⟩, ⟨h50, h51⟩, ⟨h60, h61⟩⟩ := idx_facts t
  blk_simp [iblk]
  refine Eq.trans (congrFun (V_main_arg0 m c) _) (at2_eq _ _ _ _ ?_ ?_)
  · blk_simp
    omega
  · blk_simp
    omega

/-- The block of window 2. -/
theorem blk2 (c : Dev nD) (t : Fin cfg0.N) (r : Fin 512) (k : Fin 1024) :
    iblk m c 2 t (ix2 r k) = at2 (inputs m c) (512 * t.val + r) k := by
  obtain ⟨⟨h00, h01⟩, ⟨h10, h11, h12⟩, ⟨h20, h21⟩, ⟨h30, h31⟩, ⟨h40, h41⟩, ⟨h50, h51⟩, ⟨h60, h61⟩⟩ := idx_facts t
  blk_simp [iblk]
  refine Eq.trans (congrFun (V_main_arg2 m c) _) (at2_eq _ _ _ _ ?_ ?_)
  · blk_simp
    omega
  · blk_simp
    omega

/-- The block of window 3. -/
theorem blk3 (c : Dev nD) (t : Fin cfg0.N) (r : Fin 1) (k : Fin 1024) :
    iblk m c 3 t (ix2 r k) = at2 (skips m c) r k := by
  obtain ⟨⟨h00, h01⟩, ⟨h10, h11, h12⟩, ⟨h20, h21⟩, ⟨h30, h31⟩, ⟨h40, h41⟩, ⟨h50, h51⟩, ⟨h60, h61⟩⟩ := idx_facts t
  blk_simp [iblk]
  refine Eq.trans (congrFun (V_main_arg3 m c) _) (at2_eq _ _ _ _ ?_ ?_)
  · blk_simp
    omega
  · blk_simp
    omega

/-- The block of window 4. -/
theorem blk4 (c : Dev nD) (t : Fin cfg0.N) (r : Fin 1024) (k : Fin 1024) :
    iblk m c 4 t (ix2 r k) = at2 (gluW m c) r k := by
  obtain ⟨⟨h00, h01⟩, ⟨h10, h11, h12⟩, ⟨h20, h21⟩, ⟨h30, h31⟩, ⟨h40, h41⟩, ⟨h50, h51⟩, ⟨h60, h61⟩⟩ := idx_facts t
  blk_simp [iblk]
  refine Eq.trans (congrFun (V_main_arg4 m c) _) (at2_eq _ _ _ _ ?_ ?_)
  · blk_simp
    omega
  · blk_simp
    omega

/-- The block of window 5. -/
theorem blk5 (c : Dev nD) (t : Fin cfg0.N) (r : Fin 2048) (k : Fin 2048) :
    iblk m c 5 t (ix2 r k) = at2 (outW m c) r k := by
  obtain ⟨⟨h00, h01⟩, ⟨h10, h11, h12⟩, ⟨h20, h21⟩, ⟨h30, h31⟩, ⟨h40, h41⟩, ⟨h50, h51⟩, ⟨h60, h61⟩⟩ := idx_facts t
  blk_simp [iblk]
  refine Eq.trans (congrFun (V_main_arg5 m c) _) (at2_eq _ _ _ _ ?_ ?_)
  · blk_simp
    omega
  · blk_simp
    omega

/-- The block of window 1. -/
theorem blk1 (c : Dev nD) (t : Fin cfg0.N) (q : Fin 2) (r : Fin 512) (k : Fin 1024) :
    iblk m c 1 t (ix3 q r k) = at3n (scans m c) q (512 * t.val + r) k := by
  obtain ⟨⟨h00, h01⟩, ⟨h10, h11, h12⟩, ⟨h20, h21⟩, ⟨h30, h31⟩, ⟨h40, h41⟩, ⟨h50, h51⟩, ⟨h60, h61⟩⟩ := idx_facts t
  blk_simp [iblk]
  refine Eq.trans (congrFun (V_main_arg1 m c) _) (at3n_eq _ _ _ _ _ ?_ ?_ ?_)
  · blk_simp
    omega
  · blk_simp
    omega
  · blk_simp
    omega

/-- The grid leaves `merged` of the arguments in the output array. -/
theorem final (c : Dev nD) : (dats m 0 c).arrAt 6 cfg0.N
    = fun j => merged (attn m c) (scans m c) (inputs m c) (skips m c) (gluW m c) (outW m c) (j 0).val (j 1).val := by
  refine (dats m 0 c).arrAt_eq_of_covers 6 _ (by decide +kernel) fun t hf y => ?_
  blk_simp
  rw [after0_6]
  obtain ⟨r, l, rfl⟩ : ∃ (r : Fin 512) (l : Fin 2048), y = ix2 r l := ⟨y 0, y 1, eq_ix2 y⟩
  refine (block_at (attn m c) (scans m c) (inputs m c) (skips m c) (gluW m c) (outW m c) _ _ _ _ _ _ (512 * t.val)
    (blk0 m c t) (blk1 m c t) (blk2 m c t) (fun k => blk3 m c t 0 k) (blk4 m c t) (blk5 m c t) r l).trans ?_
  obtain ⟨⟨h00, h01⟩, ⟨h10, h11, h12⟩, ⟨h20, h21⟩, ⟨h30, h31⟩, ⟨h40, h41⟩, ⟨h50, h51⟩, ⟨h60, h61⟩⟩ := idx_facts t
  refine congrArg₂ (merged (attn m c) (scans m c) (inputs m c) (skips m c) (gluW m c) (outW m c)) ?_ ?_
  · blk_simp
    simp only []
    omega
  · blk_simp
    omega

end

section

open Cert.Reference4Ideal Cert.Reference4Ideal.Gen Cert.Reference4Ideal.Read

variable (Y : S2x34816x1024.Idx → EReal) (U : S34816x1024.Idx → EReal) (D : S1x1024.Idx → EReal) (W : S1024x1024.Idx → EReal)

/-- The reference adds the same three terms, the skip first. -/
theorem mixed_at (r : Fin 34816) (k : Fin 1024) : val_main_v12 (F := Ideal) Y U D (ix2 r k) = mixed Y U D r k := by
  unfold val_main_v12 val_main_v11 val_main_v10 val_main_v9 val_main_v8 val_main_v7 val_main_v6 val_main_v5 val_main_v4 val_main_v3
  pointwise
  rw [at3n_of Y 0 r k 0 r k rfl rfl rfl, at3n_of Y 1 r k 1 r k rfl rfl rfl, at2_of D 0 k 0 k rfl rfl, at2_of U r k r k rfl rfl]
  unfold mixed
  rw [add_assoc, add_comm]

/-- The reference's activation is the same, its cube associated the other way. -/
theorem gelu_at (r : Fin 34816) (k : Fin 1024) : val_main_v25 (F := Ideal) Y U D (ix2 r k) = gelu (mixed Y U D r k) := by
  unfold val_main_v25 val_main_v24 val_main_v23 val_main_v22 val_main_v21 val_main_v20 val_main_v19 val_main_v18 val_main_v17 val_main_v16 val_main_v15 val_main_v14 val_main_v13 val_main_cst val_main_cst_0 val_main_cst_1 val_main_cst_2
  pointwise
  rw [mixed_at, mul_comm (mixed Y U D r k * mixed Y U D r k) (mixed Y U D r k)]
  rfl

/-- The reference's gated row. -/
theorem gated_at (r : Fin 34816) (k : Fin 1024) : val_main_v33 (F := Ideal) Y U D W (ix2 r k) = gatedRow (mixed Y U D r) W k := by
  unfold val_main_v33 val_main_v32 val_main_v31 val_main_v30 val_main_v29 val_main_v28 val_main_v27 val_main_v26 val_main_cst_3 val_main_cst_4 val_main_v1
  pointwise
  rw [gelu_at]
  refine congrArg (fun s => gelu (mixed Y U D r k) * Ideal.logistic s) (Finset.sum_congr rfl fun i _ => ?_)
  rw [gelu_at, at2_of W i k i k rfl rfl]

/-- The reference's result is the same. -/
theorem reference_at (A : S34816x1024.Idx → EReal) (W2 : S2048x2048.Idx → EReal) :
    val_main_v36 (F := Ideal) A Y U D W W2 = fun j => merged A Y U D W W2 (j 0).val (j 1).val := by
  funext j
  obtain ⟨r, l, rfl⟩ : ∃ (r : Fin 34816) (l : Fin 2048), j = ix2 r l := ⟨j 0, j 1, eq_ix2 j⟩
  unfold val_main_v36 val_main_v35 val_main_v2 val_main_v34 val_main_v0
  pointwise
  refine congrArg₂ (· + ·) (Finset.sum_congr rfl fun k _ => ?_) (Finset.sum_congr rfl fun k _ => ?_)
  · exact congrArg₂ (· * ·) (at2_of A _ _ _ _ rfl rfl) (at2_of W2 _ _ _ _ rfl rfl)
  · rw [gated_at]
    exact congrArg (_ * ·) (at2_of W2 _ _ _ _ rfl rfl)

end

end Cert.Proof.Merge

end
-- ==== Proof.Inproj.lean ====
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Merge

@[expose] public section

set_option maxRecDepth 16384

noncomputable section

namespace Cert.Proof.Inproj

open Idealize.ShloMosaic Idealize.ShloMosaic.TcCoe Idealize.SL.Sem Cert.Proof Cert.Proof.Merge

/-- A row scaled to unit mean square, weighted, then scaled and shifted by its batch's modulation. -/
def normed (X : Shape.Idx ⟨2, ![34816, 2048]⟩ → EReal) (M : Shape.Idx ⟨3, ![16, 6, 2048]⟩ → EReal) (G : Shape.Idx ⟨2, ![1, 2048]⟩ → EReal)
    (r k : ℕ) : EReal :=
  at2 X r k * Ideal.rsqrt (Ideal.div (∑ i : Fin 2048, at2 X r i * at2 X r i) (Ideal.ofBits FTy.f32 1157627904#32) + Ideal.ofBits FTy.f32 897988541#32)
    * at2 G 0 k * (1 + at3n M (r / 4096) 1 k) + at3n M (r / 4096) 0 k

/-- Those rows times the projection weights. -/
def projected (X : Shape.Idx ⟨2, ![34816, 2048]⟩ → EReal) (M : Shape.Idx ⟨3, ![16, 6, 2048]⟩ → EReal) (G : Shape.Idx ⟨2, ![1, 2048]⟩ → EReal)
    (W : Shape.Idx ⟨2, ![2048, 8192]⟩ → EReal) (r l : ℕ) : EReal :=
  ∑ k : Fin 2048, normed X M G r k * at2 W k l

section

open Cert.Kernel2Ideal Cert.Kernel2Ideal.Gen

variable (m : (ℓ : Loc nD τ sig) → Buf (Elt Ideal) ℓ)

/-- The modulated, normalised rows of a block, as the body computes them from the staged blocks. -/
def rowsOf (x0 : Vec Ideal S1024x2048 .f32) (x1 : Vec Ideal S1x6x2048 .f32) (x2 : Vec Ideal S1x2048 .f32) : Vec Ideal S1024x2048 .bf16 :=
  k0_pay1 x0 x2 (View.ld x1 (Rect.unit (s := S1x6x2048) ![0, 1, 0] S1x1x2048.size inb_S1x6x2048_S1x1x2048_0_1_0)) (View.ld x1 (Rect.unit (s := S1x6x2048) ![0, 0, 0] S1x1x2048.size inb_S1x6x2048_S1x1x2048_0_0_0))

set_option maxHeartbeats 1000000 in
/-- A row's first point keeps the normalised rows in the scratch. -/
theorem kept_first (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x2048 .bf16) (harg7 : arg7.IsWhole) (hc0 : cond0_0 i)
    (x0 : Vec Ideal S1024x2048 .f32) (x1 : Vec Ideal S1x6x2048 .f32) (x2 : Vec Ideal S1x2048 .f32) (x3 : Vec Ideal S2048x1024 .bf16) :
    sout0_A_0 c i arg2 harg2 arg3 harg3 arg4 harg4 arg5 harg5 arg6 harg6 arg7 harg7 hc0 x0 x1 x2 x3 = rowsOf x0 x1 x2 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  simp only [View.readAt_eq_ld, harg2.read_unread, harg3.read_unread, harg4.read_unread, harg5.read_unread]
  rw [View.canon_unit_zero (by decide)]
  rw [View.ld_unit_zero (by decide) _ x0, View.ld_unit_zero (by decide) _ x2]
  rfl

set_option maxHeartbeats 1000000 in
/-- A row's first point stores the product of those rows. -/
theorem out_first (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x2048 .bf16) (harg7 : arg7.IsWhole) (hc0 : cond0_0 i)
    (x0 : Vec Ideal S1024x2048 .f32) (x1 : Vec Ideal S1x6x2048 .f32) (x2 : Vec Ideal S1x2048 .f32) (x3 : Vec Ideal S2048x1024 .bf16) :
    out0_A_4 c i arg2 harg2 arg3 harg3 arg4 harg4 arg5 harg5 arg6 harg6 arg7 harg7 hc0 x0 x1 x2 x3 = k0_pay2 (rowsOf x0 x1 x2) x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  simp only [View.readAt_eq_ld, harg2.read_unread, harg3.read_unread, harg4.read_unread, harg5.read_unread]
  rw [View.canon_unit_zero (by decide)]
  rw [View.readCov_unit_zero _ (by decide)]
  rw [View.ld_unit_zero (by decide) _ x0, View.ld_unit_zero (by decide) _ x2, View.ld_unit_zero (by decide) _ x3]
  rfl

/-- A later point stores the product of the rows the scratch holds. -/
theorem out_later (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x2048 .bf16) (harg7 : arg7.IsWhole) (hc0 : ¬cond0_0 i)
    (x0 : Vec Ideal S1024x2048 .f32) (x1 : Vec Ideal S1x6x2048 .f32) (x2 : Vec Ideal S1x2048 .f32) (x3 : Vec Ideal S2048x1024 .bf16) (xs0 : Vec Ideal S1024x2048 .bf16) :
    out0_B_4 c i arg2 harg2 arg3 harg3 arg4 harg4 arg5 harg5 arg6 harg6 arg7 harg7 hc0 x0 x1 x2 x3 xs0 = k0_pay2 xs0 x3 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  simp only [View.readAt_eq_ld, harg2.read_unread, harg3.read_unread, harg4.read_unread, harg5.read_unread, harg7.read_unread]
  rw [View.canon_unit_zero (by decide)]
  rw [View.ld_unit_zero (by decide) _ xs0, View.ld_unit_zero (by decide) _ x3]

/-- Those rows, element by element, when the staged blocks are rows of the arguments and one batch's modulation. -/
theorem rows_at (X : S34816x2048.Idx → EReal) (M : S16x6x2048.Idx → EReal) (G : S1x2048.Idx → EReal)
    (x0 : Vec Ideal S1024x2048 .f32) (x1 : Vec Ideal S1x6x2048 .f32) (x2 : Vec Ideal S1x2048 .f32) (R : ℕ)
    (h0 : ∀ (r : Fin 1024) (k : Fin 2048), x0 (ix2 r k) = at2 X (1024 * R + r) k)
    (h1 : ∀ (e : Fin 6) (k : Fin 2048), x1 (ix3 0 e k) = at3n M (R / 4) e k)
    (h2 : ∀ k : Fin 2048, x2 (ix2 0 k) = at2 G 0 k) (r : Fin 1024) (k : Fin 2048) :
    rowsOf x0 x1 x2 (ix2 r k) = normed X M G (1024 * R + r) k := by
  unfold rowsOf k0_pay1
  pointwise
  simp only [h0, h1, h2]
  unfold normed
  rw [show (1024 * R + r.val) / 4096 = R / 4 by omega]
  rfl

/-- The product of rows held and staged weights. -/
theorem prod_at (x0 : Vec Ideal S1024x2048 .bf16) (x3 : Vec Ideal S2048x1024 .bf16) (r l : Fin 1024) :
    k0_pay2 x0 x3 (ix2 r l) = ∑ k : Fin 2048, x0 (ix2 r k) * x3 (ix2 k l) := by
  unfold k0_pay2
  pointwise

/-- Where each window's block lies at a grid point. -/
theorem idx_facts : ∀ t : Fin cfg0.N,
    (win0_0.index t 0 = t.val / 8 ∧ win0_0.index t 1 = 0) ∧ (win0_1.index t 0 = t.val / 8 / 4 ∧ win0_1.index t 1 = 0 ∧ win0_1.index t 2 = 0)
    ∧ (win0_2.index t 0 = 0 ∧ win0_2.index t 1 = 0) ∧ (win0_3.index t 0 = 0 ∧ win0_3.index t 1 = t.val % 8)
    ∧ (win0_4.index t 0 = t.val / 8 ∧ win0_4.index t 1 = t.val % 8) :=
  (by decide +kernel : ∀ t : Fin grid0.N, _)

/-- The rows at launch. -/
def rowsIn (c : Dev nD) : S34816x2048.Idx → EReal := m ((c : Thread nD τ).loc main_arg0)

/-- The modulation at launch. -/
def mods (c : Dev nD) : S16x6x2048.Idx → EReal := m ((c : Thread nD τ).loc main_arg1)

/-- The norm weights at launch. -/
def norms (c : Dev nD) : S1x2048.Idx → EReal := m ((c : Thread nD τ).loc main_arg2)

/-- The projection weights at launch. -/
def weights (c : Dev nD) : S2048x8192.Idx → EReal := m ((c : Thread nD τ).loc main_arg3)

/-- The block of window 0. -/
theorem blk0 (c : Dev nD) (t : Fin cfg0.N) (r : Fin 1024) (k : Fin 2048) :
    iblk m c 0 t (ix2 r k) = at2 (rowsIn m c) (1024 * (t.val / 8) + r) k := by
  obtain ⟨⟨h00, h01⟩, ⟨h10, h11, h12⟩, ⟨h20, h21⟩, ⟨h30, h31⟩, ⟨h40, h41⟩⟩ := idx_facts t
  blk_simp [iblk]
  refine Eq.trans (congrFun (V_main_arg0 m c) _) (at2_eq _ _ _ _ ?_ ?_)
  · blk_simp
    omega
  · blk_simp
    omega

/-- The block of window 2. -/
theorem blk2 (c : Dev nD) (t : Fin cfg0.N) (r : Fin 1) (k : Fin 2048) :
    iblk m c 2 t (ix2 r k) = at2 (norms m c) r k := by
  obtain ⟨⟨h00, h01⟩, ⟨h10, h11, h12⟩, ⟨h20, h21⟩, ⟨h30, h31⟩, ⟨h40, h41⟩⟩ := idx_facts t
  blk_simp [iblk]
  refine Eq.trans (congrFun (V_main_arg2 m c) _) (at2_eq _ _ _ _ ?_ ?_)
  · blk_simp
    omega
  · blk_simp
    omega

/-- The block of window 3. -/
theorem blk3 (c : Dev nD) (t : Fin cfg0.N) (r : Fin 2048) (k : Fin 1024) :
    iblk m c 3 t (ix2 r k) = at2 (weights m c) r (1024 * (t.val % 8) + k) := by
  obtain ⟨⟨h00, h01⟩, ⟨h10, h11, h12⟩, ⟨h20, h21⟩, ⟨h30, h31⟩, ⟨h40, h41⟩⟩ := idx_facts t
  blk_simp [iblk]
  refine Eq.trans (congrFun (V_main_arg3 m c) _) (at2_eq _ _ _ _ ?_ ?_)
  · blk_simp
    omega
  · blk_simp
    omega

/-- The block of window 1. -/
theorem blk1 (c : Dev nD) (t : Fin cfg0.N) (e : Fin 6) (k : Fin 2048) :
    iblk m c 1 t (ix3 0 e k) = at3n (mods m c) (t.val / 8 / 4) e k := by
  obtain ⟨⟨h00, h01⟩, ⟨h10, h11, h12⟩, ⟨h20, h21⟩, ⟨h30, h31⟩, ⟨h40, h41⟩⟩ := idx_facts t
  blk_simp [iblk]
  refine Eq.trans (congrFun (V_main_arg1 m c) _) (at3n_eq _ _ _ _ _ ?_ ?_ ?_)
  · blk_simp
    omega
  · blk_simp
    omega
  · blk_simp
    omega

/-- After every grid point the scratch holds the normalised rows of that point's row of blocks. -/
theorem scratch_at (c : Dev nD) : ∀ (n : ℕ) (hn : n < cfg0.N) (r : Fin 1024) (k : Fin 2048),
    (outsAt0 m c n hn).2 (ix2 r k) = normed (rowsIn m c) (mods m c) (norms m c) (1024 * (n / 8) + r) k := by
  intro n
  induction n with
  | zero =>
    intro hn r k
    rw [outsAt0_A m c ⟨0, hn⟩ rfl, kept_first]
    exact rows_at _ _ _ _ _ _ (0 / 8) (blk0 m c ⟨0, hn⟩) (blk1 m c ⟨0, hn⟩) (fun k => blk2 m c ⟨0, hn⟩ 0 k) r k
  | succ n ih =>
    intro hn r k
    by_cases h : (n + 1) % 8 = 0
    · rw [outsAt0_A m c ⟨n + 1, hn⟩ h, kept_first]
      exact rows_at _ _ _ _ _ _ ((n + 1) / 8) (blk0 m c ⟨n + 1, hn⟩) (blk1 m c ⟨n + 1, hn⟩) (fun k => blk2 m c ⟨n + 1, hn⟩ 0 k) r k
    · rw [outsAt0_B m c ⟨n + 1, hn⟩ h]
      refine (ih (Nat.lt_of_succ_lt hn) r k).trans ?_
      rw [show n / 8 = (n + 1) / 8 by omega]

/-- What a grid point leaves in the output's staging buffer. -/
theorem out_at (c : Dev nD) (t : Fin cfg0.N) (r l : Fin 1024) :
    (outsAt0 m c t.val t.isLt).1 (ix2 r l)
      = projected (rowsIn m c) (mods m c) (norms m c) (weights m c) (1024 * (t.val / 8) + r) (1024 * (t.val % 8) + l) := by
  by_cases h : t.val % 8 = 0
  · rw [outsAt0_A m c t h, out_first]
    refine (prod_at _ _ r l).trans (Finset.sum_congr rfl fun k _ => ?_)
    rw [rows_at (rowsIn m c) (mods m c) (norms m c) _ _ _ (t.val / 8) (blk0 m c t) (blk1 m c t) (fun k => blk2 m c t 0 k), blk3]
  · rw [outsAt0_B m c t h, out_later]
    refine (prod_at _ _ r l).trans (Finset.sum_congr rfl fun k _ => ?_)
    rw [scratch_at, blk3, show (t.val - 1) / 8 = t.val / 8 by omega]

/-- The grid leaves `projected` of the arguments in the output array. -/
theorem final (c : Dev nD) : (dats m 0 c).arrAt 4 cfg0.N
    = fun j => projected (rowsIn m c) (mods m c) (norms m c) (weights m c) (j 0).val (j 1).val := by
  refine (dats m 0 c).arrAt_eq_of_covers 4 _ (by decide +kernel) fun t hf y => ?_
  blk_simp
  rw [after0_4]
  obtain ⟨r, l, rfl⟩ : ∃ (r l : Fin 1024), y = ix2 r l := ⟨y 0, y 1, eq_ix2 y⟩
  refine (out_at m c t r l).trans ?_
  obtain ⟨⟨h00, h01⟩, ⟨h10, h11, h12⟩, ⟨h20, h21⟩, ⟨h30, h31⟩, ⟨h40, h41⟩⟩ := idx_facts t
  refine congrArg₂ (projected (rowsIn m c) (mods m c) (norms m c) (weights m c)) ?_ ?_
  · blk_simp
    omega
  · blk_simp
    omega

end

section

open Cert.Reference2Ideal Cert.Reference2Ideal.Gen Cert.Reference2Ideal.Read

variable (X : S34816x2048.Idx → EReal) (M : S16x6x2048.Idx → EReal) (G : S1x2048.Idx → EReal) (W : S2048x8192.Idx → EReal)

/-- The reference's normalised latent rows. -/
theorem latent_at (b : Fin 8) (r : Fin 4096) (k : Fin 2048) :
    val_main_v32 (F := Ideal) X M G (ix3 b r k) = normed X M G (4096 * b + r) k := by
  unfold val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v6 val_main_v5 val_main_v2 val_main_v1 val_main_cst val_main_cst_0 val_main_cst_1 val_main_cst_2
  pointwise
  have hx : ∀ (h : b.val * 4096 + r.val < 34816) (i : Fin 2048), X (ix2 ⟨b.val * 4096 + r.val, h⟩ i) = at2 X (4096 * b + r) i := fun h i =>
    at2_of X _ _ _ _ (by simp only []; omega) rfl
  have hm : ∀ (h : b.val < 16) (e : Fin 6), M (ix3 ⟨b.val, h⟩ e k) = at3n M ((4096 * b.val + r.val) / 4096) e k := fun h e =>
    at3n_of M _ _ _ _ _ _ (by simp only []; omega) rfl rfl
  simp only [hx, hm]
  rw [at2_of G 0 k 0 k rfl rfl]
  rfl

/-- The reference's normalised context rows. -/
theorem context_at (b : Fin 8) (r : Fin 256) (k : Fin 2048) :
    val_main_v58 (F := Ideal) X M G (ix3 b r k) = normed X M G (32768 + 256 * b + r) k := by
  unfold val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v8 val_main_v7 val_main_v4 val_main_v3 val_main_cst_3 val_main_cst_4 val_main_cst_5 val_main_cst_6
  pointwise
  have hx : ∀ (h : 32768 + (b.val * 256 + r.val) < 34816) (i : Fin 2048), X (ix2 ⟨32768 + (b.val * 256 + r.val), h⟩ i) = at2 X (32768 + 256 * b + r) i := fun h i =>
    at2_of X _ _ _ _ (by simp only []; omega) rfl
  have hm : ∀ e : Fin 6, M (ix3 8 e k) = at3n M ((32768 + 256 * b.val + r.val) / 4096) e k := fun e =>
    at3n_of M _ _ _ _ _ _ (show 8 = _ by omega) rfl rfl
  simp only [hx, hm]
  rw [at2_of G 0 k 0 k rfl rfl]
  rfl

/-- The reference's result is the same. -/
theorem reference_at : val_main_v64 (F := Ideal) X M G W = fun j => projected X M G W (j 0).val (j 1).val := by
  funext j
  obtain ⟨r, l, rfl⟩ : ∃ (r : Fin 34816) (l : Fin 8192), j = ix2 r l := ⟨j 0, j 1, eq_ix2 j⟩
  unfold val_main_v64 val_main_v63 val_main_v62 val_main_v61 val_main_v60 val_main_v59 val_main_v0
  pointwise
  split
  · refine Finset.sum_congr rfl fun k _ => ?_
    rw [latent_at, at2_of W k l k l rfl rfl, show 4096 * (r.val / 4096) + r.val % 4096 = r.val by omega]
  · refine Finset.sum_congr rfl fun k _ => ?_
    rw [context_at, at2_of W k l k l rfl rfl, show 32768 + 256 * ((r.val - 32768) / 256) + (r.val - 32768) % 256 = r.val by omega]

end

end Cert.Proof.Inproj

end
-- ==== Proof.EvenRun.lean ====
module

public import proofs.«01_k».proof.Proof.Gen.Kernel3Ideal.Frame
public import proofs.«01_k».proof.Proof.Gen.Kernel3Ideal.Skeleton
public import Idealize.ShloMosaic.Lib.Claim
public import Idealize.ShloMosaic.Lib.Pipeline.Value

@[expose] public section

set_option maxRecDepth 16384

noncomputable section

namespace Cert.Proof.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-- The modulated, normalised rows of a block, as the body computes them from the staged blocks. -/
def rowsOf (x0 : Vec F S1024x2048 .f32) (x1 : Vec F S1x6x2048 .f32) (x2 : Vec F S1x2048 .f32) : Vec F S1024x2048 .bf16 :=
  k0_pay1 x0 x2 (View.ld x1 (Rect.unit (s := S1x6x2048) ![0, 1, 0] S1x1x2048.size inb_S1x6x2048_S1x1x2048_0_1_0)) (View.ld x1 (Rect.unit (s := S1x6x2048) ![0, 0, 0] S1x1x2048.size inb_S1x6x2048_S1x1x2048_0_0_0))

/-- The condition under which the body normalises its rows. -/
abbrev fresh (i : grid0.Coords) : Prop := (Scalar.cmpi .ne (Scalar.extui (Scalar.cmpi .eq (BitVec.ofNat 32 (i 1).val) 0#32)) 0#32) = 1#1

/-- It holds at the first of each four points. -/
theorem fresh_iff : ∀ t : Fin cfg0.N, fresh (grid0.coords t) ↔ t.val % 4 = 0 :=
  (by decide +kernel : ∀ t : Fin grid0.N, fresh (grid0.coords t) ↔ t.val % 4 = 0)

/-- The rounded result is stored at the first three. -/
theorem rounds_iff : ∀ t : Fin cfg0.N, k0_cond2 (grid0.coords t) = 1#1 ↔ ¬t.val % 4 = 3 :=
  (by decide +kernel : ∀ t : Fin grid0.N, k0_cond2 (grid0.coords t) = 1#1 ↔ ¬t.val % 4 = 3)

/-- The exact result is stored at the last. -/
theorem exact_iff : ∀ t : Fin cfg0.N, k0_cond3 (grid0.coords t) = 1#1 ↔ t.val % 4 = 3 :=
  (by decide +kernel : ∀ t : Fin grid0.N, k0_cond3 (grid0.coords t) = 1#1 ↔ t.val % 4 = 3)

/-- Where the rounded result's block is written back. -/
theorem flush4 : ∀ t : Fin cfg0.N, (cfg0.win 4).flush t = true ↔ ¬t.val % 4 = 2 :=
  (by decide +kernel : ∀ t : Fin grid0.N, win0_4.flush t = true ↔ ¬t.val % 4 = 2)

/-- A whole store of a memref, read back. -/
theorem read_store {s : Shape} {e : EltTy} (v : View sig .tc .vmem s e) (f : v.ty.Contents (Elt F)) {off : Fin s.rank → Nat} (h : off = fun _ => 0)
    (inb : ∀ a, off a + s.size a ≤ s.size a) (x : Vec F s e) (L : List (View.Piece (Elt F) s e)) :
    v.read (Elt F) (v.writes (Elt F) f (⟨Rect.unit (s := s) off s.size inb, x⟩ :: L)) = x := by
  rw [View.read_writes_eq_canon _ _ _ (fun y => ⟨_, List.mem_cons_self, View.mem_set_unit_zero h inb y⟩), View.canon_cons_unit_zero h]

set_option maxHeartbeats 1000000 in
/-- The body at the first point of a row of blocks. -/
theorem run_first (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x2048 .bf16) (harg8 : arg8.IsWhole)
    (h0 : fresh i) (h2 : k0_cond2 i = 1#1) (h3 : ¬k0_cond3 i = 1#1)
    (x0 : Vec F S1024x2048 .f32) (x1 : Vec F S1x6x2048 .f32) (x2 : Vec F S1x2048 .f32) (x3 : Vec F S2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (rowsOf x0 x1 x2) x3) ∗ owns (c : Thread nD τ) arg8 fullShare (rowsOf x0 x1 x2)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact h0 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [read_store _ _ (by decide)]
    sl_unfold_words
    simp only [View.readAt_eq_ld, harg2.read_unread, harg3.read_unread, harg4.read_unread, harg5.read_unread]
    rw [View.readCov_unit_zero _ (by decide), View.ld_unit_zero (by decide) _ x0, View.ld_unit_zero (by decide) _ x2, View.ld_unit_zero (by decide) _ x3]
    rfl
  iexists _; isplitr
  swap; · iexact HS0
  ipureintro
  sl_unfold_words
  rw [read_store _ _ (by decide)]
  simp only [View.readAt_eq_ld, harg2.read_unread, harg3.read_unread, harg4.read_unread]
  rw [View.ld_unit_zero (by decide) _ x0, View.ld_unit_zero (by decide) _ x2]
  rfl

set_option maxHeartbeats 1000000 in
/-- The body at the two middle points of a row of blocks. -/
theorem run_mid (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x2048 .bf16) (harg8 : arg8.IsWhole)
    (h0 : ¬fresh i) (h2 : k0_cond2 i = 1#1) (h3 : ¬k0_cond3 i = 1#1)
    (x3 : Vec F S2048x1024 .bf16) (xs : Vec F S1024x2048 .bf16) (E : Set ℕ) (K : PUnit → sProp 𝕄) :
    iprop(owns (c : Thread nD τ) arg5 fullShare x3 ∗ (∃ d, owns (c : Thread nD τ) arg6 fullShare d) ∗ owns (c : Thread nD τ) arg8 fullShare xs
        ∗ (iprop(owns (c : Thread nD τ) arg5 fullShare x3 ∗ owns (c : Thread nD τ) arg6 fullShare (k0_pay3 xs x3) ∗ owns (c : Thread nD τ) arg8 fullShare xs) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f3, %hf3, H3⟩, ⟨%d4, %f4, -, H4⟩, ⟨%fs0, %hfs0, HS0⟩, Hk⟩
  obtain rfl := harg5.eq_unread hf3; obtain rfl := harg8.eq_unread hfs0
  sl_exec (disch := first | sl_exact h0 | sl_exact h2 | sl_exact h3)
  sl_step
  iapply Hk
  isplitl [H3]
  · iexists _; isplitr; · ipureintro; exact harg5.read_unread _
    iexact H3
  isplitl [H4]
  · iexists _; isplitr
    swap; · iexact H4
    ipureintro
    rw [read_store _ _ (by decide)]
    sl_unfold_words
    simp only [View.readAt_eq_ld, harg5.read_unread, harg8.read_unread]
    rw [View.ld_unit_zero (by decide) _ x3, View.ld_unit_zero (by decide) _ xs]
  iexists _; isplitr; · ipureintro; exact harg8.read_unread _
  iexact HS0

set_option maxHeartbeats 1000000 in
/-- The body at the last point of a row of blocks. -/
theorem run_last (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x2048 .bf16) (harg8 : arg8.IsWhole)
    (h0 : ¬fresh i) (h2 : ¬k0_cond2 i = 1#1) (h3 : k0_cond3 i = 1#1)
    (x3 : Vec F S2048x1024 .bf16) (xs : Vec F S1024x2048 .bf16) (E : Set ℕ) (K : PUnit → sProp 𝕄) :
    iprop(owns (c : Thread nD τ) arg5 fullShare x3 ∗ (∃ d, owns (c : Thread nD τ) arg7 fullShare d) ∗ owns (c : Thread nD τ) arg8 fullShare xs
        ∗ (iprop(owns (c : Thread nD τ) arg5 fullShare x3 ∗ owns (c : Thread nD τ) arg7 fullShare (k0_pay2 xs x3) ∗ owns (c : Thread nD τ) arg8 fullShare xs) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f3, %hf3, H3⟩, ⟨%d4, %f4, -, H4⟩, ⟨%fs0, %hfs0, HS0⟩, Hk⟩
  obtain rfl := harg5.eq_unread hf3; obtain rfl := harg8.eq_unread hfs0
  sl_exec (disch := first | sl_exact h0 | sl_exact h2 | sl_exact h3)
  sl_step
  iapply Hk
  isplitl [H3]
  · iexists _; isplitr; · ipureintro; exact harg5.read_unread _
    iexact H3
  isplitl [H4]
  · iexists _; isplitr
    swap; · iexact H4
    ipureintro
    rw [read_store _ _ (by decide)]
    sl_unfold_words
    simp only [View.readAt_eq_ld, harg5.read_unread, harg8.read_unread]
    rw [View.ld_unit_zero (by decide) _ x3, View.ld_unit_zero (by decide) _ xs]
  iexists _; isplitr; · ipureintro; exact harg8.read_unread _
  iexact HS0

/-! ## What the buffers hold after each point -/

variable (m : (ℓ : Loc nD τ sig) → Buf (Elt F) ℓ) (ρ : Dev nD → PrngReg)

/-- The first point of a point's row of blocks. -/
def headOf (t : Fin cfg0.N) : Fin cfg0.N := ⟨4 * (t.val / 4), by have := t.isLt; omega⟩

/-- The normalised rows of a point's row of blocks. -/
def rowsAt (c : Dev nD) (t : Fin cfg0.N) : Vec F S1024x2048 .bf16 :=
  rowsOf (iblk m c 0 (headOf t)) (iblk m c 1 (headOf t)) (iblk m c 2 (headOf t))

/-- The point whose weights the rounded result was last computed from. -/
def srcOf (t : Fin cfg0.N) : Fin cfg0.N := if t.val % 4 = 3 then ⟨t.val - 1, by have := t.isLt; omega⟩ else t

/-- The rounded result after a point. -/
def outBf (c : Dev nD) (t : Fin cfg0.N) : Vec F S1024x1024 .bf16 := k0_pay3 (rowsAt m c t) (iblk m c 3 (srcOf t))

/-- The exact result after a point. -/
def outF (c : Dev nD) (t : Fin cfg0.N) : Vec F S1024x1024 .f32 := k0_pay2 (rowsAt m c t) (iblk m c 3 t)

theorem rowsAt_first (c : Dev nD) (t : Fin cfg0.N) (h : t.val % 4 = 0) : rowsAt m c t = rowsOf (iblk m c 0 t) (iblk m c 1 t) (iblk m c 2 t) := by
  have e : headOf t = t := Fin.ext (show 4 * (t.val / 4) = t.val by omega)
  unfold rowsAt; rw [e]

theorem rowsAt_pred (c : Dev nD) (t : Fin cfg0.N) (h : ¬t.val % 4 = 0) (hp : t.val - 1 < cfg0.N) : rowsAt m c ⟨t.val - 1, hp⟩ = rowsAt m c t := by
  have e : headOf ⟨t.val - 1, hp⟩ = headOf t := Fin.ext (show 4 * ((t.val - 1) / 4) = 4 * (t.val / 4) by omega)
  unfold rowsAt; rw [e]

theorem outBf_of (c : Dev nD) (t : Fin cfg0.N) (h : ¬t.val % 4 = 3) : outBf m c t = k0_pay3 (rowsAt m c t) (iblk m c 3 t) := by
  unfold outBf srcOf; rw [if_neg h]

theorem outBf_pred (c : Dev nD) (t : Fin cfg0.N) (h : t.val % 4 = 3) (hp : t.val - 1 < cfg0.N) : outBf m c ⟨t.val - 1, hp⟩ = outBf m c t := by
  rw [outBf_of m c ⟨t.val - 1, hp⟩ (show ¬(t.val - 1) % 4 = 3 by omega), rowsAt_pred m c t (by omega) hp]
  unfold outBf srcOf; rw [if_pos h]

/-- The scratch operand. -/
abbrev scr : Memref sig .tc .vmem S1024x2048 .bf16 := Memref.whole cc0_scratch0

/-- The region's invariant at entry: the scratch at anything, the generator at some state. -/
theorem entry_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The region's invariant between points: after a point the scratch holds its rows. -/
def inv (c : Dev nD) : (n : ℕ) → n ≤ cfg0.N → sProp 𝕄
  | 0, _ => Pipeline.ΦA spec0 c
  | n + 1, hn => iprop(iprop(owns (c : Thread nD τ) scr fullShare (rowsAt m c ⟨n, hn⟩)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scr fullShare (rowsAt m c ⟨n, hn⟩)) ∗ (∃ r, prngReg c r)) := rfl

theorem inv_pos (c : Dev nD) (n : ℕ) (h : n ≤ cfg0.N) (hz : n ≠ 0) :
    inv m c n h = iprop(iprop(owns (c : Thread nD τ) scr fullShare (rowsAt m c ⟨n - 1, by omega⟩)) ∗ (∃ r, prngReg c r)) := by
  cases n with
  | zero => exact absurd rfl hz
  | succ n => rfl

/-- The proof data: inputs' buffers at their blocks, the two results' at what is stated above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBf m c t
    | ⟨5, _⟩ => outF m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outBf m c t := by dsimp only [dats]
theorem after0_5 (c : Dev nD) (t : Fin cfg0.N) : (dats m 0 c).after 5 t = outF m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Where the body leaves the rounded result's buffer alone. -/
theorem idle4 (t : Fin cfg0.N) : cfg0.idle 4 (cfg0.grid.coords t) = true ↔ t.val % 4 = 3 := by
  have e : cfg0.idle 4 (cfg0.grid.coords t) = !(k0_cond2 (grid0.coords t) == 1#1) := rfl
  rw [e, Bool.not_eq_true', beq_eq_false_iff_ne, ne_eq, rounds_iff]; omega

/-- Where it leaves the exact result's buffer alone. -/
theorem idle5 (t : Fin cfg0.N) : cfg0.idle 5 (cfg0.grid.coords t) = true ↔ ¬t.val % 4 = 3 := by
  have e : cfg0.idle 5 (cfg0.grid.coords t) = !(k0_cond3 (grid0.coords t) == 1#1) := rfl
  rw [e, Bool.not_eq_true', beq_eq_false_iff_ne, ne_eq, exact_iff]

/-- At a row's last point the rounded result's buffer still holds what the point before left. -/
theorem before4 (c : Dev nD) (t : Fin cfg0.N) (h : t.val % 4 = 3) (d) : (dats m 0 c).before 4 t d = outBf m c t := by
  have hp : t.val - 1 < cfg0.N := by have := t.isLt; omega
  have hfl : (cfg0.win 4).flush ⟨t.val - 1, hp⟩ = false := by
    rw [← Bool.not_eq_true, flush4]; show ¬¬(t.val - 1) % 4 = 2; omega
  have hid : cfg0.idle 4 (cfg0.grid.coords ⟨t.val - 1, hp⟩) = false := by
    rw [← Bool.not_eq_true, idle4]; show ¬(t.val - 1) % 4 = 3; omega
  rw [(dats m 0 c).before_of_pos 4 t (by omega) ((cfg0.win 4).fetch_out rfl t) d, hfl, if_neg Bool.false_ne_true]
  unfold Dat.left
  rw [hid]
  refine Eq.trans ?_ (outBf_pred m c t h hp)
  rw [← after0_4]
  rfl

/-! ## The body at every point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ (dats m 0 c).leavesExact 5 t)

/-- The rounded result's buffer where the body stores into it. -/
theorem leaves4 (c : Dev nD) (t : Fin cfg0.N) (h : ¬t.val % 4 = 3) :
    (dats m 0 c).leavesExact 4 t = owns (c : Thread nD τ) (st0_4 t) fullShare (outBf m c t) := by
  have hid : cfg0.idle 4 (cfg0.grid.coords t) = false := by rw [← Bool.not_eq_true, idle4]; exact h
  unfold Dat.leavesExact
  rw [hid]
  rfl

/-- The rounded result's buffer at a row's last point, where it is written back as found. -/
theorem leaves4_last (c : Dev nD) (t : Fin cfg0.N) (h : t.val % 4 = 3) :
    (dats m 0 c).leavesExact 4 t = owns (c : Thread nD τ) (st0_4 t) fullShare (outBf m c t) := by
  have hid : cfg0.idle 4 (cfg0.grid.coords t) = true := by rw [idle4]; exact h
  have hfl : (cfg0.win 4).flush t = true := by rw [flush4]; omega
  unfold Dat.leavesExact
  rw [hid, hfl]
  rfl

/-- The exact result's buffer where the body leaves it alone. -/
theorem leaves5 (c : Dev nD) (t : Fin cfg0.N) (h : ¬t.val % 4 = 3) :
    (dats m 0 c).leavesExact 5 t = iprop(∃ d, owns (c : Thread nD τ) (st0_5 t) fullShare ((dats m 0 c).before 5 t d)) := by
  have hid : cfg0.idle 5 (cfg0.grid.coords t) = true := by rw [idle5]; exact h
  have hfl : (cfg0.win 5).flush t = false := by rw [← Bool.not_eq_true, flush0_5]; exact h
  exact (dats m 0 c).leavesExact_idle 5 t hid hfl

/-- The exact result's buffer at a row's last point. -/
theorem leaves5_last (c : Dev nD) (t : Fin cfg0.N) (h : t.val % 4 = 3) :
    (dats m 0 c).leavesExact 5 t = owns (c : Thread nD τ) (st0_5 t) fullShare (outF m c t) := by
  have hid : cfg0.idle 5 (cfg0.grid.coords t) = false := by rw [← Bool.not_eq_true, idle5]; exact not_not.2 h
  unfold Dat.leavesExact
  rw [hid]
  rfl

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = inv m c (t.val + 1) t.isLt from rfl, inv_succ, inv_castSucc m c t]
  by_cases h0 : t.val % 4 = 0
  · have h3 : ¬t.val % 4 = 3 := by omega
    rw [leaves4 m c t h3, leaves5 m c t h3, outBf_of m c t h3, rowsAt_first m c t h0]
    have hin : inv m c t.val (Nat.le_of_lt t.isLt) ⊢ iprop(iprop((∃ d, owns (c : Thread nD τ) scr fullShare d)) ∗ (∃ r, prngReg c r)) := by
      by_cases hz : t.val = 0
      · rw [inv_zero m c _ _ hz, entry_eq]
      · rw [inv_pos m c _ _ hz]
        iintro ⟨HS0, Hg⟩
        isplitl [HS0]
        · iexists _; iexact HS0
        iexact Hg
    refine Idealize.SL.BI.BIBase.Entails.trans (sep_mono hin .rfl) ?_
    iintro ⟨⟨HS0, Hg⟩, Ho, ⟨%d0, H0⟩, ⟨%d1, H1⟩, ⟨%d2, H2⟩, ⟨%d3, H3⟩, ⟨%d4, H4⟩, H5⟩
    iapply (run_first c (grid0.coords t) _ _ _ _ _ _ _ _ _ _ _ _ _ _ ((fresh_iff t).mpr h0) ((rounds_iff t).mpr h3) (fun h => h3 ((exact_iff t).mp h)) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  rw [inv_pos m c t.val (Nat.le_of_lt t.isLt) (by omega), rowsAt_pred m c t h0]
  by_cases h3 : t.val % 4 = 3
  · rw [leaves4_last m c t h3, leaves5_last m c t h3]
    simp only [before4 m c t h3]
    unfold outF
    iintro ⟨⟨HS0, Hg⟩, Ho, ⟨%d0, H0⟩, ⟨%d1, H1⟩, ⟨%d2, H2⟩, ⟨%d3, H3⟩, ⟨%d4, H4⟩, ⟨%d5, H5⟩⟩
    iapply (run_last c (grid0.coords t) _ _ _ _ _ _ _ _ _ _ _ _ _ _ (fun h => h0 ((fresh_iff t).mp h)) (fun h => ((rounds_iff t).mp h) h3) ((exact_iff t).mpr h3) (iblk m c 3 t) (rowsAt m c t) Set.univ _)
    isplitl [H3]; · iexact H3
    isplitl [H5]; · iexists _; iexact H5
    isplitl [HS0]; · iexact HS0
    iintro ⟨H3, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [leaves4 m c t h3, leaves5 m c t h3, outBf_of m c t h3]
    iintro ⟨⟨HS0, Hg⟩, Ho, ⟨%d0, H0⟩, ⟨%d1, H1⟩, ⟨%d2, H2⟩, ⟨%d3, H3⟩, ⟨%d4, H4⟩, H5⟩
    iapply (run_mid c (grid0.coords t) _ _ _ _ _ _ _ _ _ _ _ _ _ _ (fun h => h0 ((fresh_iff t).mp h)) ((rounds_iff t).mpr h3) (fun h => h3 ((exact_iff t).mp h)) (iblk m c 3 t) (rowsAt m c t) Set.univ _)
    isplitl [H3]; · iexact H3
    isplitl [H4]; · iexists _; iexact H4
    isplitl [HS0]; · iexact HS0
    iintro ⟨H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  have hN : cfg0.N = 136 := N_0
  rw [show (dats m 0 c).Φ (Fin.last cfg0.N) = inv m c (Fin.last cfg0.N).val (Nat.le_of_lt_succ (Fin.last cfg0.N).isLt) from rfl,
    inv_pos m c _ _ (by rw [Fin.val_last]; omega), entry_eq]
  iintro ⟨HS0, Hg⟩
  isplitl [HS0]
  · iexists _; iexact HS0
  iexact Hg

/-! ## The run -/

set_option backward.isDefEq.respectTransparency.types false in
/-- The program's run, every semaphore at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-- The run with each result's array named, the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Proof.Even

end
-- ==== Proof.Even.lean ====
module

public import proofs.«01_k».proof.Proof.EvenRun
public import proofs.«01_k».proof.Proof.Inproj
public import proofs.«01_k».proof.Proof.Gen.Reference3Ideal.Run
public import proofs.«01_k».proof.Proof.Gen.Reference3Ideal.Read

@[expose] public section

set_option maxRecDepth 16384

noncomputable section

namespace Cert.Proof.Even

open Idealize.ShloMosaic Idealize.ShloMosaic.TcCoe Idealize.SL.Sem Cert.Proof Cert.Proof.Merge
open Cert.Proof.Inproj (normed)

/-- Normalised, modulated rows times the even layer's projection weights. -/
def projected (X : Shape.Idx ⟨2, ![34816, 2048]⟩ → EReal) (M : Shape.Idx ⟨3, ![16, 6, 2048]⟩ → EReal) (G : Shape.Idx ⟨2, ![1, 2048]⟩ → EReal)
    (W : Shape.Idx ⟨2, ![2048, 4096]⟩ → EReal) (r l : ℕ) : EReal :=
  ∑ k : Fin 2048, normed X M G r k * at2 W k l

section

open Cert.Kernel3Ideal Cert.Kernel3Ideal.Gen

variable (m : (ℓ : Loc nD τ sig) → Buf (Elt Ideal) ℓ)

/-- A block's rows, element by element, when the staged blocks are rows of the arguments and one batch's modulation. -/
theorem rows_at (X : S34816x2048.Idx → EReal) (M : S16x6x2048.Idx → EReal) (G : S1x2048.Idx → EReal)
    (x0 : Vec Ideal S1024x2048 .f32) (x1 : Vec Ideal S1x6x2048 .f32) (x2 : Vec Ideal S1x2048 .f32) (R : ℕ)
    (h0 : ∀ (r : Fin 1024) (k : Fin 2048), x0 (ix2 r k) = at2 X (1024 * R + r) k)
    (h1 : ∀ (e : Fin 6) (k : Fin 2048), x1 (ix3 0 e k) = at3n M (R / 4) e k)
    (h2 : ∀ k : Fin 2048, x2 (ix2 0 k) = at2 G 0 k) (r : Fin 1024) (k : Fin 2048) :
    rowsOf x0 x1 x2 (ix2 r k) = normed X M G (1024 * R + r) k := by
  unfold rowsOf k0_pay1
  pointwise
  simp only [h0, h1, h2]
  unfold normed
  rw [show (1024 * R + r.val) / 4096 = R / 4 by omega]
  rfl

/-- The exact product of rows held and staged weights. -/
theorem prod_at (x0 : Vec Ideal S1024x2048 .bf16) (x3 : Vec Ideal S2048x1024 .bf16) (r l : Fin 1024) :
    k0_pay2 x0 x3 (ix2 r l) = ∑ k : Fin 2048, x0 (ix2 r k) * x3 (ix2 k l) := by
  unfold k0_pay2
  pointwise

/-- The rounded product is the same over the extended reals. -/
theorem rounded_at (x0 : Vec Ideal S1024x2048 .bf16) (x3 : Vec Ideal S2048x1024 .bf16) (r l : Fin 1024) :
    k0_pay3 x0 x3 (ix2 r l) = ∑ k : Fin 2048, x0 (ix2 r k) * x3 (ix2 k l) := by
  unfold k0_pay3
  exact prod_at x0 x3 r l

/-- Where each window's block lies at a grid point. -/
theorem idx_facts : ∀ t : Fin cfg0.N,
    (win0_0.index t 0 = t.val / 4 ∧ win0_0.index t 1 = 0) ∧ (win0_1.index t 0 = t.val / 4 / 4 ∧ win0_1.index t 1 = 0 ∧ win0_1.index t 2 = 0)
    ∧ (win0_2.index t 0 = 0 ∧ win0_2.index t 1 = 0) ∧ (win0_3.index t 0 = 0 ∧ win0_3.index t 1 = t.val % 4)
    ∧ (win0_4.index t 0 = t.val / 4 ∧ win0_4.index t 1 = min (t.val % 4) 2)
    ∧ (win0_5.index t 0 = t.val / 4 ∧ win0_5.index t 1 = 0) :=
  (by decide +kernel : ∀ t : Fin grid0.N, _)

/-- The rows at launch. -/
def rowsIn (c : Dev nD) : S34816x2048.Idx → EReal := m ((c : Thread nD τ).loc main_arg0)

/-- The modulation at launch. -/
def mods (c : Dev nD) : S16x6x2048.Idx → EReal := m ((c : Thread nD τ).loc main_arg1)

/-- The norm weights at launch. -/
def norms (c : Dev nD) : S1x2048.Idx → EReal := m ((c : Thread nD τ).loc main_arg2)

/-- The projection weights at launch. -/
def weights (c : Dev nD) : S2048x4096.Idx → EReal := m ((c : Thread nD τ).loc main_arg3)

/-- The block of window 0. -/
theorem blk0 (c : Dev nD) (t : Fin cfg0.N) (r : Fin 1024) (k : Fin 2048) :
    iblk m c 0 t (ix2 r k) = at2 (rowsIn m c) (1024 * (t.val / 4) + r) k := by
  obtain ⟨⟨h00, h01⟩, ⟨h10, h11, h12⟩, ⟨h20, h21⟩, ⟨h30, h31⟩, ⟨h40, h41⟩, ⟨h50, h51⟩⟩ := idx_facts t
  blk_simp [iblk]
  refine Eq.trans (congrFun (V_main_arg0 m c) _) (at2_eq _ _ _ _ ?_ ?_)
  · blk_simp
    omega
  · blk_simp
    omega

/-- The block of window 1. -/
theorem blk1 (c : Dev nD) (t : Fin cfg0.N) (e : Fin 6) (k : Fin 2048) :
    iblk m c 1 t (ix3 0 e k) = at3n (mods m c) (t.val / 4 / 4) e k := by
  obtain ⟨⟨h00, h01⟩, ⟨h10, h11, h12⟩, ⟨h20, h21⟩, ⟨h30, h31⟩, ⟨h40, h41⟩, ⟨h50, h51⟩⟩ := idx_facts t
  blk_simp [iblk]
  refine Eq.trans (congrFun (V_main_arg1 m c) _) (at3n_eq _ _ _ _ _ ?_ ?_ ?_)
  · blk_simp
    omega
  · blk_simp
    omega
  · blk_simp
    omega

/-- The block of window 2. -/
theorem blk2 (c : Dev nD) (t : Fin cfg0.N) (r : Fin 1) (k : Fin 2048) :
    iblk m c 2 t (ix2 r k) = at2 (norms m c) r k := by
  obtain ⟨⟨h00, h01⟩, ⟨h10, h11, h12⟩, ⟨h20, h21⟩, ⟨h30, h31⟩, ⟨h40, h41⟩, ⟨h50, h51⟩⟩ := idx_facts t
  blk_simp [iblk]
  refine Eq.trans (congrFun (V_main_arg2 m c) _) (at2_eq _ _ _ _ ?_ ?_)
  · blk_simp
    omega
  · blk_simp
    omega

/-- The block of window 3. -/
theorem blk3 (c : Dev nD) (t : Fin cfg0.N) (r : Fin 2048) (k : Fin 1024) :
    iblk m c 3 t (ix2 r k) = at2 (weights m c) r (1024 * (t.val % 4) + k) := by
  obtain ⟨⟨h00, h01⟩, ⟨h10, h11, h12⟩, ⟨h20, h21⟩, ⟨h30, h31⟩, ⟨h40, h41⟩, ⟨h50, h51⟩⟩ := idx_facts t
  blk_simp [iblk]
  refine Eq.trans (congrFun (V_main_arg3 m c) _) (at2_eq _ _ _ _ ?_ ?_)
  · blk_simp
    omega
  · blk_simp
    omega

/-- A point's rows. -/
theorem rowsAt_at (c : Dev nD) (t : Fin cfg0.N) (r : Fin 1024) (k : Fin 2048) :
    rowsAt m c t (ix2 r k) = normed (rowsIn m c) (mods m c) (norms m c) (1024 * (t.val / 4) + r) k := by
  unfold rowsAt
  refine (rows_at (rowsIn m c) (mods m c) (norms m c) _ _ _ ((headOf t).val / 4) (blk0 m c (headOf t)) (blk1 m c (headOf t)) (fun k => blk2 m c (headOf t) 0 k) r k).trans ?_
  rw [show (headOf t).val / 4 = t.val / 4 from (by show 4 * (t.val / 4) / 4 = t.val / 4; omega)]

/-- What a grid point leaves in the exact result's buffer. -/
theorem outF_at (c : Dev nD) (t : Fin cfg0.N) (r l : Fin 1024) :
    outF m c t (ix2 r l) = projected (rowsIn m c) (mods m c) (norms m c) (weights m c) (1024 * (t.val / 4) + r) (1024 * (t.val % 4) + l) := by
  unfold outF
  refine (prod_at _ _ r l).trans (Finset.sum_congr rfl fun k _ => ?_)
  rw [rowsAt_at, blk3]

/-- What a grid point leaves in the rounded result's buffer. -/
theorem outBf_at (c : Dev nD) (t : Fin cfg0.N) (r l : Fin 1024) :
    outBf m c t (ix2 r l) = projected (rowsIn m c) (mods m c) (norms m c) (weights m c) (1024 * (t.val / 4) + r) (1024 * min (t.val % 4) 2 + l) := by
  have hs : (srcOf t).val % 4 = min (t.val % 4) 2 := by
    unfold srcOf
    split
    · show (t.val - 1) % 4 = _; omega
    · omega
  unfold outBf
  refine (rounded_at _ _ r l).trans (Finset.sum_congr rfl fun k _ => ?_)
  rw [rowsAt_at, blk3, hs]

/-- The grid leaves the first columns of `projected` in the rounded result's array. -/
theorem final4 (c : Dev nD) : (dats m 0 c).arrAt 4 cfg0.N
    = fun j => projected (rowsIn m c) (mods m c) (norms m c) (weights m c) (j 0).val (j 1).val := by
  refine (dats m 0 c).arrAt_eq_of_covers 4 _ (by decide +kernel) fun t hf y => ?_
  blk_simp
  rw [after0_4]
  obtain ⟨r, l, rfl⟩ : ∃ (r l : Fin 1024), y = ix2 r l := ⟨y 0, y 1, eq_ix2 y⟩
  refine (outBf_at m c t r l).trans ?_
  obtain ⟨⟨h00, h01⟩, ⟨h10, h11, h12⟩, ⟨h20, h21⟩, ⟨h30, h31⟩, ⟨h40, h41⟩, ⟨h50, h51⟩⟩ := idx_facts t
  refine congrArg₂ (projected (rowsIn m c) (mods m c) (norms m c) (weights m c)) ?_ ?_
  · blk_simp
    omega
  · blk_simp
    omega

/-- The grid leaves the last columns in the exact result's array. -/
theorem final5 (c : Dev nD) : (dats m 0 c).arrAt 5 cfg0.N
    = fun j => projected (rowsIn m c) (mods m c) (norms m c) (weights m c) (j 0).val (3072 + (j 1).val) := by
  refine (dats m 0 c).arrAt_eq_of_covers 5 _ (by decide +kernel) fun t hf y => ?_
  have h3 : t.val % 4 = 3 := (flush0_5 t).mp hf
  blk_simp
  rw [after0_5]
  obtain ⟨r, l, rfl⟩ : ∃ (r l : Fin 1024), y = ix2 r l := ⟨y 0, y 1, eq_ix2 y⟩
  refine (outF_at m c t r l).trans ?_
  obtain ⟨⟨h00, h01⟩, ⟨h10, h11, h12⟩, ⟨h20, h21⟩, ⟨h30, h31⟩, ⟨h40, h41⟩, ⟨h50, h51⟩⟩ := idx_facts t
  refine congrArg₂ (projected (rowsIn m c) (mods m c) (norms m c) (weights m c)) ?_ ?_
  · blk_simp
    omega
  · blk_simp
    omega

end

section

open Cert.Reference3Ideal Cert.Reference3Ideal.Gen Cert.Reference3Ideal.Read

variable (X : S34816x2048.Idx → EReal) (M : S16x6x2048.Idx → EReal) (G : S1x2048.Idx → EReal) (W : S2048x4096.Idx → EReal)

/-- The reference's normalised latent rows. -/
theorem latent_at (b : Fin 8) (r : Fin 4096) (k : Fin 2048) :
    val_main_v32 (F := Ideal) X M G (ix3 b r k) = normed X M G (4096 * b + r) k := by
  unfold val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v6 val_main_v5 val_main_v2 val_main_v1 val_main_cst val_main_cst_0 val_main_cst_1 val_main_cst_2
  pointwise
  have hx : ∀ (h : b.val * 4096 + r.val < 34816) (i : Fin 2048), X (ix2 ⟨b.val * 4096 + r.val, h⟩ i) = at2 X (4096 * b + r) i := fun h i =>
    at2_of X _ _ _ _ (by simp only []; omega) rfl
  have hm : ∀ (h : b.val < 16) (e : Fin 6), M (ix3 ⟨b.val, h⟩ e k) = at3n M ((4096 * b.val + r.val) / 4096) e k := fun h e =>
    at3n_of M _ _ _ _ _ _ (by simp only []; omega) rfl rfl
  simp only [hx, hm]
  rw [at2_of G 0 k 0 k rfl rfl]
  rfl

/-- The reference's normalised context rows. -/
theorem context_at (b : Fin 8) (r : Fin 256) (k : Fin 2048) :
    val_main_v58 (F := Ideal) X M G (ix3 b r k) = normed X M G (32768 + 256 * b + r) k := by
  unfold val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v8 val_main_v7 val_main_v4 val_main_v3 val_main_cst_3 val_main_cst_4 val_main_cst_5 val_main_cst_6
  pointwise
  have hx : ∀ (h : 32768 + (b.val * 256 + r.val) < 34816) (i : Fin 2048), X (ix2 ⟨32768 + (b.val * 256 + r.val), h⟩ i) = at2 X (32768 + 256 * b + r) i := fun h i =>
    at2_of X _ _ _ _ (by simp only []; omega) rfl
  have hm : ∀ e : Fin 6, M (ix3 8 e k) = at3n M ((32768 + 256 * b.val + r.val) / 4096) e k := fun e =>
    at3n_of M _ _ _ _ _ _ (show 8 = _ by omega) rfl rfl
  simp only [hx, hm]
  rw [at2_of G 0 k 0 k rfl rfl]
  rfl

/-- The reference's whole projection. -/
theorem whole_at (r : Fin 34816) (l : Fin 4096) : val_main_v63 (F := Ideal) X M G W (ix2 r l) = projected X M G W r l := by
  unfold val_main_v63 val_main_v62 val_main_v61 val_main_v60 val_main_v59 val_main_v0
  pointwise
  split
  · refine Finset.sum_congr rfl fun k _ => ?_
    rw [latent_at, at2_of W k l k l rfl rfl, show 4096 * (r.val / 4096) + r.val % 4096 = r.val by omega]
  · refine Finset.sum_congr rfl fun k _ => ?_
    rw [context_at, at2_of W k l k l rfl rfl, show 32768 + 256 * ((r.val - 32768) / 256) + (r.val - 32768) % 256 = r.val by omega]

/-- The reference's first result. -/
theorem reference_rounded : val_main_v65 (F := Ideal) X M G W = fun j => projected X M G W (j 0).val (j 1).val := by
  funext j
  obtain ⟨r, l, rfl⟩ : ∃ (r : Fin 34816) (l : Fin 3072), j = ix2 r l := ⟨j 0, j 1, eq_ix2 j⟩
  rw [val_main_v65_apply, val_main_v64_apply]
  have e : idx_main_v64 (ix2 r l) = ix2 r ⟨l.val, by omega⟩ := by
    rw [eq_ix2 (idx_main_v64 (ix2 r l))]; rfl
  rw [e]
  exact whole_at X M G W r ⟨l.val, by omega⟩

/-- The reference's second result. -/
theorem reference_exact : val_main_v66 (F := Ideal) X M G W = fun j => projected X M G W (j 0).val (3072 + (j 1).val) := by
  funext j
  obtain ⟨r, l, rfl⟩ : ∃ (r : Fin 34816) (l : Fin 1024), j = ix2 r l := ⟨j 0, j 1, eq_ix2 j⟩
  rw [val_main_v66_apply]
  have e : idx_main_v66 (ix2 r l) = ix2 r ⟨3072 + l.val, by omega⟩ := by
    rw [eq_ix2 (idx_main_v66 (ix2 r l))]; rfl
  rw [e]
  exact whole_at X M G W r ⟨3072 + l.val, by omega⟩

end

end Cert.Proof.Even

end
-- ==== Proof.FfnTrip.lean ====
module

public import proofs.«01_k».proof.Proof.Gen.Kernel6Ideal.Launch
public import proofs.«01_k».proof.Proof.Gen.Kernel6Ideal.Skeleton
public import proofs.«01_k».proof.Proof.Gen.Kernel6Ideal.Loops
public import Idealize.ShloMosaic.Lib.Claim
public import Idealize.ShloMosaic.Lib.Pipeline.Value
public import Idealize.ShloMosaic.Lib.Pipeline.FrameValue
public import Idealize.ShloMosaic.Lib.Transfers
public import Idealize.ShloMosaic.Lib.Batch
public import Idealize.ShloMosaic.Lib.Tactic

/-!
  The expert network's transfers, one trip at a time: a row of the states gathered into a slot of the input buffer, a wait for
  one, a row of the output buffer scattered to its place in the result, a wait for one.
-/

@[expose] public section

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-! ## The buffers and their rows -/

abbrev xM : Memref sig .tc .vmem S2x256x2048 .f32 := Memref.whole cc0_scratch0
abbrev zM : Memref sig .tc .vmem S2x256x2048 .f32 := Memref.whole cc0_scratch1
abbrev hM : Memref sig .tc .hbm S34816x2048 .f32 := Memref.whole main_arg0
abbrev oM : Memref sig .tc .hbm S139264x2048 .f32 := Memref.whole main_v0

/-- Row `k` of slot `s` of a two-slot buffer; a row of the states; a row of the result. -/
def bufRow (s k : ℕ) : Finset S2x256x2048.Idx := Finset.univ.filter fun y => (y 0).val = s ∧ (y 1).val = k
def hRow (r : ℕ) : Finset S34816x2048.Idx := Finset.univ.filter fun y => (y 0).val = r
def oRow (r : ℕ) : Finset S139264x2048.Idx := Finset.univ.filter fun y => (y 0).val = r

theorem inb_sem (s : Fin 2) : ∀ a : Fin S2.rank, (![s.val] : Fin 1 → ℕ) a + S1.size a ≤ S2.size a := by
  intro a; fin_cases a; have := s.isLt; simp [S1, S2]; omega
theorem inb_buf (s : Fin 2) (k : ℕ) (hk : k < 256) :
    ∀ a : Fin S2x256x2048.rank, (![s.val, k, 0] : Fin 3 → ℕ) a + S1x1x2048.size a ≤ S2x256x2048.size a := by
  intro a; have := s.isLt; fin_cases a <;> simp [S2x256x2048, S1x1x2048] <;> omega
theorem inb_h (r : ℕ) (hr : r < 34816) :
    ∀ a : Fin S34816x2048.rank, (![r, 0] : Fin 2 → ℕ) a + S1x2048.size a ≤ S34816x2048.size a := by
  intro a; fin_cases a <;> simp [S34816x2048, S1x2048] <;> omega
theorem inb_o (r : ℕ) (hr : r < 139264) :
    ∀ a : Fin S139264x2048.rank, (![r, 0] : Fin 2 → ℕ) a + S1x2048.size a ≤ S139264x2048.size a := by
  intro a; fin_cases a <;> simp [S139264x2048, S1x2048] <;> omega

/-- The gather's and the scatter's semaphore of slot `s`. -/
abbrev gsem (s : Fin 2) : DmaSem sig := ((cc0_scratch2.slice (Rect.unit (s := S2) ![s.val] S1.size (inb_sem s))).squeeze S_ squeezes_S1_S_).sem
abbrev ssem (s : Fin 2) : DmaSem sig := ((cc0_scratch3.slice (Rect.unit (s := S2) ![s.val] S1.size (inb_sem s))).squeeze S_ squeezes_S1_S_).sem

abbrev bufRowM (M : Memref sig .tc .vmem S2x256x2048 .f32) (s : Fin 2) (k : ℕ) (hk : k < 256) : Memref sig .tc .vmem S1x2048 .f32 :=
  (M.slice (Rect.unit (s := S2x256x2048) ![s.val, k, 0] S1x1x2048.size (inb_buf s k hk)) (fun _ => rfl)).squeeze S1x2048 squeezes_S1x1x2048_S1x2048
abbrev hRowM (r : ℕ) (hr : r < 34816) : Memref sig .tc .hbm S1x2048 .f32 :=
  hM.slice (Rect.unit (s := S34816x2048) ![r, 0] S1x2048.size (inb_h r hr)) (fun _ => rfl)
abbrev oRowM (r : ℕ) (hr : r < 139264) : Memref sig .tc .hbm S1x2048 .f32 :=
  oM.slice (Rect.unit (s := S139264x2048) ![r, 0] S1x2048.size (inb_o r hr)) (fun _ => rfl)

theorem xRow_set (s : Fin 2) (k : ℕ) (hk : k < 256) : (bufRowM xM s k hk).view.set = bufRow s.val k := by
  have h0 : (bufRowM xM s k hk).view.set = (Rect.unit (s := S2x256x2048) ![s.val, k, 0] S1x1x2048.size (inb_buf s k hk)).set := by
    rw [show (bufRowM xM s k hk).view.set = (xM.view.slice (Rect.unit (s := S2x256x2048) ![s.val, k, 0] S1x1x2048.size (inb_buf s k hk))).set from View.set_reshape _ _]
    exact View.set_slice_whole _ _
  rw [h0]; ext y
  rw [Rect.mem_set_unit]
  simp only [bufRow, Finset.mem_filter, Finset.mem_univ, _root_.true_and]
  have h2 : (y 2).val < 2048 := (y 2).isLt
  constructor
  · intro h; have a := h 0; have b := h 1; simp [S1x1x2048] at a b; omega
  · rintro ⟨h0, h1⟩ a
    fin_cases a <;> simp [S1x1x2048] <;> omega

theorem zRow_set (s : Fin 2) (k : ℕ) (hk : k < 256) : (bufRowM zM s k hk).view.set = bufRow s.val k := by
  have h0 : (bufRowM zM s k hk).view.set = (Rect.unit (s := S2x256x2048) ![s.val, k, 0] S1x1x2048.size (inb_buf s k hk)).set := by
    rw [show (bufRowM zM s k hk).view.set = (zM.view.slice (Rect.unit (s := S2x256x2048) ![s.val, k, 0] S1x1x2048.size (inb_buf s k hk))).set from View.set_reshape _ _]
    exact View.set_slice_whole _ _
  rw [h0, ← xRow_set s k hk]
  rw [show (bufRowM xM s k hk).view.set = (xM.view.slice (Rect.unit (s := S2x256x2048) ![s.val, k, 0] S1x1x2048.size (inb_buf s k hk))).set from View.set_reshape _ _]
  exact (View.set_slice_whole _ _).symm

theorem hRow_set (r : ℕ) (hr : r < 34816) : (hRowM r hr).view.set = hRow r := by
  rw [show (hRowM r hr).view.set = (Rect.unit (s := S34816x2048) ![r, 0] S1x2048.size (inb_h r hr)).set from View.set_slice_whole _ _]
  ext y
  rw [Rect.mem_set_unit]
  simp only [hRow, Finset.mem_filter, Finset.mem_univ, _root_.true_and]
  have h2 : (y 1).val < 2048 := (y 1).isLt
  constructor
  · intro h; have a := h 0; simp [S1x2048] at a; omega
  · intro h0 a
    fin_cases a <;> simp [S1x2048] <;> omega

theorem oRow_set (r : ℕ) (hr : r < 139264) : (oRowM r hr).view.set = oRow r := by
  rw [show (oRowM r hr).view.set = (Rect.unit (s := S139264x2048) ![r, 0] S1x2048.size (inb_o r hr)).set from View.set_slice_whole _ _]
  ext y
  rw [Rect.mem_set_unit]
  simp only [oRow, Finset.mem_filter, Finset.mem_univ, _root_.true_and]
  have h2 : (y 1).val < 2048 := (y 1).isLt
  constructor
  · intro h; have a := h 0; simp [S1x2048] at a; omega
  · intro h0 a
    fin_cases a <;> simp [S1x2048] <;> omega

/-! ## One row gathered -/

/-- A trip of the gather's issue, at offsets of any spelling. -/
def gTrip (idx : Memref sig .tc .smem S1x1x256 .i32) (o1 : Fin 3 → ℕ) (h1 : ∀ a, o1 a + S1x1x1.size a ≤ S1x1x256.size a)
    (P : BitVec 32 → Prop) (dec : ∀ v, Decidable (P v)) (o2 : Fin 1 → ℕ) (h2 : ∀ a, o2 a + S1.size a ≤ S2.size a)
    (o3 : Fin 3 → ℕ) (h3 : ∀ a, o3 a + S1x1x2048.size a ≤ S2x256x2048.size a)
    (o4 : BitVec 32 → Fin 2 → ℕ) (h4 : ∀ v, P v → ∀ a, o4 v a + S1x2048.size a ≤ S34816x2048.size a) :
    Prog (TpuEff nD τ sig (Elt F) Λ₀ .tc) Unit := do
  let v37 : Elt F .i32 ← smemLoad idx (Rect.unit (s := S1x1x256) o1 S1x1x1.size h1) numel1_S1x1x1 rfl
  have hw : P v37 := (← Prog.lift (TpuEff.assume (P v37) (dec v37))).down
  let v38 : DmaSems sig S1 := cc0_scratch2.slice (Rect.unit (s := S2) o2 S1.size h2)
  let v39 : DmaSems sig S_ := v38.squeeze S_ squeezes_S1_S_
  let v40 : Memref sig .tc .vmem S1x1x2048 .f32 := xM.slice (Rect.unit (s := S2x256x2048) o3 S1x1x2048.size h3) (fun _ => rfl)
  let v41 : Memref sig .tc .vmem S1x2048 .f32 := v40.squeeze S1x2048 squeezes_S1x1x2048_S1x2048
  let v42 : Memref sig .tc .hbm S1x2048 .f32 := hM.slice (Rect.unit (s := S34816x2048) (o4 v37) S1x2048.size (h4 v37 hw)) (fun _ => rfl)
  Prog.lift (.enqueueDma v42 (.here v41) (.dma v39.sem) (View.wordExact_bits rfl) ((View.wordExact_bits rfl).reshape _ _) ⟨Or.inl rfl, trivial⟩)
  pure ⟨⟩

theorem t1_is (i : grid0.Coords) (a1 ha1 a2 ha2) (a3 : Memref sig .tc .smem S1x1x256 .i32) (ha3 : a3.IsWhole) (a4 ha4 a5 ha5 a7 ha7 a8 ha8 a9 ha9 a10 ha10) (h1 : k0_cond1 i = 1#1) (k : Fin k0_t1_loop.trips) :
    k0_t1_body (F := F) i a1 ha1 a2 ha2 a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 h1 k ⟨⟩
      = gTrip (F := F) a3 (k0_off2 k) (k0_off2_inb i k h1) (k0_chk1 i) (k0_chk1.dec i) ![0] inb_S2_S1_0 (k0_off3 k) (k0_off3_inb i k h1)
          k0_off4 (fun v hw => k0_off4_inb i v hw h1) := rfl

theorem inb_i (k : ℕ) (hk : k < 256) : ∀ a : Fin S1x1x256.rank, (![0, 0, k] : Fin 3 → ℕ) a + S1x1x1.size a ≤ S1x1x256.size a := by
  intro a; fin_cases a <;> simp [S1x1x256, S1x1x1] <;> omega
/-- The word of an index block at place `k`. -/
abbrev wordAt (d : Vec F S1x1x256 .i32) (k : ℕ) (hk : k < 256) : BitVec 32 :=
  d ((Rect.unit (s := S1x1x256) ![0, 0, k] S1x1x1.size (inb_i k hk)).emb (Shape.Idx.first (by show 0 < S1x1x1.numel; decide)))

/-- What one row's transfer counts. -/
def rowAmt : ℕ := (bufRowM xM 0 0 (by decide)).view.amount (SemLoc.dma (sig := sig) (gsem 0))

local notation "ECc" => (countersEmb (U := Pipeline.UD sig nD τ) : UEmb Counters 𝕄)

/-- The gather's enqueue, at a source row spelled anyhow. -/
theorem gather_enq (c : Dev nD) (s : Fin 2) (k : ℕ) (hk : k < 256) (r : ℕ) (hr : r < 34816) (o : Fin 2 → ℕ) (ho) (eo : o = ![r, 0]) (ho') (h2) (h3) (w1) (w2) (w3)
    (qh : PosShare TreeShare) (H : Buf (Elt F) (hM.view.loc (c : Thread nD τ))) (fx : Buf (Elt F) (xM.view.loc (c : Thread nD τ)))
    (D : Fin 256 → sProp 𝕄)
    (hD : iprop((xM.view.loc (c : Thread nD τ) ↦[bufRow s.val k]{fullShare} (bufRowM xM s k hk).view.write (Elt F) fx ((hRowM r hr).view.read (Elt F) H) Finset.univ)
        ∗ (hM.view.loc (c : Thread nD τ) ↦[hRow r]{qh} H)) ⊢ D ⟨k, hk⟩) (f : PUnit → Prog (TpuEff nD τ sig (Elt F) Λ₀ .tc) Unit) (Q : Unit → sProp 𝕄) :
    iprop((hM.view.loc (c : Thread nD τ) ↦[hRow r]{qh} H) ∗ (xM.view.loc (c : Thread nD τ) ↦[bufRow s.val k]{fullShare} fx)
        ∗ Transfers.Batch ECc (c : Thread nD τ) (.dma (gsem s)) () rowAmt D k 0)
      ⊢ iprop((Transfers.Batch ECc (c : Thread nD τ) (.dma (gsem s)) () rowAmt D (k + 1) 0 -∗ wp frame (wpE (defs₀ (F := F)) Variants.none c none) Set.univ (f ⟨⟩) Q)
        -∗ wp frame (wpE (defs₀ (F := F)) Variants.none c none) Set.univ
          (.op (.enqueueDma (hM.slice (Rect.unit (s := S34816x2048) o S1x2048.size ho) ho')
            (.here ((xM.slice (Rect.unit (s := S2x256x2048) ![s.val, k, 0] S1x1x2048.size h3) (fun _ => rfl)).squeeze S1x2048 squeezes_S1x1x2048_S1x2048))
            (.dma ((cc0_scratch2.slice (Rect.unit (s := S2) ![s.val] S1.size h2)).squeeze S_ squeezes_S1_S_).sem) w1 w2 w3) f) Q) := by
  subst eo
  have h := Transfers.wp_dmaBatch ECc (defs := defs₀ (F := F)) Variants.none (c : Thread nD τ) none (src := hRowM r hr) (dst := bufRowM xM s k hk) (via := ReadAs.same) (sm := .dma (gsem s))
    (hsrc := w1) (hdst := w2) (hsem := w3) (k := f) (Q := Q) (q := qh) (fs := H) (Sd := bufRow s.val k) (fd := fx) (D := D) (j := k) (u := 0) () rowAmt rfl (xRow_set s k hk).subset hk (Nat.zero_le _)
  rw [hRow_set] at h
  exact h hD

set_option maxHeartbeats 1000000 in
theorem gTrip_step (c : Dev nD) (idx : Memref sig .tc .smem S1x1x256 .i32) (hidx : idx.IsWhole) (o1 h1) (P dec) (o2 h2) (o3 h3) (o4 h4)
    (s : Fin 2) (k : ℕ) (hk : k < 256) (e1 : o1 = ![0, 0, k]) (e2 : o2 = ![s.val]) (e3 : o3 = ![s.val, k, 0]) (e4 : ∀ v, o4 v = ![v.toNat, 0])
    (hP : ∀ v : BitVec 32, v.toNat < 34816 → P v) (q : PosShare TreeShare) (qh : PosShare TreeShare)
    (d : Vec F S1x1x256 .i32) (H : Buf (Elt F) (hM.view.loc (c : Thread nD τ))) (fx : Buf (Elt F) (xM.view.loc (c : Thread nD τ)))
    (r : ℕ) (hr : r < 34816) (hw : (wordAt d k hk).toNat = r) (D : Fin 256 → sProp 𝕄)
    (hD : iprop((xM.view.loc (c : Thread nD τ) ↦[bufRow s.val k]{fullShare} (bufRowM xM s k hk).view.write (Elt F) fx ((hRowM r hr).view.read (Elt F) H) Finset.univ)
        ∗ (hM.view.loc (c : Thread nD τ) ↦[hRow r]{qh} H)) ⊢ D ⟨k, hk⟩) (Q : Unit → sProp 𝕄) :
    iprop(owns (c : Thread nD τ) idx q d ∗ (hM.view.loc (c : Thread nD τ) ↦[hRow r]{qh} H) ∗ (xM.view.loc (c : Thread nD τ) ↦[bufRow s.val k]{fullShare} fx)
        ∗ Transfers.Batch ECc (c : Thread nD τ) (.dma (gsem s)) () rowAmt D k 0
        ∗ (iprop(owns (c : Thread nD τ) idx q d ∗ Transfers.Batch ECc (c : Thread nD τ) (.dma (gsem s)) () rowAmt D (k + 1) 0) -∗ Q ⟨⟩))
      ⊢ wp frame (wpE (defs₀ (F := F)) Variants.none c none) Set.univ (gTrip idx o1 h1 P dec o2 h2 o3 h3 o4 h4) Q := by
  subst e1 e2 e3
  unfold gTrip owns
  iintro ⟨⟨%fi, %hfi, Hi⟩, Hh, Hx, HB, Hk⟩
  obtain rfl := hidx.eq_unread hfi
  sl_exec
  have e : gTrip_step.sl.r c idx hidx k d h1 = wordAt d k hk := by
    sl_unfold_words
    rw [View.readAt_apply, Memref.IsWhole.read_unread]; rfl
  rw [e]
  sl_exec (disch := exact hP _ (by omega))
  iapply (gather_enq c s k hk r hr _ _ (by rw [e4, hw]) _ _ _ _ _ _ qh H fx D hD) $$ [Hh Hx HB]
  · isplitl [Hh]; · iexact Hh
    isplitl [Hx]; · iexact Hx
    iexact HB
  iintro HB
  sl_step
  iapply Hk
  isplitl [Hi]
  · iexists _; isplitr; · ipureintro; exact hidx.read_unread _
    iexact Hi
  iexact HB

/-! ## One row scattered -/

/-- A trip of the scatter's issue, at offsets of any spelling. -/
def sTrip (idx : Memref sig .tc .smem S1x1x256 .i32) (o1 : Fin 3 → ℕ) (h1 : ∀ a, o1 a + S1x1x1.size a ≤ S1x1x256.size a)
    (P : BitVec 32 → Prop) (dec : ∀ v, Decidable (P v)) (o2 : Fin 1 → ℕ) (h2 : ∀ a, o2 a + S1.size a ≤ S2.size a)
    (o3 : Fin 3 → ℕ) (h3 : ∀ a, o3 a + S1x1x2048.size a ≤ S2x256x2048.size a)
    (o4 : BitVec 32 → Fin 2 → ℕ) (h4 : ∀ v, P v → ∀ a, o4 v a + S1x2048.size a ≤ S139264x2048.size a) :
    Prog (TpuEff nD τ sig (Elt F) Λ₀ .tc) Unit := do
  let v36 : Elt F .i32 ← smemLoad idx (Rect.unit (s := S1x1x256) o1 S1x1x1.size h1) numel1_S1x1x1 rfl
  have hw : P v36 := (← Prog.lift (TpuEff.assume (P v36) (dec v36))).down
  let v37 : DmaSems sig S1 := cc0_scratch3.slice (Rect.unit (s := S2) o2 S1.size h2)
  let v38 : DmaSems sig S_ := v37.squeeze S_ squeezes_S1_S_
  let v39 : Memref sig .tc .hbm S1x2048 .f32 := oM.slice (Rect.unit (s := S139264x2048) (o4 v36) S1x2048.size (h4 v36 hw)) (fun _ => rfl)
  let v40 : Memref sig .tc .vmem S1x1x2048 .f32 := zM.slice (Rect.unit (s := S2x256x2048) o3 S1x1x2048.size h3) (fun _ => rfl)
  let v41 : Memref sig .tc .vmem S1x2048 .f32 := v40.squeeze S1x2048 squeezes_S1x1x2048_S1x2048
  Prog.lift (.enqueueDma v41 (.here v39) (.dma v38.sem) ((View.wordExact_bits rfl).reshape _ _) (View.wordExact_bits rfl) ⟨Or.inl rfl, trivial⟩)
  pure ⟨⟩

theorem t6_is (i : grid0.Coords) (a1 ha1 a2 ha2 a3 ha3 a4 ha4 a5 ha5 a7 ha7 a8 ha8 a9 ha9 a10 ha10) (v : BitVec 32) (h4 : k0_chk4 i v) (k : Fin (k0_t6_loop v).trips) :
    k0_t6_body (F := F) i a1 ha1 a2 ha2 a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 v h4 k ⟨⟩
      = sTrip (F := F) a5 (k0_off17 v k) (k0_off17_inb i v h4 k) k0_chk5 k0_chk5.dec (k0_off18 i) (k0_off18_inb i) (k0_off20 i v k) (k0_off20_inb i v h4 k)
          k0_off19 (fun v hw => k0_off19_inb v hw) := rfl

theorem t2_is (i : grid0.Coords) (a1 ha1 a2 ha2 a3 ha3 a4 ha4 a5 ha5 a7 ha7 a8 ha8 a9 ha9 a10 ha10) (h1 : k0_cond2 i = 1#1) (k : Fin k0_t2_loop.trips) :
    k0_t2_body (F := F) i a1 ha1 a2 ha2 a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 h1 k ⟨⟩
      = gTrip (F := F) a4 (k0_off5 k) (k0_off5_inb i k h1) (k0_chk2 i) (k0_chk2.dec i) (k0_off6 i) (k0_off6_inb i h1) (k0_off7 i k) (k0_off7_inb i k h1)
          k0_off8 (fun v hw => k0_off8_inb i v hw h1) := rfl

/-- The scatter's enqueue, at a destination row spelled anyhow. -/
theorem scatter_enq (c : Dev nD) (s : Fin 2) (k : ℕ) (hk : k < 256) (r : ℕ) (hr : r < 139264) (o : Fin 2 → ℕ) (ho) (eo : o = ![r, 0]) (ho') (h2) (h3) (w1) (w2) (w3)
    (fz : Buf (Elt F) (zM.view.loc (c : Thread nD τ))) (fo : Buf (Elt F) (oM.view.loc (c : Thread nD τ)))
    (n : ℕ) (hn : k < n) (D : Fin n → sProp 𝕄)
    (hD : iprop((oM.view.loc (c : Thread nD τ) ↦[oRow r]{fullShare} (oRowM r hr).view.write (Elt F) fo ((bufRowM zM s k hk).view.read (Elt F) fz) Finset.univ)
        ∗ (zM.view.loc (c : Thread nD τ) ↦[bufRow s.val k]{fullShare} fz)) ⊢ D ⟨k, hn⟩) (f : PUnit → Prog (TpuEff nD τ sig (Elt F) Λ₀ .tc) Unit) (Q : Unit → sProp 𝕄) :
    iprop((zM.view.loc (c : Thread nD τ) ↦[bufRow s.val k]{fullShare} fz) ∗ (oM.view.loc (c : Thread nD τ) ↦[oRow r]{fullShare} fo)
        ∗ Transfers.Batch ECc (c : Thread nD τ) (.dma (ssem s)) () rowAmt D k 0)
      ⊢ iprop((Transfers.Batch ECc (c : Thread nD τ) (.dma (ssem s)) () rowAmt D (k + 1) 0 -∗ wp frame (wpE (defs₀ (F := F)) Variants.none c none) Set.univ (f ⟨⟩) Q)
        -∗ wp frame (wpE (defs₀ (F := F)) Variants.none c none) Set.univ
          (.op (.enqueueDma ((zM.slice (Rect.unit (s := S2x256x2048) ![s.val, k, 0] S1x1x2048.size h3) (fun _ => rfl)).squeeze S1x2048 squeezes_S1x1x2048_S1x2048)
            (.here (oM.slice (Rect.unit (s := S139264x2048) o S1x2048.size ho) ho'))
            (.dma ((cc0_scratch3.slice (Rect.unit (s := S2) ![s.val] S1.size h2)).squeeze S_ squeezes_S1_S_).sem) w1 w2 w3) f) Q) := by
  subst eo
  have h := Transfers.wp_dmaBatch ECc (defs := defs₀ (F := F)) Variants.none (c : Thread nD τ) none (src := bufRowM zM s k hk) (dst := oRowM r hr) (via := ReadAs.same) (sm := .dma (ssem s))
    (hsrc := w1) (hdst := w2) (hsem := w3) (k := f) (Q := Q) (q := fullShare) (fs := fz) (Sd := oRow r) (fd := fo) (D := D) (j := k) (u := 0) () rowAmt rfl (oRow_set r hr).subset hn (Nat.zero_le _)
  rw [zRow_set] at h
  exact h hD

set_option maxHeartbeats 1000000 in
theorem sTrip_step (c : Dev nD) (idx : Memref sig .tc .smem S1x1x256 .i32) (hidx : idx.IsWhole) (o1 h1) (P dec) (o2 h2) (o3 h3) (o4 h4)
    (s : Fin 2) (k : ℕ) (hk : k < 256) (e1 : o1 = ![0, 0, k]) (e2 : o2 = ![s.val]) (e3 : o3 = ![s.val, k, 0]) (e4 : ∀ v, o4 v = ![v.toNat, 0])
    (hP : ∀ v : BitVec 32, v.toNat < 139264 → P v) (q : PosShare TreeShare)
    (d : Vec F S1x1x256 .i32) (fz : Buf (Elt F) (zM.view.loc (c : Thread nD τ))) (fo : Buf (Elt F) (oM.view.loc (c : Thread nD τ)))
    (r : ℕ) (hr : r < 139264) (hw : (wordAt d k hk).toNat = r) (n : ℕ) (hn : k < n) (D : Fin n → sProp 𝕄)
    (hD : iprop((oM.view.loc (c : Thread nD τ) ↦[oRow r]{fullShare} (oRowM r hr).view.write (Elt F) fo ((bufRowM zM s k hk).view.read (Elt F) fz) Finset.univ)
        ∗ (zM.view.loc (c : Thread nD τ) ↦[bufRow s.val k]{fullShare} fz)) ⊢ D ⟨k, hn⟩) (Q : Unit → sProp 𝕄) :
    iprop(owns (c : Thread nD τ) idx q d ∗ (zM.view.loc (c : Thread nD τ) ↦[bufRow s.val k]{fullShare} fz) ∗ (oM.view.loc (c : Thread nD τ) ↦[oRow r]{fullShare} fo)
        ∗ Transfers.Batch ECc (c : Thread nD τ) (.dma (ssem s)) () rowAmt D k 0
        ∗ (iprop(owns (c : Thread nD τ) idx q d ∗ Transfers.Batch ECc (c : Thread nD τ) (.dma (ssem s)) () rowAmt D (k + 1) 0) -∗ Q ⟨⟩))
      ⊢ wp frame (wpE (defs₀ (F := F)) Variants.none c none) Set.univ (sTrip idx o1 h1 P dec o2 h2 o3 h3 o4 h4) Q := by
  subst e1 e2 e3
  unfold sTrip owns
  iintro ⟨⟨%fi, %hfi, Hi⟩, Hz, Ho, HB, Hk⟩
  obtain rfl := hidx.eq_unread hfi
  sl_exec
  have e : sTrip_step.sl.r c idx hidx k d h1 = wordAt d k hk := by
    sl_unfold_words
    rw [View.readAt_apply, Memref.IsWhole.read_unread]; rfl
  rw [e]
  sl_exec (disch := exact hP _ (by omega))
  iapply (scatter_enq c s k hk r hr _ _ (by rw [e4, hw]) _ _ _ _ _ _ fz fo n hn D hD) $$ [Hz Ho HB]
  · isplitl [Hz]; · iexact Hz
    isplitl [Ho]; · iexact Ho
    iexact HB
  iintro HB
  sl_step
  iapply Hk
  isplitl [Hi]
  · iexists _; isplitr; · ipureintro; exact hidx.read_unread _
    iexact Hi
  iexact HB

/-! ## One row awaited -/

theorem ret_bind' {E : Type → Type} {α β : Type} (a : α) (k : α → Prog E β) : (Prog.ret a).bind k = k a := rfl

def gWait (o2 : Fin 1 → ℕ) (h2 : ∀ a, o2 a + S1.size a ≤ S2.size a)
    (o3 : Fin 3 → ℕ) (h3 : ∀ a, o3 a + S1x1x2048.size a ≤ S2x256x2048.size a) : Prog (TpuEff nD τ sig (Elt F) Λ₀ .tc) Unit := do
  let v35 : DmaSems sig S1 := cc0_scratch2.slice (Rect.unit (s := S2) o2 S1.size h2)
  let v36 : DmaSems sig S_ := v35.squeeze S_ squeezes_S1_S_
  let v37 : Memref sig .tc .vmem S1x1x2048 .f32 := xM.slice (Rect.unit (s := S2x256x2048) o3 S1x1x2048.size h3) (fun _ => rfl)
  let v38 : Memref sig .tc .vmem S1x2048 .f32 := v37.squeeze S1x2048 squeezes_S1x1x2048_S1x2048
  let v39 : Memref sig .tc .hbm S1x2048 .f32 := hM.slice (Rect.unit (s := S34816x2048) ![0, 0] S1x2048.size inb_S34816x2048_S1x2048_0_0) (fun _ => rfl)
  Prog.lift (.waitDma2 v36.sem v39 v38 (View.wordExact_bits rfl) ((View.wordExact_bits rfl).reshape _ _))
  pure ⟨⟩

def sWait (o2 : Fin 1 → ℕ) (h2 : ∀ a, o2 a + S1.size a ≤ S2.size a)
    (o3 : Fin 3 → ℕ) (h3 : ∀ a, o3 a + S1x1x2048.size a ≤ S2x256x2048.size a) : Prog (TpuEff nD τ sig (Elt F) Λ₀ .tc) Unit := do
  let v43 : DmaSems sig S1 := cc0_scratch3.slice (Rect.unit (s := S2) o2 S1.size h2)
  let v44 : DmaSems sig S_ := v43.squeeze S_ squeezes_S1_S_
  let v45 : Memref sig .tc .hbm S1x2048 .f32 := oM.slice (Rect.unit (s := S139264x2048) ![0, 0] S1x2048.size inb_S139264x2048_S1x2048_0_0) (fun _ => rfl)
  let v46 : Memref sig .tc .vmem S1x1x2048 .f32 := zM.slice (Rect.unit (s := S2x256x2048) o3 S1x1x2048.size h3) (fun _ => rfl)
  let v47 : Memref sig .tc .vmem S1x2048 .f32 := v46.squeeze S1x2048 squeezes_S1x1x2048_S1x2048
  Prog.lift (.waitDma2 v44.sem v47 v45 ((View.wordExact_bits rfl).reshape _ _) (View.wordExact_bits rfl))
  pure ⟨⟩

theorem t3_is (i : grid0.Coords) (a1 ha1 a2 ha2 a3 ha3 a4 ha4 a5 ha5 a7 ha7 a8 ha8 a9 ha9 a10 ha10) (k : Fin k0_t3_loop.trips) :
    k0_t3_body (F := F) i a1 ha1 a2 ha2 a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 k ⟨⟩
      = gWait (F := F) (k0_off9 i) (k0_off9_inb i) (k0_off10 i) (k0_off10_inb i) := rfl
theorem t4_is (i : grid0.Coords) (a1 ha1 a2 ha2 a3 ha3 a4 ha4 a5 ha5 a7 ha7 a8 ha8 a9 ha9 a10 ha10) (h : k0_cond3 i = 1#1) (v h') (k : Fin (k0_t4_loop v).trips) :
    k0_t4_body (F := F) i a1 ha1 a2 ha2 a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 h v h' k ⟨⟩
      = sWait (F := F) (k0_off12 i) (k0_off12_inb i h) (k0_off13 i) (k0_off13_inb i h) := rfl
theorem t8_is (i : grid0.Coords) (a1 ha1 a2 ha2 a3 ha3 a4 ha4 a5 ha5 a7 ha7 a8 ha8 a9 ha9 a10 ha10) (v h') (h : k0_cond5 i = 1#1) (k : Fin (k0_t8_loop v).trips) :
    k0_t8_body (F := F) i a1 ha1 a2 ha2 a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 v h' h k ⟨⟩
      = sWait (F := F) (k0_off25 i) (k0_off25_inb i h) (k0_off26 i) (k0_off26_inb i h) := rfl
theorem t10_is (i : grid0.Coords) (a1 ha1 a2 ha2 a3 ha3 a4 ha4 a5 ha5 a7 ha7 a8 ha8 a9 ha9 a10 ha10) (h : k0_cond5 i = 1#1) (v h') (k : Fin (k0_t10_loop v).trips) :
    k0_t10_body (F := F) i a1 ha1 a2 ha2 a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 h v h' k ⟨⟩
      = sWait (F := F) (k0_off30 i) (k0_off30_inb i h) (k0_off31 i) (k0_off31_inb i h) := rfl

theorem gWait_step (c : Dev nD) (o2 h2 o3 h3) (s : Fin 2) (e2 : o2 = ![s.val]) (k : ℕ) (hk : k < 256) (D : Fin 256 → sProp 𝕄) (W : Waits sig Unit) (Q : Unit → sProp 𝕄) :
    iprop(Transfers.Batch ECc (c : Thread nD τ) (.dma (gsem s)) () rowAmt D 256 (k * rowAmt) ∗ owes (c : Thread nD τ) 0 W
        ∗ (iprop(Transfers.Batch ECc (c : Thread nD τ) (.dma (gsem s)) () rowAmt D 256 ((k + 1) * rowAmt) ∗ ∃ W', owes (c : Thread nD τ) 0 W') -∗ Q ⟨⟩))
      ⊢ wp frame (wpE (defs₀ (F := F)) Variants.none c none) Set.univ (gWait o2 h2 o3 h3) Q := by
  subst e2
  unfold gWait
  iintro ⟨HB, HO, Hk⟩
  iapply (Transfers.wp_waitBatchMul ECc Variants.none (c : Thread nD τ) none (sem := gsem s) (s := S1x2048) (e := .f32) (n := 256) (D := D) (j := 256) (u := k * rowAmt) () (N := rowAmt) 1 (by rw [Nat.one_mul]; rfl)
    (by have := Nat.mul_le_mul_right rowAmt (show k + 1 ≤ 256 from hk); rw [Nat.add_mul] at this; rw [Nat.mul_comm rowAmt 256]; exact this)) $$ [HB HO]
  · isplitl [HB]; · iexact HB
    iexact HO
  rw [← Nat.add_mul]
  iintro ⟨HB, HO⟩
  simp only [ret_bind']
  sl_step
  iapply Hk
  isplitl [HB]; · iexact HB
  iexists _; iexact HO

theorem sWait_step (c : Dev nD) (o2 h2 o3 h3) (s : Fin 2) (e2 : o2 = ![s.val]) (n k : ℕ) (hk : k < n) (D : Fin n → sProp 𝕄) (W : Waits sig Unit) (Q : Unit → sProp 𝕄) :
    iprop(Transfers.Batch ECc (c : Thread nD τ) (.dma (ssem s)) () rowAmt D n (k * rowAmt) ∗ owes (c : Thread nD τ) 0 W
        ∗ (iprop(Transfers.Batch ECc (c : Thread nD τ) (.dma (ssem s)) () rowAmt D n ((k + 1) * rowAmt) ∗ ∃ W', owes (c : Thread nD τ) 0 W') -∗ Q ⟨⟩))
      ⊢ wp frame (wpE (defs₀ (F := F)) Variants.none c none) Set.univ (sWait o2 h2 o3 h3) Q := by
  subst e2
  unfold sWait
  iintro ⟨HB, HO, Hk⟩
  iapply (Transfers.wp_waitBatchMul ECc Variants.none (c : Thread nD τ) none (sem := ssem s) (s := S1x2048) (e := .f32) (n := n) (D := D) (j := n) (u := k * rowAmt) () (N := rowAmt) 1 (by rw [Nat.one_mul]; rfl)
    (by have := Nat.mul_le_mul_right rowAmt (show k + 1 ≤ n from hk); rw [Nat.add_mul] at this; rw [Nat.mul_comm rowAmt n]; exact this)) $$ [HB HO]
  · isplitl [HB]; · iexact HB
    iexact HO
  rw [← Nat.add_mul]
  iintro ⟨HB, HO⟩
  simp only [ret_bind']
  sl_step
  iapply Hk
  isplitl [HB]; · iexact HB
  iexists _; iexact HO

end Cert.Kernel6Ideal.Hand
-- ==== Proof.FfnLoop.lean ====
module

public import proofs.«01_k».proof.Proof.FfnTrip
public import Idealize.ShloMosaic.Lib.Pointwise
public import Idealize.SL.BI.BigOpNat

/-!
  The expert network's four transfer loops: a tile's rows gathered, waited for, scattered, waited for.
-/

@[expose] public section

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ
local notation "ECc" => (countersEmb (U := Pipeline.UD sig nD τ) : UEmb Counters 𝕄)

/-! ## What is held -/

abbrev xAt (c : Dev nD) (S : Finset S2x256x2048.Idx) (f : Vec F S2x256x2048 .f32) : sProp 𝕄 := xM.view.loc (c : Thread nD τ) ↦[S]{fullShare} f
abbrev zAt (c : Dev nD) (S : Finset S2x256x2048.Idx) (f : Vec F S2x256x2048 .f32) : sProp 𝕄 := zM.view.loc (c : Thread nD τ) ↦[S]{fullShare} f
abbrev hAt (c : Dev nD) (S : Finset S34816x2048.Idx) (q : PosShare TreeShare) (f : Vec F S34816x2048 .f32) : sProp 𝕄 := hM.view.loc (c : Thread nD τ) ↦[S]{q} f
abbrev oAt (c : Dev nD) (S : Finset S139264x2048.Idx) (f : Vec F S139264x2048 .f32) : sProp 𝕄 := oM.view.loc (c : Thread nD τ) ↦[S]{fullShare} f

/-- A slot of a two-slot buffer. -/
def bufSlot (s : ℕ) : Finset S2x256x2048.Idx := Finset.univ.filter fun y => (y 0).val = s

/-- The read share of the states that row `i` of slot `s` travels with. -/
def tok (s : Fin 2) (i : ℕ) : PosShare TreeShare := Transfers.shareTokN fullShare (256 * s.val + i)

/-- The rows `sr` of the states, as a slot holds them. -/
def gathered (H : Vec F S34816x2048 .f32) (sr : ℕ → ℕ) : Vec F S2x256x2048 .f32 :=
  fun y => H (ix2 ⟨sr (y 1).val % 34816, Nat.mod_lt _ (by decide)⟩ (y 2))

def DG (c : Dev nD) (H : Vec F S34816x2048 .f32) (s : Fin 2) (sr : ℕ → ℕ) (i : Fin 256) : sProp 𝕄 :=
  iprop(xAt c (bufRow s.val i.val) (gathered H sr) ∗ hAt c (hRow (sr i.val)) (tok s i.val) H)
instance (c : Dev nD) (H : Vec F S34816x2048 .f32) (s : Fin 2) (sr : ℕ → ℕ) (i : Fin 256) : Storable (upEmb : UEmb _ 𝕄) (DG c H s sr i) := by
  unfold DG; infer_instance

/-- A gather in flight; a slot of the input buffer at rest. -/
def gFly (c : Dev nD) (H : Vec F S34816x2048 .f32) (s : Fin 2) (sr : ℕ → ℕ) : sProp 𝕄 :=
  iprop(Transfers.Batch ECc (c : Thread nD τ) (.dma (gsem s)) () rowAmt (DG c H s sr) 256 0
    ∗ bigSep (Finset.range 256) fun i => hAt c (Finset.univ \ hRow (sr i)) (tok s i) H)
def gIdle (c : Dev nD) (H : Vec F S34816x2048 .f32) (s : Fin 2) (f : Vec F S2x256x2048 .f32) : sProp 𝕄 :=
  iprop(semVal ((c : Thread nD τ), SemLoc.dma (gsem s)) 0 ∗ xAt c (bufSlot s.val) f ∗ bigSep (Finset.range 256) fun i => hAt c Finset.univ (tok s i) H)

def DS (c : Dev nD) (s : Fin 2) (n : ℕ) (dr : ℕ → ℕ) (G : Vec F S139264x2048 .f32) (f : Vec F S2x256x2048 .f32) (i : Fin n) : sProp 𝕄 :=
  iprop(oAt c (oRow (dr i.val)) G ∗ zAt c (bufRow s.val i.val) f)
instance (c : Dev nD) (s : Fin 2) (n : ℕ) (dr : ℕ → ℕ) (G : Vec F S139264x2048 .f32) (f : Vec F S2x256x2048 .f32) (i : Fin n) :
    Storable (upEmb : UEmb _ 𝕄) (DS c s n dr G f i) := by
  unfold DS; infer_instance

/-- A scatter in flight; a slot of the output buffer at rest; the rows of the result one tile writes. -/
def sFly (c : Dev nD) (s : Fin 2) (n : ℕ) (dr : ℕ → ℕ) (G : Vec F S139264x2048 .f32) : sProp 𝕄 :=
  iprop(∃ f, Transfers.Batch ECc (c : Thread nD τ) (.dma (ssem s)) () rowAmt (DS c s n dr G f) n 0
    ∗ bigSep (Finset.Ico n 256) fun i => zAt c (bufRow s.val i) f)
def sIdle (c : Dev nD) (s : Fin 2) (f : Vec F S2x256x2048 .f32) : sProp 𝕄 :=
  iprop(semVal ((c : Thread nD τ), SemLoc.dma (ssem s)) 0 ∗ zAt c (bufSlot s.val) f)
def outRows (c : Dev nD) (n : ℕ) (dr : ℕ → ℕ) (V : Vec F S139264x2048 .f32) : sProp 𝕄 :=
  bigSep (Finset.range n) fun i => oAt c (oRow (dr i)) V

/-! ## Rows of a slot -/

theorem bigSep_fin (n : ℕ) (P : ℕ → sProp 𝕄) : bigSep Finset.univ (fun i : Fin n => P i.val) = bigSep (Finset.range n) P := by
  rw [← Nat.Iio_eq_range, ← Fin.map_valEmbedding_univ, BI.bigSep_map]; rfl

theorem bigSep_sep' (s : Finset ℕ) (P Q : ℕ → sProp 𝕄) : bigSep s (fun i => iprop(P i ∗ Q i)) = iprop(bigSep s P ∗ bigSep s Q) := BI.bigSep_sep s P Q

theorem slot_rows (s : ℕ) : (Finset.range 256).biUnion (bufRow s) = bufSlot s := by
  ext y
  have h1 : (y 1).val < 256 := (y 1).isLt
  simp only [Finset.mem_biUnion, Finset.mem_range, bufRow, bufSlot, Finset.mem_filter, Finset.mem_univ, _root_.true_and]
  constructor
  · rintro ⟨k, -, h, -⟩; exact h
  · intro h; exact ⟨_, h1, h, rfl⟩

theorem rows_disjoint (s : ℕ) (i j : ℕ) (h : i ≠ j) : Disjoint (bufRow s i) (bufRow s j) := by
  rw [Finset.disjoint_left]; intro y
  simp only [bufRow, Finset.mem_filter, Finset.mem_univ, _root_.true_and]
  rintro ⟨-, a⟩ ⟨-, b⟩; exact h (a.symm.trans b)

theorem xSlot_eq (c : Dev nD) (s : ℕ) (f : Vec F S2x256x2048 .f32) :
    xAt c (bufSlot s) f = bigSep (Finset.range 256) fun i => xAt c (bufRow s i) f := by
  rw [← slot_rows]; exact pointsTo_biUnion _ _ fun i _ j _ h => rows_disjoint s i j h
theorem zSlot_eq (c : Dev nD) (s : ℕ) (f : Vec F S2x256x2048 .f32) :
    zAt c (bufSlot s) f = bigSep (Finset.range 256) fun i => zAt c (bufRow s i) f := by
  rw [← slot_rows]; exact pointsTo_biUnion _ _ fun i _ j _ h => rows_disjoint s i j h

/-- A row of a slot, element by element. -/
theorem bufRow_emb (M : Memref sig .tc .vmem S2x256x2048 .f32) (s : Fin 2) (k : ℕ) (hk : k < 256) (x : S1x2048.Idx) :
    (bufRowM M s k hk).view.emb x = M.view.emb (ix3 s ⟨k, hk⟩ (x 1)) := by
  have e : Shape.reshapeEquiv (squeezes_S1x1x2048_S1x2048).numel_eq x = (ix3 0 0 (x 1) : S1x1x2048.Idx) := by
    apply Shape.reshapeEquiv_eq_of_rowMajor
    have h0 : (x 0).val = 0 := by have : (x 0).val < 1 := (x 0).isLt; omega
    have a : (Shape.rowMajor S1x2048 x).val = (x 0).val * 2048 + (x 1).val := Shape.rowMajor_val_two (d := ![1, 2048]) x
    have b := Shape.rowMajor_val_three (d := ![1, 1, 2048]) (ix3 0 0 (x 1) : S1x1x2048.Idx)
    have b' : (((ix3 0 0 (x 1) : S1x1x2048.Idx) 0).val * (![1, 1, 2048] : Fin 3 → ℕ) 1 + ((ix3 0 0 (x 1) : S1x1x2048.Idx) 1).val) * (![1, 1, 2048] : Fin 3 → ℕ) 2 + ((ix3 0 0 (x 1) : S1x1x2048.Idx) 2).val = (x 1).val := by
      simp only [ix3_0, ix3_1, ix3_2]; simp
    rw [h0, Nat.zero_mul, Nat.zero_add] at a
    first
      | exact (b.trans b').trans a.symm
      | exact a.trans (b.trans b').symm
  show M.view.emb ((Rect.unit (s := S2x256x2048) ![s.val, k, 0] S1x1x2048.size (inb_buf s k hk)).emb (Shape.reshapeEquiv (squeezes_S1x1x2048_S1x2048).numel_eq x)) = _
  rw [e]
  congr 1
  funext a
  apply Fin.ext
  fin_cases a
  · show s.val + 1 * 0 = s.val; omega
  · show k + 1 * 0 = k; omega
  · show 0 + 1 * (x 1).val = (x 1).val; omega

theorem hRow_emb (r : ℕ) (hr : r < 34816) (x : S1x2048.Idx) : (hRowM r hr).view.emb x = (ix2 ⟨r, hr⟩ (x 1) : S34816x2048.Idx) := by
  have h0 : (x 0).val = 0 := by have : (x 0).val < 1 := (x 0).isLt; omega
  show (Rect.unit (s := S34816x2048) ![r, 0] S1x2048.size (inb_h r hr)).emb x = _
  funext a
  apply Fin.ext
  fin_cases a
  · show r + 1 * (x 0).val = r; omega
  · show 0 + 1 * (x 1).val = (x 1).val; omega

theorem oRow_emb (r : ℕ) (hr : r < 139264) (x : S1x2048.Idx) : (oRowM r hr).view.emb x = (ix2 ⟨r, hr⟩ (x 1) : S139264x2048.Idx) := by
  have h0 : (x 0).val = 0 := by have : (x 0).val < 1 := (x 0).isLt; omega
  show (Rect.unit (s := S139264x2048) ![r, 0] S1x2048.size (inb_o r hr)).emb x = _
  funext a
  apply Fin.ext
  fin_cases a
  · show r + 1 * (x 0).val = r; omega
  · show 0 + 1 * (x 1).val = (x 1).val; omega

/-- A row landed in a slot is the gathered row. -/
theorem landed_x (c : Dev nD) (H : Vec F S34816x2048 .f32) (s : Fin 2) (sr : ℕ → ℕ) (k : ℕ) (hk : k < 256) (hr : sr k < 34816) (fx : Vec F S2x256x2048 .f32) :
    (xM.view.loc (c : Thread nD τ) ↦[bufRow s.val k]{fullShare} (bufRowM xM s k hk).view.write (Elt F) fx ((hRowM (sr k) hr).view.read (Elt F) H) Finset.univ : sProp 𝕄)
      = xAt c (bufRow s.val k) (gathered H sr) := by
  apply pointsTo_congr
  intro y hy
  rw [← xRow_set s k hk] at hy
  obtain ⟨x, rfl⟩ := View.exists_emb_of_mem_set _ hy
  erw [View.write_emb_of_mem _ _ (Finset.mem_univ x)]; rw [bufRow_emb]
  show H ((hRowM (sr k) hr).view.emb x) = H (ix2 ⟨sr k % 34816, _⟩ (x 1))
  rw [hRow_emb]
  congr 2
  exact Fin.ext (Nat.mod_eq_of_lt hr).symm

/-- A row landed in the result is the tile's row. -/
theorem landed_o (c : Dev nD) (s : Fin 2) (r : ℕ) (hr : r < 139264) (k : ℕ) (hk : k < 256) (f : Vec F S2x256x2048 .f32) (fo G : Vec F S139264x2048 .f32)
    (hG : ∀ l : Fin 2048, G (ix2 ⟨r, hr⟩ l) = f (ix3 s ⟨k, hk⟩ l)) :
    (oM.view.loc (c : Thread nD τ) ↦[oRow r]{fullShare} (oRowM r hr).view.write (Elt F) fo ((bufRowM zM s k hk).view.read (Elt F) f) Finset.univ : sProp 𝕄)
      = oAt c (oRow r) G := by
  apply pointsTo_congr
  intro y hy
  rw [← oRow_set r hr] at hy
  obtain ⟨x, rfl⟩ := View.exists_emb_of_mem_set _ hy
  erw [View.write_emb_of_mem _ _ (Finset.mem_univ x)]; rw [oRow_emb]
  refine Eq.trans ?_ (hG (x 1)).symm
  show f ((bufRowM zM s k hk).view.emb x) = _
  rw [bufRow_emb]; rfl

theorem rowAmt_pos : 0 < rowAmt := by decide +kernel

theorem tokSplit (c : Dev nD) (H : Vec F S34816x2048 .f32) (s : Fin 2) (sr : ℕ → ℕ) :
    (bigSep (Finset.range 256) fun i => hAt c Finset.univ (tok s i) H : sProp 𝕄)
      = iprop((bigSep (Finset.range 256) fun i => hAt c (hRow (sr i)) (tok s i) H) ∗ bigSep (Finset.range 256) fun i => hAt c (Finset.univ \ hRow (sr i)) (tok s i) H) := by
  have htok : ∀ i, (hAt c Finset.univ (tok s i) H : sProp 𝕄) = iprop(hAt c (hRow (sr i)) (tok s i) H ∗ hAt c (Finset.univ \ hRow (sr i)) (tok s i) H) :=
    fun i => BI.equiv_iff.mp ⟨(pointsTo_split_subset (Finset.subset_univ _)).1, (pointsTo_split_subset (Finset.subset_univ _)).2⟩
  rw [BI.bigSep_congr fun i _ => htok i, bigSep_sep']

/-! ## The gather -/

theorem gLoop (c : Dev nD) (L : Scf.Loop 32) (hok : L.OK) (hL : L.trips = 256) (body : Fin L.trips → Unit → Prog (TpuEff nD τ sig (Elt F) Λ₀ .tc) Unit)
    (idx : Memref sig .tc .smem S1x1x256 .i32) (hidx : idx.IsWhole) (o1 : Fin L.trips → Fin 3 → ℕ) (h1 : ∀ k, ∀ a, o1 k a + S1x1x1.size a ≤ S1x1x256.size a) (P dec) (o2 h2) (o3 : Fin L.trips → Fin 3 → ℕ) (h3 : ∀ k, ∀ a, o3 k a + S1x1x2048.size a ≤ S2x256x2048.size a) (o4 h4)
    (s : Fin 2) (hb : ∀ k u, body k u = gTrip idx (o1 k) (h1 k) P dec o2 h2 (o3 k) (h3 k) o4 h4)
    (e1 : ∀ k, o1 k = ![0, 0, k.val]) (e2 : o2 = ![s.val]) (e3 : ∀ k, o3 k = ![s.val, k.val, 0]) (e4 : ∀ v, o4 v = ![v.toNat, 0])
    (hP : ∀ v : BitVec 32, v.toNat < 34816 → P v) (q : PosShare TreeShare) (d : Vec F S1x1x256 .i32) (H : Vec F S34816x2048 .f32) (f : Vec F S2x256x2048 .f32)
    (sr : ℕ → ℕ) (hr : ∀ k < 256, sr k < 34816) (hw : ∀ k hk, (wordAt d k hk).toNat = sr k) (Q : Unit → sProp 𝕄) :
    iprop(owns (c : Thread nD τ) idx q d ∗ gIdle c H s f ∗ (iprop(owns (c : Thread nD τ) idx q d ∗ gFly c H s sr) -∗ Q ⟨⟩))
      ⊢ wp frame (wpE (defs₀ (F := F)) Variants.none c none) Set.univ (Scf.Loop.for L hok ⟨⟩ body) Q := by
  unfold gIdle
  iintro ⟨Hi, ⟨Hs, Hx, Ht⟩, Hk⟩
  imod (Transfers.batch_alloc' ECc (c : Thread nD τ) () rowAmt (DG c H s sr) (sm := .dma (gsem s)) (E := Set.univ)) $$ Hs with HB
  ihave Hx := (Entails.of_eq (xSlot_eq c s.val f)) $$ Hx
  ihave Ht := (Entails.of_eq (tokSplit c H s sr)) $$ Ht
  icases Ht with ⟨Hr, Hrest⟩
  iapply (Scf.wp_for (M := 𝕄) frame (wpE (defs₀ (F := F)) Variants.none c none) Set.univ L.lb L.ub L.st hok ⟨⟩ body
    (fun k _ => iprop(owns (c : Thread nD τ) idx q d ∗ Transfers.Batch ECc (c : Thread nD τ) (.dma (gsem s)) () rowAmt (DG c H s sr) k 0
      ∗ (bigSep (Finset.Ico k 256) fun i => xAt c (bufRow s.val i) f) ∗ bigSep (Finset.Ico k 256) fun i => hAt c (hRow (sr i)) (tok s i) H)) ?_)
  · intro k acc
    have hk : k.val < 256 := hL ▸ k.isLt
    rw [hb]
    rw [bigSep_Ico_succ_bot hk, bigSep_Ico_succ_bot hk]
    iintro ⟨Hi, HB, ⟨Hx, Hxs⟩, Hr, Hrs⟩
    iapply (gTrip_step c idx hidx (o1 k) (h1 k) P dec o2 h2 (o3 k) (h3 k) o4 h4 s k.val hk (e1 k) e2 (e3 k) e4 hP q (tok s k.val) d H f (sr k.val) (hr _ hk) (hw _ hk) (DG c H s sr)
      (by rw [landed_x c H s sr k.val hk (hr _ hk) f]; exact .rfl))
    isplitl [Hi]; · iexact Hi
    isplitl [Hr]; · iexact Hr
    isplitl [Hx]; · iexact Hx
    isplitl [HB]; · iexact HB
    iintro ⟨Hi, HB⟩
    isplitl [Hi]; · iexact Hi
    isplitl [HB]; · iexact HB
    isplitl [Hxs]; · iexact Hxs
    iexact Hrs
  isplitr [Hk Hrest]
  · isplitl [Hi]; · iexact Hi
    isplitl [HB]; · iexact HB
    rw [← Nat.Ico_zero_eq_range]
    isplitl [Hx]; · iexact Hx
    iexact Hr
  iintro %acc ⟨Hi, HB, -, -⟩
  iapply Hk
  isplitl [Hi]; · iexact Hi
  unfold gFly
  isplitl [HB]
  · rw [show Scf.trips L.lb L.ub L.st = 256 from hL]; iexact HB
  iexact Hrest

theorem gDrain (c : Dev nD) (L : Scf.Loop 32) (hok : L.OK) (hL : L.trips = 256) (body : Fin L.trips → Unit → Prog (TpuEff nD τ sig (Elt F) Λ₀ .tc) Unit)
    (o2 h2 o3 h3) (s : Fin 2) (hb : ∀ k u, body k u = gWait o2 h2 o3 h3) (e2 : o2 = ![s.val]) (H : Vec F S34816x2048 .f32) (sr : ℕ → ℕ) (W : Waits sig Unit) (Q : Unit → sProp 𝕄) :
    iprop(gFly c H s sr ∗ owes (c : Thread nD τ) 0 W ∗ (iprop(gIdle c H s (gathered H sr) ∗ ∃ W', owes (c : Thread nD τ) 0 W') -∗ Q ⟨⟩))
      ⊢ wp frame (wpE (defs₀ (F := F)) Variants.none c none) Set.univ (Scf.Loop.for L hok ⟨⟩ body) Q := by
  unfold gFly
  iintro ⟨⟨HB, Hrest⟩, HO, Hk⟩
  iapply wp_fupd
  iapply (Scf.wp_for (M := 𝕄) frame (wpE (defs₀ (F := F)) Variants.none c none) Set.univ L.lb L.ub L.st hok ⟨⟩ body
    (fun k _ => iprop(Transfers.Batch ECc (c : Thread nD τ) (.dma (gsem s)) () rowAmt (DG c H s sr) 256 (k * rowAmt) ∗ ∃ W', owes (c : Thread nD τ) 0 W')) ?_)
  · intro k acc
    have hk : k.val < 256 := hL ▸ k.isLt
    rw [hb]
    iintro ⟨HB, ⟨%W', HO⟩⟩
    iapply (gWait_step c o2 h2 o3 h3 s e2 k.val hk (DG c H s sr) W')
    isplitl [HB]; · iexact HB
    isplitl [HO]; · iexact HO
    iintro H; iexact H
  isplitl [HB HO]
  · rw [Nat.zero_mul]
    isplitl [HB]; · iexact HB
    iexists _; iexact HO
  iintro %acc ⟨HB, HO⟩
  rw [show Scf.trips L.lb L.ub L.st = 256 from hL, Nat.mul_comm 256]
  imod (Transfers.batch_collect' ECc (c : Thread nD τ) rowAmt_pos) $$ HB with ⟨HD, Hs⟩
  imodintro
  iapply Hk
  isplitr [HO]
  swap; · iexact HO
  unfold gIdle
  isplitl [Hs]; · iexact Hs
  unfold DG
  ihave HD := (Entails.of_eq ((bigSep_fin 256 (fun i => iprop(xAt c (bufRow s.val i) (gathered H sr) ∗ hAt c (hRow (sr i)) (tok s i) H))).trans (bigSep_sep' _ _ _))) $$ HD
  icases HD with ⟨Hx, Hr⟩
  isplitl [Hx]; · iapply (Entails.of_eq (xSlot_eq c s.val (gathered H sr)).symm) $$ Hx
  iapply (Entails.of_eq (tokSplit c H s sr).symm)
  isplitl [Hr]; · iexact Hr
  iexact Hrest

/-! ## The scatter -/

theorem zSplit (c : Dev nD) (s n : ℕ) (hn : n ≤ 256) (f : Vec F S2x256x2048 .f32) :
    zAt c (bufSlot s) f = iprop((bigSep (Finset.range n) fun i => zAt c (bufRow s i) f) ∗ bigSep (Finset.Ico n 256) fun i => zAt c (bufRow s i) f) := by
  rw [zSlot_eq, show Finset.range 256 = Finset.range n ∪ Finset.Ico n 256 by ext x; simp only [Finset.mem_range, Finset.mem_union, Finset.mem_Ico]; omega]
  rw [BI.bigSep_union (by rw [Finset.disjoint_left]; intro x; simp only [Finset.mem_range, Finset.mem_Ico]; omega)]; rfl

theorem sLoop (c : Dev nD) (L : Scf.Loop 32) (hok : L.OK) (n : ℕ) (hn : n ≤ 256) (hL : L.trips = n) (body : Fin L.trips → Unit → Prog (TpuEff nD τ sig (Elt F) Λ₀ .tc) Unit)
    (idx : Memref sig .tc .smem S1x1x256 .i32) (hidx : idx.IsWhole) (o1 : Fin L.trips → Fin 3 → ℕ) (h1 : ∀ k, ∀ a, o1 k a + S1x1x1.size a ≤ S1x1x256.size a) (P dec) (o2 h2) (o3 : Fin L.trips → Fin 3 → ℕ) (h3 : ∀ k, ∀ a, o3 k a + S1x1x2048.size a ≤ S2x256x2048.size a) (o4 h4)
    (s : Fin 2) (hb : ∀ k u, body k u = sTrip idx (o1 k) (h1 k) P dec o2 h2 (o3 k) (h3 k) o4 h4)
    (e1 : ∀ k, o1 k = ![0, 0, k.val]) (e2 : o2 = ![s.val]) (e3 : ∀ k, o3 k = ![s.val, k.val, 0]) (e4 : ∀ v, o4 v = ![v.toNat, 0])
    (hP : ∀ v : BitVec 32, v.toNat < 139264 → P v) (q : PosShare TreeShare) (d : Vec F S1x1x256 .i32) (f : Vec F S2x256x2048 .f32)
    (dr : ℕ → ℕ) (hr : ∀ k < n, dr k < 139264) (hw : ∀ k hk, k < n → (wordAt d k hk).toNat = dr k) (V G : Vec F S139264x2048 .f32)
    (hG : ∀ (k : ℕ) (hk : k < n) (l : Fin 2048), G (ix2 ⟨dr k, hr k hk⟩ l) = f (ix3 s ⟨k, lt_of_lt_of_le hk hn⟩ l)) (Q : Unit → sProp 𝕄) :
    iprop(owns (c : Thread nD τ) idx q d ∗ sIdle c s f ∗ outRows c n dr V ∗ (iprop(owns (c : Thread nD τ) idx q d ∗ sFly c s n dr G) -∗ Q ⟨⟩))
      ⊢ wp frame (wpE (defs₀ (F := F)) Variants.none c none) Set.univ (Scf.Loop.for L hok ⟨⟩ body) Q := by
  unfold sIdle outRows
  iintro ⟨Hi, ⟨Hs, Hz⟩, Ho, Hk⟩
  imod (Transfers.batch_alloc' ECc (c : Thread nD τ) () rowAmt (DS c s n dr G f) (sm := .dma (ssem s)) (E := Set.univ)) $$ Hs with HB
  ihave Hz := (Entails.of_eq (zSplit c s.val n hn f)) $$ Hz
  icases Hz with ⟨Hz, Hrest⟩
  iapply (Scf.wp_for (M := 𝕄) frame (wpE (defs₀ (F := F)) Variants.none c none) Set.univ L.lb L.ub L.st hok ⟨⟩ body
    (fun k _ => iprop(owns (c : Thread nD τ) idx q d ∗ Transfers.Batch ECc (c : Thread nD τ) (.dma (ssem s)) () rowAmt (DS c s n dr G f) k 0
      ∗ (bigSep (Finset.Ico k n) fun i => zAt c (bufRow s.val i) f) ∗ bigSep (Finset.Ico k n) fun i => oAt c (oRow (dr i)) V)) ?_)
  · intro k acc
    have hk : k.val < n := hL ▸ k.isLt
    have hk' : k.val < 256 := by omega
    rw [hb]
    rw [bigSep_Ico_succ_bot hk, bigSep_Ico_succ_bot hk]
    iintro ⟨Hi, HB, ⟨Hx, Hxs⟩, Hr, Hrs⟩
    iapply (sTrip_step c idx hidx (o1 k) (h1 k) P dec o2 h2 (o3 k) (h3 k) o4 h4 s k.val hk' (e1 k) e2 (e3 k) e4 hP q d f V (dr k.val) (hr _ hk) (hw _ hk' hk) n hk (DS c s n dr G f)
      (by rw [landed_o c s (dr k.val) (hr _ hk) k.val hk' f V G (hG _ hk)]; exact .rfl))
    isplitl [Hi]; · iexact Hi
    isplitl [Hx]; · iexact Hx
    isplitl [Hr]; · iexact Hr
    isplitl [HB]; · iexact HB
    iintro ⟨Hi, HB⟩
    isplitl [Hi]; · iexact Hi
    isplitl [HB]; · iexact HB
    isplitl [Hxs]; · iexact Hxs
    iexact Hrs
  isplitr [Hk Hrest]
  · isplitl [Hi]; · iexact Hi
    isplitl [HB]; · iexact HB
    rw [← Nat.Ico_zero_eq_range]
    isplitl [Hz]; · iexact Hz
    iexact Ho
  iintro %acc ⟨Hi, HB, -, -⟩
  iapply Hk
  isplitl [Hi]; · iexact Hi
  unfold sFly
  iexists f
  isplitl [HB]
  · rw [show Scf.trips L.lb L.ub L.st = n from hL]; iexact HB
  iexact Hrest

theorem sDrain (c : Dev nD) (L : Scf.Loop 32) (hok : L.OK) (n : ℕ) (hn : n ≤ 256) (hL : L.trips = n) (body : Fin L.trips → Unit → Prog (TpuEff nD τ sig (Elt F) Λ₀ .tc) Unit)
    (o2 h2 o3 h3) (s : Fin 2) (hb : ∀ k u, body k u = sWait o2 h2 o3 h3) (e2 : o2 = ![s.val]) (dr : ℕ → ℕ) (G : Vec F S139264x2048 .f32) (W : Waits sig Unit) (Q : Unit → sProp 𝕄) :
    iprop(sFly c s n dr G ∗ owes (c : Thread nD τ) 0 W ∗ (iprop((∃ f, sIdle c s f) ∗ outRows c n dr G ∗ ∃ W', owes (c : Thread nD τ) 0 W') -∗ Q ⟨⟩))
      ⊢ wp frame (wpE (defs₀ (F := F)) Variants.none c none) Set.univ (Scf.Loop.for L hok ⟨⟩ body) Q := by
  unfold sFly
  iintro ⟨⟨%f, HB, Hrest⟩, HO, Hk⟩
  iapply wp_fupd
  iapply (Scf.wp_for (M := 𝕄) frame (wpE (defs₀ (F := F)) Variants.none c none) Set.univ L.lb L.ub L.st hok ⟨⟩ body
    (fun k _ => iprop(Transfers.Batch ECc (c : Thread nD τ) (.dma (ssem s)) () rowAmt (DS c s n dr G f) n (k * rowAmt) ∗ ∃ W', owes (c : Thread nD τ) 0 W')) ?_)
  · intro k acc
    have hk : k.val < n := hL ▸ k.isLt
    rw [hb]
    iintro ⟨HB, ⟨%W', HO⟩⟩
    iapply (sWait_step c o2 h2 o3 h3 s e2 n k.val hk (DS c s n dr G f) W')
    isplitl [HB]; · iexact HB
    isplitl [HO]; · iexact HO
    iintro H; iexact H
  isplitl [HB HO]
  · rw [Nat.zero_mul]
    isplitl [HB]; · iexact HB
    iexists _; iexact HO
  iintro %acc ⟨HB, HO⟩
  rw [show Scf.trips L.lb L.ub L.st = n from hL, Nat.mul_comm n]
  imod (Transfers.batch_collect' ECc (c : Thread nD τ) rowAmt_pos) $$ HB with ⟨HD, Hs⟩
  imodintro
  iapply Hk
  unfold DS
  ihave HD := (Entails.of_eq ((bigSep_fin n (fun i => iprop(oAt c (oRow (dr i)) G ∗ zAt c (bufRow s.val i) f))).trans (bigSep_sep' _ _ _))) $$ HD
  icases HD with ⟨Ho, Hz⟩
  isplitl [Hs Hz Hrest]
  · iexists f
    unfold sIdle
    isplitl [Hs]; · iexact Hs
    iapply (Entails.of_eq (zSplit c s.val n hn f).symm)
    isplitl [Hz]; · iexact Hz
    iexact Hrest
  isplitl [Ho]
  · unfold outRows; iexact Ho
  iexact HO

end Cert.Kernel6Ideal.Hand
-- ==== Proof.FfnOff.lean ====
module

public import proofs.«01_k».proof.Proof.FfnTrip

/-!
  The expert network's conditions, loops and offsets at a grid point.
-/

@[expose] public section

noncomputable section

namespace Cert.Kernel6Ideal.Hand

open Cert.Kernel6Ideal Cert.Kernel6Ideal.Gen
open Idealize.ShloMosaic

theorem c1_iff : ∀ i : grid0.Coords, k0_cond1 i = 1#1 ↔ (i 0).val = 0 := by decide +kernel
theorem c2_iff : ∀ i : grid0.Coords, k0_cond2 i = 1#1 ↔ (i 0).val + 1 < 576 := by decide +kernel
theorem c3_iff : ∀ i : grid0.Coords, k0_cond3 i = 1#1 ↔ 2 ≤ (i 0).val := by decide +kernel
theorem c5_iff : ∀ i : grid0.Coords, k0_cond5 i = 1#1 ↔ (i 0).val = 575 := by decide +kernel

theorem o6_eq : ∀ i : grid0.Coords, k0_off6 i = ![((i 0).val + 1) % 2] := by decide +kernel
theorem o9_eq : ∀ i : grid0.Coords, k0_off9 i = ![(i 0).val % 2] := by decide +kernel
theorem o11_eq : ∀ i : grid0.Coords, 2 ≤ (i 0).val → k0_off11 i = ![(i 0).val - 2] := by decide +kernel
theorem o12_eq (i : grid0.Coords) : k0_off12 i = ![(i 0).val % 2] := o9_eq i
theorem o16_eq : ∀ i : grid0.Coords, k0_off16 i = ![(i 0).val % 2, 0, 0] := by decide +kernel
theorem o18_eq (i : grid0.Coords) : k0_off18 i = ![(i 0).val % 2] := o9_eq i
theorem o25_eq (i : grid0.Coords) : k0_off25 i = ![(i 0).val % 2] := o9_eq i
theorem o29_eq : ∀ i : grid0.Coords, (i 0).val = 575 → k0_off29 i = ![574] := by decide +kernel
theorem o30_eq (i : grid0.Coords) : k0_off30 i = ![((i 0).val + 1) % 2] := o6_eq i

theorem iv_toNat (k : ℕ) (hk : k ≤ 256) : (Scf.iv 0#32 1#32 k).toNat = k := by
  unfold Scf.iv
  rw [BitVec.mul_one, BitVec.zero_add, BitVec.toNat_ofNat]
  omega

theorem o7_eq (i : grid0.Coords) (k : Fin k0_t2_loop.trips) (hk : k.val < 256) : k0_off7 i k = ![((i 0).val + 1) % 2, k.val, 0] := by
  have h : k0_off7 i k = ![k0_off6 i 0, (Scf.iv 0#32 1#32 k.val).toNat, 0] := rfl
  rw [h, o6_eq, iv_toNat _ hk.le]; rfl
theorem o17_eq (v : BitVec 32) (k : Fin (k0_t6_loop v).trips) (hk : k.val < 256) : k0_off17 v k = ![0, 0, k.val] := by
  have h : k0_off17 v k = ![0, 0, (Scf.iv 0#32 1#32 k.val).toNat] := rfl
  rw [h, iv_toNat _ hk.le]
theorem o20_eq (i : grid0.Coords) (v : BitVec 32) (k : Fin (k0_t6_loop v).trips) (hk : k.val < 256) : k0_off20 i v k = ![(i 0).val % 2, k.val, 0] := by
  have h : k0_off20 i v k = ![k0_off9 i 0, (Scf.iv 0#32 1#32 k.val).toNat, 0] := rfl
  rw [h, o9_eq, iv_toNat _ hk.le]; rfl

theorem t1_trips : k0_t1_loop.trips = 256 := by decide +kernel
theorem t2_trips : k0_t2_loop.trips = 256 := t1_trips
theorem t3_trips : k0_t3_loop.trips = 256 := t1_trips
theorem t4_all : ∀ n : Fin 257, (k0_t4_loop (BitVec.ofNat 32 n.val)).trips = n.val := by decide +kernel
theorem t5_all : ∀ n : Fin 257, (k0_t5_loop (BitVec.ofNat 32 n.val)).trips = 0 := by decide +kernel
theorem t6_ok : ∀ n : Fin 257, (k0_t6_loop (BitVec.ofNat 32 n.val)).OK ∧ (k0_t7_loop (BitVec.ofNat 32 n.val)).OK := by decide +kernel

theorem of_le (v : BitVec 32) (h : v.toNat ≤ 256) : ∃ n : Fin 257, v = BitVec.ofNat 32 n.val :=
  ⟨⟨v.toNat, by omega⟩, by simp⟩
theorem t4_trips (v : BitVec 32) (h : v.toNat ≤ 256) : (k0_t4_loop v).trips = v.toNat := by
  obtain ⟨n, rfl⟩ := of_le v h
  rw [t4_all, BitVec.toNat_ofNat, Nat.mod_eq_of_lt (by omega)]
theorem t5_trips (v : BitVec 32) (h : v.toNat ≤ 256) : (k0_t5_loop v).trips = 0 := by
  obtain ⟨n, rfl⟩ := of_le v h
  exact t5_all n
theorem t6_trips (v : BitVec 32) (h : v.toNat ≤ 256) : (k0_t6_loop v).trips = v.toNat := t4_trips v h
theorem t7_trips (v : BitVec 32) (h : v.toNat ≤ 256) : (k0_t7_loop v).trips = 0 := t5_trips v h
theorem t8_trips (v : BitVec 32) (h : v.toNat ≤ 256) : (k0_t8_loop v).trips = v.toNat := t4_trips v h
theorem t9_trips (v : BitVec 32) (h : v.toNat ≤ 256) : (k0_t9_loop v).trips = 0 := t5_trips v h
theorem t10_trips (v : BitVec 32) (h : v.toNat ≤ 256) : (k0_t10_loop v).trips = v.toNat := t4_trips v h
theorem t11_trips (v : BitVec 32) (h : v.toNat ≤ 256) : (k0_t11_loop v).trips = 0 := t5_trips v h

/-- The side conditions of a tile's row count. -/
theorem chk4_of (i : grid0.Coords) (v : BitVec 32) (h : v.toNat ≤ 256) : k0_chk4 i v := by
  have ok := t6_ok ⟨v.toNat, by omega⟩
  have e : BitVec.ofNat 32 v.toNat = v := by simp
  simp only [e] at ok
  have z : ∀ k : Fin (k0_t7_loop v).trips, False := fun k => absurd (Nat.lt_of_lt_of_eq k.isLt (t7_trips v h)) (Nat.not_lt_zero _)
  refine ⟨ok.1, fun k a => ?_, fun k a => ?_, ok.2, fun k => (z k).elim, fun k => (z k).elim, fun _ => ok.1, fun _ => ok.2⟩
  · have hk : k.val < 256 := by have := Nat.lt_of_lt_of_eq k.isLt (t6_trips v h); omega
    rw [o17_eq v k hk]; exact inb_i k.val hk a
  · have hk : k.val < 256 := by have := Nat.lt_of_lt_of_eq k.isLt (t6_trips v h); omega
    rw [o20_eq i v k hk]
    exact inb_buf ⟨(i 0).val % 2, by omega⟩ k.val hk a

theorem chk1_of (i : grid0.Coords) (v : BitVec 32) (h : v.toNat < 34816) : k0_chk1 i v := fun _ => inb_h v.toNat h
theorem chk2_of (i : grid0.Coords) (v : BitVec 32) (h : v.toNat < 34816) : k0_chk2 i v := fun _ => inb_h v.toNat h
theorem chk5_of (v : BitVec 32) (h : v.toNat < 139264) : k0_chk5 v := inb_o v.toNat h

end Cert.Kernel6Ideal.Hand
-- ==== Proof.FfnSeg.lean ====
module

public import proofs.«01_k».proof.Proof.FfnLoop
public import proofs.«01_k».proof.Proof.FfnOff

/-!
  The expert network's body in its eight steps.
-/

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

abbrev tM : Memref sig .tc .smem S576 .i32 := Memref.whole main_arg1
abbrev nM : Memref sig .tc .smem S576 .i32 := Memref.whole main_arg2

/-- The slot a tile's rows go through. -/
def slot (t : ℕ) : Fin 2 := ⟨t % 2, Nat.mod_lt _ (by decide)⟩
theorem slot_val (t : ℕ) : (slot t).val = t % 2 := rfl
theorem slot_two (t : ℕ) : slot (t + 1 + 1) = slot t := Fin.ext (show (t + 1 + 1) % 2 = t % 2 by omega)

theorem inb_t (u : ℕ) (hu : u < 576) : ∀ a : Fin S576.rank, (![u] : Fin 1 → ℕ) a + S1.size a ≤ S576.size a := by
  intro a; fin_cases a; simp [S576, S1]; omega
/-- The word of a table at a tile. -/
abbrev tabAt (T : Vec F S576 .i32) (u : ℕ) (hu : u < 576) : BitVec 32 :=
  T ((Rect.unit (s := S576) ![u] S1.size (inb_t u hu)).emb (Shape.Idx.first (by show 0 < S1.numel; decide)))

/-- A slot of the input buffer, filled or filling; a slot of the output buffer, emptying or at rest. -/
def gSt (c : Dev nD) (H : Vec F S34816x2048 .f32) (s : Fin 2) (b : Prop) [Decidable b] (sr : ℕ → ℕ) : sProp 𝕄 :=
  if b then gFly c H s sr else iprop(∃ f, gIdle c H s f)
def sSt (c : Dev nD) (s : Fin 2) (b : Prop) [Decidable b] (n : ℕ) (dr : ℕ → ℕ) (G : Vec F S139264x2048 .f32) : sProp 𝕄 :=
  if b then sFly c s n dr G else iprop(∃ f, sIdle c s f)

section Steps
variable (i : grid0.Coords) (a3 : Memref sig .tc .smem S1x1x256 .i32) (ha3 : a3.IsWhole) (a4 : Memref sig .tc .smem S1x1x256 .i32) (ha4 : a4.IsWhole)
  (a5 : Memref sig .tc .smem S1x1x256 .i32) (ha5 : a5.IsWhole) (a7 : Memref sig .tc .vmem S1x2048x2048 .bf16) (ha7 : a7.IsWhole)
  (a8 : Memref sig .tc .vmem S1x1x2048 .f32) (ha8 : a8.IsWhole) (a9 : Memref sig .tc .vmem S1x1024x2048 .bf16) (ha9 : a9.IsWhole)
  (a10 : Memref sig .tc .vmem S1x1x2048 .f32) (ha10 : a10.IsWhole)

def seg1 : Prog (TpuEff nD τ sig (Elt F) Λ₀ .tc) Unit :=
  if h : k0_cond1 i = 1#1 then Scf.Loop.for k0_t1_loop (k0_t1_ok i h) ⟨⟩ (k0_t1_body i tM (Memref.isWhole_whole _) nM (Memref.isWhole_whole _) a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 h) else pure ⟨⟩
def seg2 : Prog (TpuEff nD τ sig (Elt F) Λ₀ .tc) Unit :=
  if h : k0_cond2 i = 1#1 then Scf.Loop.for k0_t2_loop (k0_t2_ok i h) ⟨⟩ (k0_t2_body i tM (Memref.isWhole_whole _) nM (Memref.isWhole_whole _) a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 h) else pure ⟨⟩
def seg3 : Prog (TpuEff nD τ sig (Elt F) Λ₀ .tc) Unit :=
  Scf.Loop.for k0_t3_loop k0_t3_ok ⟨⟩ (k0_t3_body i tM (Memref.isWhole_whole _) nM (Memref.isWhole_whole _) a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3)
def seg4 : Prog (TpuEff nD τ sig (Elt F) Λ₀ .tc) Unit :=
  if h : k0_cond3 i = 1#1 then do
    let v : Elt F .i32 ← smemLoad nM (Rect.unit (s := S576) (k0_off11 i) S1.size (k0_off11_inb i h)) numel1_S1 rfl
    have hw : k0_chk3 i v := (← Prog.lift (TpuEff.assume (k0_chk3 i v) (k0_chk3.dec i v))).down
    Scf.Loop.for (k0_t4_loop v) (k0_t4_ok i v hw h) ⟨⟩ (k0_t4_body i tM (Memref.isWhole_whole _) nM (Memref.isWhole_whole _) a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 h v hw)
    Scf.Loop.for (k0_t5_loop v) (k0_t5_ok i v hw h) ⟨⟩ (k0_t5_body i tM (Memref.isWhole_whole _) nM (Memref.isWhole_whole _) a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 h v hw)
  else pure ⟨⟩
def seg5 (v : Elt F .i32) : Prog (TpuEff nD τ sig (Elt F) Λ₀ .tc) Unit :=
  if Scalar.cmpi .ne (Scalar.extui (Scalar.cmpi .sgt v 0#32)) 0#32 = 1#1 then do
    let v68 : FVec F S256x2048 .f32 ← k0_part1_skel i tM (Memref.isWhole_whole _) nM (Memref.isWhole_whole _) a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 (Scalar.select (Scalar.andi (Scalar.xori (Scalar.cmpi .slt (Scalar.remsi (BitVec.ofNat 32 (i 0).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 0).val) (Scalar.select (Scalar.cmpi .eq 2#32 0#32) 1#32 2#32)) 0#32)) (Scalar.addi (Scalar.remsi (BitVec.ofNat 32 (i 0).val) (Scalar.select (Scalar.cmpi .eq 2#32 0#32) 1#32 2#32)) (Scalar.select (Scalar.cmpi .eq 2#32 0#32) 1#32 2#32)) (Scalar.remsi (BitVec.ofNat 32 (i 0).val) (Scalar.select (Scalar.cmpi .eq 2#32 0#32) 1#32 2#32)))
    Prog.lift (.store zM (Rect.unit (s := S2x256x2048) (k0_off16 i) S1x256x2048.size (k0_off16_inb i)) (k0_pay2 v68) Finset.univ (View.stores_vmem_bits_univ h_S1x256x2048 rfl) (.inl rfl))
  else pure ⟨⟩
def seg6 (v : Elt F .i32) (hw : k0_chk4 i v) : Prog (TpuEff nD τ sig (Elt F) Λ₀ .tc) Unit :=
  Scf.Loop.for (k0_t6_loop v) (k0_t6_ok i v hw) ⟨⟩ (k0_t6_body i tM (Memref.isWhole_whole _) nM (Memref.isWhole_whole _) a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 v hw)
def seg7 (v : Elt F .i32) (hw : k0_chk4 i v) : Prog (TpuEff nD τ sig (Elt F) Λ₀ .tc) Unit :=
  Scf.Loop.for (k0_t7_loop v) (k0_t7_ok i v hw) ⟨⟩ (k0_t7_body i tM (Memref.isWhole_whole _) nM (Memref.isWhole_whole _) a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 v hw)
def seg8 (v : Elt F .i32) (hw : k0_chk4 i v) : Prog (TpuEff nD τ sig (Elt F) Λ₀ .tc) Unit :=
  if h : k0_cond5 i = 1#1 then do
    Scf.Loop.for (k0_t8_loop v) (k0_t8_ok i v hw h) ⟨⟩ (k0_t8_body i tM (Memref.isWhole_whole _) nM (Memref.isWhole_whole _) a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 v hw h)
    Scf.Loop.for (k0_t9_loop v) (k0_t9_ok i v hw h) ⟨⟩ (k0_t9_body i tM (Memref.isWhole_whole _) nM (Memref.isWhole_whole _) a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 v hw h)
    let v42 : Elt F .i32 ← smemLoad nM (Rect.unit (s := S576) (k0_off29 i) S1.size (k0_off29_inb i h)) numel1_S1 rfl
    have hw7 : k0_chk7 i v42 := (← Prog.lift (TpuEff.assume (k0_chk7 i v42) (k0_chk7.dec i v42))).down
    Scf.Loop.for (k0_t10_loop v42) (k0_t10_ok i v42 hw7 h) ⟨⟩ (k0_t10_body i tM (Memref.isWhole_whole _) nM (Memref.isWhole_whole _) a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 h v42 hw7)
    Scf.Loop.for (k0_t11_loop v42) (k0_t11_ok i v42 hw7 h) ⟨⟩ (k0_t11_body i tM (Memref.isWhole_whole _) nM (Memref.isWhole_whole _) a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 h v42 hw7)
  else pure ⟨⟩

def segs : Prog (TpuEff nD τ sig (Elt F) Λ₀ .tc) Unit := do
  seg1 i a3 ha3 a4 ha4 a5 ha5 a7 ha7 a8 ha8 a9 ha9 a10 ha10
  seg2 i a3 ha3 a4 ha4 a5 ha5 a7 ha7 a8 ha8 a9 ha9 a10 ha10
  seg3 i a3 ha3 a4 ha4 a5 ha5 a7 ha7 a8 ha8 a9 ha9 a10 ha10
  seg4 i a3 ha3 a4 ha4 a5 ha5 a7 ha7 a8 ha8 a9 ha9 a10 ha10
  let v : Elt F .i32 ← smemLoad nM (Rect.unit (s := S576) (k0_off1 i) S1.size (k0_off1_inb i)) numel1_S1 rfl
  have hw : k0_chk4 i v := (← Prog.lift (TpuEff.assume (k0_chk4 i v) (k0_chk4.dec i v))).down
  seg5 i a3 ha3 a4 ha4 a5 ha5 a7 ha7 a8 ha8 a9 ha9 a10 ha10 v
  seg6 i a3 ha3 a4 ha4 a5 ha5 a7 ha7 a8 ha8 a9 ha9 a10 ha10 v hw
  seg7 i a3 ha3 a4 ha4 a5 ha5 a7 ha7 a8 ha8 a9 ha9 a10 ha10 v hw
  seg8 i a3 ha3 a4 ha4 a5 ha5 a7 ha7 a8 ha8 a9 ha9 a10 ha10 v hw

theorem bind_unit' (p : Prog (TpuEff nD τ sig (Elt F) Λ₀ .tc) PUnit) : (p >>= fun _ => pure PUnit.unit) = p := bind_pure p
theorem ite_bind' {α β : Type} (b : Prop) [Decidable b] (x y : Prog (TpuEff nD τ sig (Elt F) Λ₀ .tc) α) (k : α → Prog (TpuEff nD τ sig (Elt F) Λ₀ .tc) β) :
    (if b then x else y) >>= k = if b then x >>= k else y >>= k := by split <;> rfl

set_option maxHeartbeats 4000000 in
theorem body_eq : cc0_expert_ffn (F := F) i tM (Memref.isWhole_whole _) nM (Memref.isWhole_whole _) a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3 = segs i a3 ha3 a4 ha4 a5 ha5 a7 ha7 a8 ha8 a9 ha9 a10 ha10 := by
  rw [cc0_expert_ffn_eq_skeleton]
  unfold cc0_expert_ffn_skel segs
  rw [k0_part2_eq_skeleton]
  unfold k0_part2_skel
  rw [k0_part1_eq_skeleton]
  unfold seg1 seg2 seg3 seg4 seg5 seg6 seg7 seg8
  by_cases h1 : k0_cond1 i = 1#1 <;> by_cases h2 : k0_cond2 i = 1#1 <;> by_cases h3 : k0_cond3 i = 1#1 <;> by_cases h5 : k0_cond5 i = 1#1 <;>
    simp only [h1, h2, h3, h5, dif_pos, dif_neg, not_false_eq_true, bind_assoc, pure_bind, ite_bind', bind_unit'] <;>
    rfl

end Steps

end Cert.Kernel6Ideal.Hand
-- ==== Proof.FfnStep.lean ====
module

public import proofs.«01_k».proof.Proof.FfnSeg

/-!
  The expert network's body, step by step.
-/

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-- A loop of no trips. -/
theorem zeroLoop (c : Dev nD) (L : Scf.Loop 32) (hok : L.OK) (hL : L.trips = 0) (body : Fin L.trips → Unit → Prog (TpuEff nD τ sig (Elt F) Λ₀ .tc) Unit) (Q : Unit → sProp 𝕄) :
    Q ⟨⟩ ⊢ wp frame (wpE (defs₀ (F := F)) Variants.none c none) Set.univ (Scf.Loop.for L hok ⟨⟩ body) Q := by
  iintro Hk
  iapply (Scf.wp_for (M := 𝕄) frame (wpE (defs₀ (F := F)) Variants.none c none) Set.univ L.lb L.ub L.st hok ⟨⟩ body (fun _ _ => Q ⟨⟩) ?_)
  · intro k; have hk : k.val < 0 := hL ▸ k.isLt
    exact absurd hk (Nat.not_lt_zero _)
  isplitl [Hk]; · iexact Hk
  iintro %acc Hk
  iexact Hk

/-- A table's word at a tile, loaded. -/
theorem tabLoad {α : Type} (c : Dev nD) (o : Fin 1 → ℕ) (h : ∀ a, o a + S1.size a ≤ S576.size a) (u : ℕ) (hu : u < 576) (e : o = ![u]) (q : PosShare TreeShare) (T : Vec F S576 .i32)
    (k : Elt F .i32 → Prog (TpuEff nD τ sig (Elt F) Λ₀ .tc) α) (Q : α → sProp 𝕄) :
    iprop(owns (c : Thread nD τ) nM q T ∗ (owns (c : Thread nD τ) nM q T -∗ wp frame (wpE (defs₀ (F := F)) Variants.none c none) Set.univ (k (tabAt T u hu)) Q))
      ⊢ wp frame (wpE (defs₀ (F := F)) Variants.none c none) Set.univ (smemLoad nM (Rect.unit (s := S576) o S1.size h) numel1_S1 rfl >>= k) Q := by
  subst e
  have hw : (nM : Memref sig .tc .smem S576 .i32).IsWhole := Memref.isWhole_whole _
  unfold owns
  iintro ⟨⟨%fi, %hfi, Hi⟩, Hk⟩
  obtain rfl := hw.eq_unread hfi
  sl_exec
  have e : tabLoad.sl.r c u T h hw = tabAt T u hu := by
    sl_unfold_words
    rw [View.readAt_apply, Memref.IsWhole.read_unread]; rfl
  rw [e]
  iapply Hk
  iexists _; isplitr; · ipureintro; exact hw.read_unread _
  iexact Hi

theorem slotRect (i : grid0.Coords) : (Rect.unit (s := S2x256x2048) (k0_off16 i) S1x256x2048.size (k0_off16_inb i)).set = bufSlot ((i 0).val % 2) := by
  ext y
  rw [Rect.mem_set_unit]
  simp only [bufSlot, Finset.mem_filter, Finset.mem_univ, _root_.true_and]
  have h1 : (y 1).val < 256 := (y 1).isLt
  have h2 : (y 2).val < 2048 := (y 2).isLt
  rw [o16_eq]
  constructor
  · intro h; have a := h 0; simp [S1x256x2048] at a; omega
  · intro h0 a
    fin_cases a <;> simp [S1x256x2048] <;> omega

theorem sgt_iff (v : BitVec 32) (h : v.toNat ≤ 256) : Scalar.cmpi .ne (Scalar.extui (Scalar.cmpi .sgt v 0#32)) 0#32 = 1#1 ↔ 0 < v.toNat := by
  obtain ⟨n, rfl⟩ := of_le v h
  revert n; decide +kernel

section Steps
variable (i : grid0.Coords) (a3 : Memref sig .tc .smem S1x1x256 .i32) (ha3 : a3.IsWhole) (a4 : Memref sig .tc .smem S1x1x256 .i32) (ha4 : a4.IsWhole)
  (a5 : Memref sig .tc .smem S1x1x256 .i32) (ha5 : a5.IsWhole) (a7 : Memref sig .tc .vmem S1x2048x2048 .bf16) (ha7 : a7.IsWhole)
  (a8 : Memref sig .tc .vmem S1x1x2048 .f32) (ha8 : a8.IsWhole) (a9 : Memref sig .tc .vmem S1x1024x2048 .bf16) (ha9 : a9.IsWhole)
  (a10 : Memref sig .tc .vmem S1x1x2048 .f32) (ha10 : a10.IsWhole)

theorem seg1_wp (c : Dev nD) (q : PosShare TreeShare) (d : Vec F S1x1x256 .i32) (H : Vec F S34816x2048 .f32) (sr : ℕ → ℕ) (hr : ∀ k < 256, sr k < 34816)
    (hw : ∀ k hk, (wordAt d k hk).toNat = sr k) (Q : Unit → sProp 𝕄) :
    iprop(owns (c : Thread nD τ) a3 q d ∗ gSt c H (slot (i 0).val) (1 ≤ (i 0).val) sr ∗ (iprop(owns (c : Thread nD τ) a3 q d ∗ gFly c H (slot (i 0).val) sr) -∗ Q ⟨⟩))
      ⊢ wp frame (wpE (defs₀ (F := F)) Variants.none c none) Set.univ (seg1 i a3 ha3 a4 ha4 a5 ha5 a7 ha7 a8 ha8 a9 ha9 a10 ha10) Q := by
  unfold seg1 gSt
  by_cases h : k0_cond1 i = 1#1
  · have h0 := (c1_iff i).mp h
    rw [dif_pos h, if_neg (by omega)]
    iintro ⟨Hi, ⟨%f, Hg⟩, Hk⟩
    iapply (gLoop c k0_t1_loop (k0_t1_ok i h) t1_trips _ a3 ha3 k0_off2 (fun k => k0_off2_inb i k h) (k0_chk1 i) (k0_chk1.dec i) ![0] inb_S2_S1_0 k0_off3 (fun k => k0_off3_inb i k h)
      k0_off4 (fun v hw => k0_off4_inb i v hw h) (slot (i 0).val) (fun k u => t1_is i tM (Memref.isWhole_whole _) nM (Memref.isWhole_whole _) a3 ha3 a4 ha4 a5 ha5 a7 ha7 a8 ha8 a9 ha9 a10 ha10 h k)
      (fun k => k0_off2_eq k) (by rw [slot_val, h0]) (fun k => by rw [slot_val, h0, k0_off3_eq k]) (fun v => rfl) (fun v hv => chk1_of i v hv) q d H f sr hr hw Q)
    isplitl [Hi]; · iexact Hi
    isplitl [Hg]; · iexact Hg
    iexact Hk
  · have h0 : 1 ≤ (i 0).val := by have := mt (c1_iff i).mpr h; omega
    rw [dif_neg h, if_pos h0]
    iintro ⟨Hi, Hg, Hk⟩
    rw [wp_pure]
    imodintro
    iapply Hk
    isplitl [Hi]; · iexact Hi
    iexact Hg

theorem seg2_wp (c : Dev nD) (q : PosShare TreeShare) (d : Vec F S1x1x256 .i32) (H : Vec F S34816x2048 .f32) (sr : ℕ → ℕ) (hr : ∀ k < 256, sr k < 34816)
    (hw : (i 0).val + 1 < 576 → ∀ k hk, (wordAt d k hk).toNat = sr k) (Q : Unit → sProp 𝕄) :
    iprop(owns (c : Thread nD τ) a4 q d ∗ (∃ f, gIdle c H (slot ((i 0).val + 1)) f) ∗ (iprop(owns (c : Thread nD τ) a4 q d ∗ gSt c H (slot ((i 0).val + 1)) ((i 0).val + 1 < 576) sr) -∗ Q ⟨⟩))
      ⊢ wp frame (wpE (defs₀ (F := F)) Variants.none c none) Set.univ (seg2 i a3 ha3 a4 ha4 a5 ha5 a7 ha7 a8 ha8 a9 ha9 a10 ha10) Q := by
  unfold seg2 gSt
  by_cases h : k0_cond2 i = 1#1
  · have h0 := (c2_iff i).mp h
    rw [dif_pos h, if_pos h0]
    iintro ⟨Hi, ⟨%f, Hg⟩, Hk⟩
    iapply (gLoop c k0_t2_loop (k0_t2_ok i h) t2_trips _ a4 ha4 k0_off5 (fun k => k0_off5_inb i k h) (k0_chk2 i) (k0_chk2.dec i) (k0_off6 i) (k0_off6_inb i h) (k0_off7 i) (fun k => k0_off7_inb i k h)
      k0_off8 (fun v hw => k0_off8_inb i v hw h) (slot ((i 0).val + 1)) (fun k u => t2_is i tM (Memref.isWhole_whole _) nM (Memref.isWhole_whole _) a3 ha3 a4 ha4 a5 ha5 a7 ha7 a8 ha8 a9 ha9 a10 ha10 h k)
      (fun k => k0_off5_eq k) (by rw [slot_val, o6_eq]) (fun k => o7_eq i k (Nat.lt_of_lt_of_eq k.isLt t2_trips)) (fun v => rfl) (fun v hv => chk2_of i v hv) q d H f sr hr (hw h0) Q)
    isplitl [Hi]; · iexact Hi
    isplitl [Hg]; · iexact Hg
    iexact Hk
  · have h0 : ¬(i 0).val + 1 < 576 := mt (c2_iff i).mpr h
    rw [dif_neg h, if_neg h0]
    iintro ⟨Hi, Hg, Hk⟩
    rw [wp_pure]
    imodintro
    iapply Hk
    isplitl [Hi]; · iexact Hi
    iexact Hg

theorem seg3_wp (c : Dev nD) (H : Vec F S34816x2048 .f32) (sr : ℕ → ℕ) (W : Waits sig Unit) (Q : Unit → sProp 𝕄) :
    iprop(gFly c H (slot (i 0).val) sr ∗ owes (c : Thread nD τ) 0 W ∗ (iprop(gIdle c H (slot (i 0).val) (gathered H sr) ∗ ∃ W', owes (c : Thread nD τ) 0 W') -∗ Q ⟨⟩))
      ⊢ wp frame (wpE (defs₀ (F := F)) Variants.none c none) Set.univ (seg3 i a3 ha3 a4 ha4 a5 ha5 a7 ha7 a8 ha8 a9 ha9 a10 ha10) Q :=
  gDrain c k0_t3_loop k0_t3_ok t3_trips _ (k0_off9 i) (k0_off9_inb i) (k0_off10 i) (k0_off10_inb i) (slot (i 0).val) (fun k u => t3_is i tM (Memref.isWhole_whole _) nM (Memref.isWhole_whole _) a3 ha3 a4 ha4 a5 ha5 a7 ha7 a8 ha8 a9 ha9 a10 ha10 k) (o9_eq i) H sr W Q

theorem seg4_wp (c : Dev nD) (q : PosShare TreeShare) (T : Vec F S576 .i32) (n : ℕ) (hn : n ≤ 256) (dr : ℕ → ℕ) (G : Vec F S139264x2048 .f32)
    (hT : ∀ h : 2 ≤ (i 0).val, ∀ hu, (tabAt T ((i 0).val - 2) hu).toNat = n) (W : Waits sig Unit) (Q : Unit → sProp 𝕄) :
    iprop(owns (c : Thread nD τ) nM q T ∗ sSt c (slot (i 0).val) (2 ≤ (i 0).val) n dr G ∗ owes (c : Thread nD τ) 0 W
        ∗ (iprop(owns (c : Thread nD τ) nM q T ∗ (∃ f, sIdle c (slot (i 0).val) f) ∗ (if 2 ≤ (i 0).val then outRows c n dr G else emp) ∗ ∃ W', owes (c : Thread nD τ) 0 W') -∗ Q ⟨⟩))
      ⊢ wp frame (wpE (defs₀ (F := F)) Variants.none c none) Set.univ (seg4 i a3 ha3 a4 ha4 a5 ha5 a7 ha7 a8 ha8 a9 ha9 a10 ha10) Q := by
  unfold seg4 sSt
  by_cases h : k0_cond3 i = 1#1
  · have h0 := (c3_iff i).mp h
    have hi : (i 0).val < 576 := (i 0).isLt
    rw [dif_pos h, if_pos h0, if_pos h0]
    iintro ⟨Ht, Hs, Ho, Hk⟩
    iapply (tabLoad c (k0_off11 i) (k0_off11_inb i h) ((i 0).val - 2) (by omega) (o11_eq i h0) q T)
    isplitl [Ht]; · iexact Ht
    iintro Ht
    have hv := hT h0 (by omega)
    have hle : (tabAt T ((i 0).val - 2) (by omega)).toNat ≤ 256 := by omega
    generalize tabAt T ((i 0).val - 2) (by omega) = v at hv hle
    have hc : k0_chk3 i v := k0_chk3_all i v
    rw [wp_bind]
    iapply (wp_assume Variants.none (c : Thread nD τ) none Set.univ hc)
    rw [wp_ret]
    imodintro
    rw [wp_bind]
    iapply (sDrain c (k0_t4_loop v) (k0_t4_ok i v hc h) n hn (by rw [t4_trips v hle, hv]) _ (k0_off12 i) (k0_off12_inb i h) (k0_off13 i) (k0_off13_inb i h) (slot (i 0).val) (fun k u => t4_is i tM (Memref.isWhole_whole _) nM (Memref.isWhole_whole _) a3 ha3 a4 ha4 a5 ha5 a7 ha7 a8 ha8 a9 ha9 a10 ha10 h v hc k) (o12_eq i) dr G W)
    isplitl [Hs]; · iexact Hs
    isplitl [Ho]; · iexact Ho
    iintro ⟨Hs, Hr, Ho⟩
    iapply (zeroLoop c (k0_t5_loop v) _ (t5_trips v hle))
    iapply Hk
    isplitl [Ht]; · iexact Ht
    isplitl [Hs]; · iexact Hs
    isplitl [Hr]; · iexact Hr
    iexact Ho
  · have h0 : ¬2 ≤ (i 0).val := mt (c3_iff i).mpr h
    rw [dif_neg h, if_neg h0, if_neg h0]
    iintro ⟨Ht, Hs, Ho, Hk⟩
    rw [wp_pure]
    imodintro
    iapply Hk
    isplitl [Ht]; · iexact Ht
    isplitl [Hs]; · iexact Hs
    isplitr
    · iempintro
    iexists W; iexact Ho

/-- The rows of a tile as gathered, and its result. -/
def tileX (H : Vec F S34816x2048 .f32) (sr : ℕ → ℕ) : Vec F S1x256x2048 .f32 :=
  fun y => H (ix2 ⟨sr (y 1).val % 34816, Nat.mod_lt _ (by decide)⟩ (y 2))
def tileOut (H : Vec F S34816x2048 .f32) (sr : ℕ → ℕ) (x7 : Vec F S1x2048x2048 .bf16) (x8 : Vec F S1x1x2048 .f32) (x9 : Vec F S1x1024x2048 .bf16) (x10 : Vec F S1x1x2048 .f32) : FVec F S256x2048 .f32 :=
  k0_pay1 (tileX H sr) x7 x8 x9 x10

theorem slotEmb (y : S1x256x2048.Idx) : (Rect.unit (s := S2x256x2048) (k0_off16 i) S1x256x2048.size (k0_off16_inb i)).emb y = (ix3 (slot (i 0).val) (y 1) (y 2) : S2x256x2048.Idx) := by
  have h0 : (y 0).val = 0 := by have : (y 0).val < 1 := (y 0).isLt; omega
  funext a
  apply Fin.ext
  have e := o16_eq i
  fin_cases a
  · show k0_off16 i 0 + 1 * (y 0).val = (i 0).val % 2
    rw [e, h0]; rfl
  · show k0_off16 i 1 + 1 * (y 1).val = (y 1).val
    rw [e]; simp
  · show k0_off16 i 2 + 1 * (y 2).val = (y 2).val
    rw [e]; simp

/-- The rows a slot holds, as the body loads them. -/
theorem xRead (H : Vec F S34816x2048 .f32) (sr : ℕ → ℕ) : (xM.access (Rect.unit (s := S2x256x2048) (k0_off16 i) S1x256x2048.size (k0_off16_inb i))).read (Elt F) (gathered H sr) = tileX H sr := by
  funext y
  show gathered H sr ((Rect.unit (s := S2x256x2048) (k0_off16 i) S1x256x2048.size (k0_off16_inb i)).emb y) = _
  rw [slotEmb]
  rfl

/-- The tile's result, as the body stores it. -/
theorem zWrite (f : Vec F S2x256x2048 .f32) (w : FVec F S256x2048 .f32) (k : Fin 256) (l : Fin 2048) :
    (zM.access (Rect.unit (s := S2x256x2048) (k0_off16 i) S1x256x2048.size (k0_off16_inb i))).write (Elt F) f (k0_pay2 w) Finset.univ (ix3 (slot (i 0).val) k l) = w (ix2 k l) := by
  have e : (ix3 (slot (i 0).val) k l : S2x256x2048.Idx) = (zM.access (Rect.unit (s := S2x256x2048) (k0_off16 i) S1x256x2048.size (k0_off16_inb i))).emb (ix3 0 k l) :=
    (slotEmb i (ix3 0 k l)).symm
  rw [e]
  erw [View.write_emb_of_mem _ _ (Finset.mem_univ _)]
  show w (Shape.reshapeEquiv shapeCasts_S256x2048_S1x256x2048 (ix3 0 k l)) = _
  congr 1
  apply Shape.reshapeEquiv_eq_of_rowMajor
  have a := Shape.rowMajor_val_two (d := ![256, 2048]) (ix2 k l : S256x2048.Idx)
  have b := Shape.rowMajor_val_three (d := ![1, 256, 2048]) (ix3 0 k l : S1x256x2048.Idx)
  refine a.trans (Eq.trans ?_ b.symm)
  simp

set_option maxHeartbeats 2000000 in
theorem seg5_wp (c : Dev nD) (H : Vec F S34816x2048 .f32) (sr : ℕ → ℕ) (f : Vec F S2x256x2048 .f32) (v : Elt F .i32) (hv : BitVec.toNat v ≤ 256)
    (x7 : Vec F S1x2048x2048 .bf16) (x8 : Vec F S1x1x2048 .f32) (x9 : Vec F S1x1024x2048 .bf16) (x10 : Vec F S1x1x2048 .f32) (Q : Unit → sProp 𝕄) :
    iprop(xAt c (bufSlot (slot (i 0).val).val) (gathered H sr) ∗ zAt c (bufSlot (slot (i 0).val).val) f
        ∗ owns (c : Thread nD τ) a7 fullShare x7 ∗ owns (c : Thread nD τ) a8 fullShare x8 ∗ owns (c : Thread nD τ) a9 fullShare x9 ∗ owns (c : Thread nD τ) a10 fullShare x10
        ∗ (iprop(xAt c (bufSlot (slot (i 0).val).val) (gathered H sr)
          ∗ (∃ f', ⌜0 < BitVec.toNat v → ∀ (k : Fin 256) (l : Fin 2048), f' (ix3 (slot (i 0).val) k l) = tileOut H sr x7 x8 x9 x10 (ix2 k l)⌝ ∗ zAt c (bufSlot (slot (i 0).val).val) f')
          ∗ owns (c : Thread nD τ) a7 fullShare x7 ∗ owns (c : Thread nD τ) a8 fullShare x8 ∗ owns (c : Thread nD τ) a9 fullShare x9 ∗ owns (c : Thread nD τ) a10 fullShare x10) -∗ Q ⟨⟩))
      ⊢ wp frame (wpE (defs₀ (F := F)) Variants.none c none) Set.univ (seg5 i a3 ha3 a4 ha4 a5 ha5 a7 ha7 a8 ha8 a9 ha9 a10 ha10 v) Q := by
  unfold seg5
  by_cases h : Scalar.cmpi .ne (Scalar.extui (Scalar.cmpi .sgt v 0#32)) 0#32 = 1#1
  · rw [if_pos h]
    unfold k0_part1_skel owns
    iintro ⟨Hx, Hz, ⟨%f7, %h7, H7⟩, ⟨%f8, %h8, H8⟩, ⟨%f9, %h9, H9⟩, ⟨%f10, %h10, H10⟩, Hk⟩
    obtain rfl := ha7.eq_unread h7; obtain rfl := ha8.eq_unread h8; obtain rfl := ha9.eq_unread h9; obtain rfl := ha10.eq_unread h10
    rw [wp_bind]
    iapply (wp_load_rect Variants.none (c : Thread nD τ) none Set.univ (m := xM) (r := Rect.unit (s := S2x256x2048) (k0_off16 i) S1x256x2048.size (k0_off16_inb i)) (S := bufSlot (slot (i 0).val).val) (q := fullShare) (f := gathered H sr)
      (by rw [View.set_slice_whole]; exact (slotRect i).subset)) $$ [Hx]
    · iexact Hx
    iintro Hx
    beta_reduce
    rw [ret_bind']
    sl_exec
    iapply (wp_load_rect Variants.none (c : Thread nD τ) none Set.univ (m := zM) (r := Rect.unit (s := S2x256x2048) (k0_off16 i) S1x256x2048.size (k0_off16_inb i)) (S := bufSlot (slot (i 0).val).val) (q := fullShare) (f := f)
      (by rw [View.set_slice_whole]; exact (slotRect i).subset)) $$ [Hz]
    · iexact Hz
    iintro Hz
    beta_reduce
    sl_step
    iapply (wp_store Variants.none (c : Thread nD τ) none Set.univ (m := zM) (r := Rect.unit (s := S2x256x2048) (k0_off16 i) S1x256x2048.size (k0_off16_inb i)) (S := bufSlot (slot (i 0).val).val) (f := f)
      (by rw [View.setOn_univ, View.set_slice_whole]; exact (slotRect i).subset)) $$ [Hz]
    · iexact Hz
    iintro Hz
    sl_step
    iapply Hk
    isplitl [Hx]; · iexact Hx
    isplitl [Hz]
    · iexists _
      isplitr
      swap; · iexact Hz
      ipureintro
      intro _ k l
      simp only [View.readAt_eq_ld, ha7.read_unread, ha8.read_unread, ha9.read_unread, ha10.read_unread]
      rw [View.ld_unit_zero (by decide) _ x7, View.ld_unit_zero (by decide) _ x8, View.ld_unit_zero (by decide) _ x9, View.ld_unit_zero (by decide) _ x10,
        xRead i H sr]
      exact zWrite i f _ k l
    isplitl [H7]
    · iexists _; isplitr; · ipureintro; exact ha7.read_unread _
      iexact H7
    isplitl [H8]
    · iexists _; isplitr; · ipureintro; exact ha8.read_unread _
      iexact H8
    isplitl [H9]
    · iexists _; isplitr; · ipureintro; exact ha9.read_unread _
      iexact H9
    iexists _; isplitr; · ipureintro; exact ha10.read_unread _
    iexact H10
  · rw [if_neg h]
    iintro ⟨Hx, Hz, H7, H8, H9, H10, Hk⟩
    rw [wp_pure]
    imodintro
    iapply Hk
    isplitl [Hx]; · iexact Hx
    isplitl [Hz]
    · iexists f
      isplitr
      · ipureintro; intro hp; exact absurd ((sgt_iff v hv).mpr hp) h
      iexact Hz
    isplitl [H7]; · iexact H7
    isplitl [H8]; · iexact H8
    isplitl [H9]; · iexact H9
    iexact H10

theorem seg6_wp (c : Dev nD) (q : PosShare TreeShare) (d : Vec F S1x1x256 .i32) (f : Vec F S2x256x2048 .f32) (v : Elt F .i32) (hv : BitVec.toNat v ≤ 256) (hc : k0_chk4 i v)
    (dr : ℕ → ℕ) (hr : ∀ k < BitVec.toNat v, dr k < 139264) (hw : ∀ k hk, k < BitVec.toNat v → (wordAt d k hk).toNat = dr k) (V G : Vec F S139264x2048 .f32)
    (hG : ∀ (k : ℕ) (hk : k < BitVec.toNat v) (l : Fin 2048), G (ix2 ⟨dr k, hr k hk⟩ l) = f (ix3 (slot (i 0).val) ⟨k, lt_of_lt_of_le hk hv⟩ l)) (Q : Unit → sProp 𝕄) :
    iprop(owns (c : Thread nD τ) a5 q d ∗ sIdle c (slot (i 0).val) f ∗ outRows c (BitVec.toNat v) dr V
        ∗ (iprop(owns (c : Thread nD τ) a5 q d ∗ sFly c (slot (i 0).val) (BitVec.toNat v) dr G) -∗ Q ⟨⟩))
      ⊢ wp frame (wpE (defs₀ (F := F)) Variants.none c none) Set.univ (seg6 i a3 ha3 a4 ha4 a5 ha5 a7 ha7 a8 ha8 a9 ha9 a10 ha10 v hc) Q :=
  sLoop c (k0_t6_loop v) (k0_t6_ok i v hc) (BitVec.toNat v) hv (t6_trips v hv) _ a5 ha5 (k0_off17 v) (fun k => k0_off17_inb i v hc k) k0_chk5 k0_chk5.dec (k0_off18 i) (k0_off18_inb i) (k0_off20 i v) (fun k => k0_off20_inb i v hc k)
    k0_off19 (fun v hw => k0_off19_inb v hw) (slot (i 0).val) (fun k u => t6_is i tM (Memref.isWhole_whole _) nM (Memref.isWhole_whole _) a3 ha3 a4 ha4 a5 ha5 a7 ha7 a8 ha8 a9 ha9 a10 ha10 v hc k)
    (fun k => o17_eq v k (by have := Nat.lt_of_lt_of_eq k.isLt (t6_trips v hv); omega)) (o18_eq i) (fun k => o20_eq i v k (by have := Nat.lt_of_lt_of_eq k.isLt (t6_trips v hv); omega)) (fun v => rfl)
    (fun v hv => chk5_of v hv) q d f dr hr hw V G hG Q

theorem seg7_wp (c : Dev nD) (v : Elt F .i32) (hv : BitVec.toNat v ≤ 256) (hc : k0_chk4 i v) (Q : Unit → sProp 𝕄) :
    Q ⟨⟩ ⊢ wp frame (wpE (defs₀ (F := F)) Variants.none c none) Set.univ (seg7 i a3 ha3 a4 ha4 a5 ha5 a7 ha7 a8 ha8 a9 ha9 a10 ha10 v hc) Q := zeroLoop c _ _ (t7_trips v hv) _ Q

theorem seg8_wp (c : Dev nD) (q : PosShare TreeShare) (T : Vec F S576 .i32) (v : Elt F .i32) (hv : BitVec.toNat v ≤ 256) (hc : k0_chk4 i v) (n : ℕ) (hn : n ≤ 256) (dr dr' : ℕ → ℕ) (G : Vec F S139264x2048 .f32)
    (hT : (i 0).val = 575 → ∀ hu, (tabAt T 574 hu).toNat = n) (W : Waits sig Unit) (Q : Unit → sProp 𝕄) :
    iprop(owns (c : Thread nD τ) nM q T ∗ sFly c (slot (i 0).val) (BitVec.toNat v) dr G ∗ sSt c (slot ((i 0).val + 1)) (1 ≤ (i 0).val) n dr' G ∗ owes (c : Thread nD τ) 0 W
        ∗ (iprop(owns (c : Thread nD τ) nM q T
            ∗ (if (i 0).val = 575 then iprop((∃ f, sIdle c (slot (i 0).val) f) ∗ (∃ f, sIdle c (slot ((i 0).val + 1)) f) ∗ outRows c (BitVec.toNat v) dr G ∗ outRows c n dr' G)
                else iprop(sFly c (slot (i 0).val) (BitVec.toNat v) dr G ∗ sSt c (slot ((i 0).val + 1)) (1 ≤ (i 0).val) n dr' G))
            ∗ ∃ W', owes (c : Thread nD τ) 0 W') -∗ Q ⟨⟩))
      ⊢ wp frame (wpE (defs₀ (F := F)) Variants.none c none) Set.univ (seg8 i a3 ha3 a4 ha4 a5 ha5 a7 ha7 a8 ha8 a9 ha9 a10 ha10 v hc) Q := by
  unfold seg8
  by_cases h : k0_cond5 i = 1#1
  · have h0 := (c5_iff i).mp h
    rw [dif_pos h, if_pos h0]
    unfold sSt
    rw [if_pos (by omega)]
    iintro ⟨Ht, Hs, Hs', Ho, Hk⟩
    rw [wp_bind]
    iapply (sDrain c (k0_t8_loop v) (k0_t8_ok i v hc h) _ hv (t8_trips v hv) _ (k0_off25 i) (k0_off25_inb i h) (k0_off26 i) (k0_off26_inb i h) (slot (i 0).val) (fun k u => t8_is i tM (Memref.isWhole_whole _) nM (Memref.isWhole_whole _) a3 ha3 a4 ha4 a5 ha5 a7 ha7 a8 ha8 a9 ha9 a10 ha10 v hc h k) (o25_eq i) dr G W)
    isplitl [Hs]; · iexact Hs
    isplitl [Ho]; · iexact Ho
    iintro ⟨Hs, Hr, ⟨%W', Ho⟩⟩
    rw [wp_bind]
    iapply (zeroLoop c (k0_t9_loop v) _ (t9_trips v hv))
    iapply (tabLoad c (k0_off29 i) (k0_off29_inb i h) 574 (by omega) (o29_eq i h0) q T)
    isplitl [Ht]; · iexact Ht
    iintro Ht
    have hv2 := hT h0 (by omega)
    have hle : (tabAt T 574 (by omega)).toNat ≤ 256 := by omega
    generalize tabAt T 574 (by omega) = v2 at hv2 hle
    have hc2 : k0_chk7 i v2 := k0_chk7_all i v2
    rw [wp_bind]
    iapply (wp_assume Variants.none (c : Thread nD τ) none Set.univ hc2)
    rw [wp_ret]
    imodintro
    rw [wp_bind]
    iapply (sDrain c (k0_t10_loop v2) (k0_t10_ok i v2 hc2 h) n hn (by rw [t10_trips v2 hle, hv2]) _ (k0_off30 i) (k0_off30_inb i h) (k0_off31 i) (k0_off31_inb i h) (slot ((i 0).val + 1)) (fun k u => t10_is i tM (Memref.isWhole_whole _) nM (Memref.isWhole_whole _) a3 ha3 a4 ha4 a5 ha5 a7 ha7 a8 ha8 a9 ha9 a10 ha10 h v2 hc2 k) (o30_eq i) dr' G W')
    isplitl [Hs']; · iexact Hs'
    isplitl [Ho]; · iexact Ho
    iintro ⟨Hs', Hr', Ho⟩
    iapply (zeroLoop c (k0_t11_loop v2) _ (t11_trips v2 hle))
    iapply Hk
    isplitl [Ht]; · iexact Ht
    isplitr [Ho]
    · isplitl [Hs]; · iexact Hs
      isplitl [Hs']; · iexact Hs'
      isplitl [Hr]; · iexact Hr
      iexact Hr'
    iexact Ho
  · have h0 : ¬(i 0).val = 575 := mt (c5_iff i).mpr h
    rw [dif_neg h, if_neg h0]
    iintro ⟨Ht, Hs, Hs', Ho, Hk⟩
    rw [wp_pure]
    imodintro
    iapply Hk
    isplitl [Ht]; · iexact Ht
    isplitr [Ho]
    · isplitl [Hs]; · iexact Hs
      iexact Hs'
    iexists W; iexact Ho

end Steps

end Cert.Kernel6Ideal.Hand
-- ==== Proof.FfnBody.lean ====
module

public import proofs.«01_k».proof.Proof.FfnStep

/-!
  The expert network's body at a tile: the rows of the tile's tokens arrive, its result leaves for its rows of the output.
-/

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

theorem o1_eq : ∀ i : grid0.Coords, k0_off1 i = ![(i 0).val] := by decide +kernel

section Tile
variable (i : grid0.Coords) (a3 : Memref sig .tc .smem S1x1x256 .i32) (ha3 : a3.IsWhole) (a4 : Memref sig .tc .smem S1x1x256 .i32) (ha4 : a4.IsWhole)
  (a5 : Memref sig .tc .smem S1x1x256 .i32) (ha5 : a5.IsWhole) (a7 : Memref sig .tc .vmem S1x2048x2048 .bf16) (ha7 : a7.IsWhole)
  (a8 : Memref sig .tc .vmem S1x1x2048 .f32) (ha8 : a8.IsWhole) (a9 : Memref sig .tc .vmem S1x1024x2048 .bf16) (ha9 : a9.IsWhole)
  (a10 : Memref sig .tc .vmem S1x1x2048 .f32) (ha10 : a10.IsWhole)

/-- The states' side of the invariant, before tile `t`. -/
def gInv (c : Dev nD) (H : Vec F S34816x2048 .f32) (sr : ℕ → ℕ → ℕ) (t : ℕ) : sProp 𝕄 :=
  if t < 576 then iprop(gSt c H (slot t) (1 ≤ t) (sr t) ∗ ∃ f, gIdle c H (slot (t + 1)) f)
  else iprop((∃ f, gIdle c H (slot t) f) ∗ ∃ f, gIdle c H (slot (t + 1)) f)

/-- The result's side. -/
def sInv (c : Dev nD) (nr : ℕ → ℕ) (dr : ℕ → ℕ → ℕ) (G : Vec F S139264x2048 .f32) (t : ℕ) : sProp 𝕄 :=
  if t < 576 then iprop(sSt c (slot t) (2 ≤ t) (nr (t - 2)) (dr (t - 2)) G ∗ sSt c (slot (t + 1)) (1 ≤ t) (nr (t - 1)) (dr (t - 1)) G)
  else iprop((∃ f, sIdle c (slot t) f) ∗ ∃ f, sIdle c (slot (t + 1)) f)

/-- The rows tile `t`'s body sees through. -/
def freed (c : Dev nD) (nr : ℕ → ℕ) (dr : ℕ → ℕ → ℕ) (G : Vec F S139264x2048 .f32) (t : ℕ) : sProp 𝕄 :=
  iprop((if 2 ≤ t then outRows c (nr (t - 2)) (dr (t - 2)) G else emp)
    ∗ (if t = 575 then iprop(outRows c (nr t) (dr t) G ∗ outRows c (nr (t - 1)) (dr (t - 1)) G) else emp))

theorem gInv_lt (c : Dev nD) (H : Vec F S34816x2048 .f32) (sr : ℕ → ℕ → ℕ) (t : ℕ) (h : t < 576) :
    gInv c H sr t = iprop(gSt c H (slot t) (1 ≤ t) (sr t) ∗ ∃ f, gIdle c H (slot (t + 1)) f) := if_pos h
theorem gInv_succ (c : Dev nD) (H : Vec F S34816x2048 .f32) (sr : ℕ → ℕ → ℕ) (t : ℕ) :
    gInv c H sr (t + 1) = iprop(gSt c H (slot (t + 1)) (t + 1 < 576) (sr (t + 1)) ∗ ∃ f, gIdle c H (slot t) f) := by
  unfold gInv gSt
  by_cases h : t + 1 < 576
  · rw [if_pos h, if_pos h, if_pos (by omega), slot_two]
  · rw [if_neg h, if_neg h, slot_two]
theorem sInv_lt (c : Dev nD) (nr : ℕ → ℕ) (dr : ℕ → ℕ → ℕ) (G : Vec F S139264x2048 .f32) (t : ℕ) (h : t < 576) :
    sInv c nr dr G t = iprop(sSt c (slot t) (2 ≤ t) (nr (t - 2)) (dr (t - 2)) G ∗ sSt c (slot (t + 1)) (1 ≤ t) (nr (t - 1)) (dr (t - 1)) G) := if_pos h
theorem sInv_succ (c : Dev nD) (nr : ℕ → ℕ) (dr : ℕ → ℕ → ℕ) (G : Vec F S139264x2048 .f32) (t : ℕ) (h : t + 1 < 576) :
    sInv c nr dr G (t + 1) = iprop(sSt c (slot (t + 1)) (1 ≤ t) (nr (t - 1)) (dr (t - 1)) G ∗ sFly c (slot t) (nr t) (dr t) G) := by
  have e : t + 1 - 2 = t - 1 := by omega
  have e' : t + 1 - 1 = t := by omega
  unfold sInv sSt
  rw [if_pos h, if_pos (show 1 ≤ t + 1 by omega), slot_two, e, e']
  congr 1
  exact if_congr (by omega) rfl rfl
theorem sInv_end (c : Dev nD) (nr : ℕ → ℕ) (dr : ℕ → ℕ → ℕ) (G : Vec F S139264x2048 .f32) (t : ℕ) (h : ¬t + 1 < 576) :
    sInv c nr dr G (t + 1) = iprop((∃ f, sIdle c (slot (t + 1)) f) ∗ ∃ f, sIdle c (slot t) f) := by
  unfold sInv
  rw [if_neg h, slot_two]
theorem freed_mid (c : Dev nD) (nr : ℕ → ℕ) (dr : ℕ → ℕ → ℕ) (G : Vec F S139264x2048 .f32) (t : ℕ) (h : ¬t = 575) :
    freed c nr dr G t = iprop((if 2 ≤ t then outRows c (nr (t - 2)) (dr (t - 2)) G else emp) ∗ emp) := by
  unfold freed; rw [if_neg h]
theorem freed_end (c : Dev nD) (nr : ℕ → ℕ) (dr : ℕ → ℕ → ℕ) (G : Vec F S139264x2048 .f32) (t : ℕ) (h : t = 575) :
    freed c nr dr G t = iprop((if 2 ≤ t then outRows c (nr (t - 2)) (dr (t - 2)) G else emp) ∗ outRows c (nr t) (dr t) G ∗ outRows c (nr (t - 1)) (dr (t - 1)) G) := by
  unfold freed; rw [if_pos h]
theorem gIdle_open (c : Dev nD) (H : Vec F S34816x2048 .f32) (s : Fin 2) (f : Vec F S2x256x2048 .f32) :
    gIdle c H s f ⊢ iprop(semVal ((c : Thread nD τ), SemLoc.dma (gsem s)) 0 ∗ xAt c (bufSlot s.val) f ∗ bigSep (Finset.range 256) fun i => hAt c Finset.univ (tok s i) H) := .rfl
theorem gIdle_close (c : Dev nD) (H : Vec F S34816x2048 .f32) (s : Fin 2) (f : Vec F S2x256x2048 .f32) :
    iprop(semVal ((c : Thread nD τ), SemLoc.dma (gsem s)) 0 ∗ xAt c (bufSlot s.val) f ∗ bigSep (Finset.range 256) fun i => hAt c Finset.univ (tok s i) H) ⊢ gIdle c H s f := .rfl
theorem sIdle_open (c : Dev nD) (s : Fin 2) (f : Vec F S2x256x2048 .f32) :
    sIdle c s f ⊢ iprop(semVal ((c : Thread nD τ), SemLoc.dma (ssem s)) 0 ∗ zAt c (bufSlot s.val) f) := .rfl
theorem sIdle_close (c : Dev nD) (s : Fin 2) (f : Vec F S2x256x2048 .f32) :
    iprop(semVal ((c : Thread nD τ), SemLoc.dma (ssem s)) 0 ∗ zAt c (bufSlot s.val) f) ⊢ sIdle c s f := .rfl

set_option maxHeartbeats 4000000 in
theorem tile_wp (c : Dev nD) (q : PosShare TreeShare) (T : Vec F S576 .i32) (d3 d4 d5 : Vec F S1x1x256 .i32) (H : Vec F S34816x2048 .f32) (V G : Vec F S139264x2048 .f32)
    (nr : ℕ → ℕ) (sr dr : ℕ → ℕ → ℕ) (hn : ∀ u, nr u ≤ 256) (hT : ∀ u hu, (tabAt T u hu).toNat = nr u)
    (hs : ∀ u k, sr u k < 34816) (hd : ∀ u k, dr u k < 139264)
    (h3 : ∀ k hk, (wordAt d3 k hk).toNat = sr (i 0).val k) (h4 : (i 0).val + 1 < 576 → ∀ k hk, (wordAt d4 k hk).toNat = sr ((i 0).val + 1) k)
    (h5 : ∀ k hk, (wordAt d5 k hk).toNat = dr (i 0).val k)
    (x7 : Vec F S1x2048x2048 .bf16) (x8 : Vec F S1x1x2048 .f32) (x9 : Vec F S1x1024x2048 .bf16) (x10 : Vec F S1x1x2048 .f32)
    (hG : ∀ (k : ℕ) (hk : k < 256) (hl : k < nr (i 0).val) (l : Fin 2048), G (ix2 ⟨dr (i 0).val k, hd _ k⟩ l) = tileOut H (sr (i 0).val) x7 x8 x9 x10 (ix2 ⟨k, hk⟩ l))
    (W : Waits sig Unit) (Q : Unit → sProp 𝕄) :
    iprop(owns (c : Thread nD τ) a3 fullShare d3 ∗ owns (c : Thread nD τ) a4 fullShare d4 ∗ owns (c : Thread nD τ) a5 fullShare d5
        ∗ owns (c : Thread nD τ) a7 fullShare x7 ∗ owns (c : Thread nD τ) a8 fullShare x8 ∗ owns (c : Thread nD τ) a9 fullShare x9 ∗ owns (c : Thread nD τ) a10 fullShare x10
        ∗ owns (c : Thread nD τ) nM q T ∗ gInv c H sr (i 0).val ∗ sInv c nr dr G (i 0).val ∗ outRows c (nr (i 0).val) (dr (i 0).val) V ∗ owes (c : Thread nD τ) 0 W
        ∗ (iprop(owns (c : Thread nD τ) a3 fullShare d3 ∗ owns (c : Thread nD τ) a4 fullShare d4 ∗ owns (c : Thread nD τ) a5 fullShare d5
        ∗ owns (c : Thread nD τ) a7 fullShare x7 ∗ owns (c : Thread nD τ) a8 fullShare x8 ∗ owns (c : Thread nD τ) a9 fullShare x9 ∗ owns (c : Thread nD τ) a10 fullShare x10
        ∗ owns (c : Thread nD τ) nM q T ∗ gInv c H sr ((i 0).val + 1) ∗ sInv c nr dr G ((i 0).val + 1) ∗ freed c nr dr G (i 0).val ∗ (∃ W', owes (c : Thread nD τ) 0 W')) -∗ Q ⟨⟩))
      ⊢ wp frame (wpE (defs₀ (F := F)) Variants.none c none) Set.univ (cc0_expert_ffn (F := F) i tM (Memref.isWhole_whole _) nM (Memref.isWhole_whole _) a3 ha3 a4 ha4 a5 ha5 hM (Memref.isWhole_whole _) a7 ha7 a8 ha8 a9 ha9 a10 ha10 oM (Memref.isWhole_whole _) xM (Memref.isWhole_whole _) zM (Memref.isWhole_whole _) cc0_scratch2 cc0_scratch3) Q := by
  have hi : (i 0).val < 576 := (i 0).isLt
  rw [body_eq]
  unfold segs
  rw [gInv_lt c H sr _ hi, sInv_lt c nr dr G _ hi]
  iintro ⟨H3, H4, H5, H7, H8, H9, H10, Ht, ⟨Hg, Hg'⟩, ⟨Hs, Hs'⟩, Hr, Ho, Hk⟩
  rw [wp_bind]
  iapply (seg1_wp i a3 ha3 a4 ha4 a5 ha5 a7 ha7 a8 ha8 a9 ha9 a10 ha10 c fullShare d3 H (sr (i 0).val) (fun k _ => hs _ k) h3)
  isplitl [H3]; · iexact H3
  isplitl [Hg]; · iexact Hg
  iintro ⟨H3, Hg⟩
  rw [wp_bind]
  iapply (seg2_wp i a3 ha3 a4 ha4 a5 ha5 a7 ha7 a8 ha8 a9 ha9 a10 ha10 c fullShare d4 H (sr ((i 0).val + 1)) (fun k _ => hs _ k) h4)
  isplitl [H4]; · iexact H4
  isplitl [Hg']; · iexact Hg'
  iintro ⟨H4, Hg'⟩
  rw [wp_bind]
  iapply (seg3_wp i a3 ha3 a4 ha4 a5 ha5 a7 ha7 a8 ha8 a9 ha9 a10 ha10 c H (sr (i 0).val) W)
  isplitl [Hg]; · iexact Hg
  isplitl [Ho]; · iexact Ho
  iintro ⟨Hg, ⟨%W1, Ho⟩⟩
  rw [wp_bind]
  iapply (seg4_wp i a3 ha3 a4 ha4 a5 ha5 a7 ha7 a8 ha8 a9 ha9 a10 ha10 c q T (nr ((i 0).val - 2)) (hn _) (dr ((i 0).val - 2)) G (fun _ hu => hT _ hu) W1)
  isplitl [Ht]; · iexact Ht
  isplitl [Hs]; · iexact Hs
  isplitl [Ho]; · iexact Ho
  iintro ⟨Ht, ⟨%f, Hs⟩, Hd, ⟨%W2, Ho⟩⟩
  iapply (tabLoad c (k0_off1 i) (k0_off1_inb i) (i 0).val hi (o1_eq i) q T)
  isplitl [Ht]; · iexact Ht
  iintro Ht
  have hv := hT (i 0).val hi
  generalize tabAt T (i 0).val hi = v at hv
  have hle : v.toNat ≤ 256 := hv ▸ hn _
  have hc : k0_chk4 i v := chk4_of i v hle
  rw [wp_bind]
  iapply (wp_assume Variants.none (c : Thread nD τ) none Set.univ hc)
  rw [wp_ret]
  imodintro
  ihave Hg := (gIdle_open c H _ _) $$ Hg
  ihave Hs := (sIdle_open c _ _) $$ Hs
  icases Hg with ⟨Hgs, Hx, Hgt⟩
  icases Hs with ⟨Hss, Hz⟩
  rw [wp_bind]
  iapply (seg5_wp i a3 ha3 a4 ha4 a5 ha5 a7 ha7 a8 ha8 a9 ha9 a10 ha10 c H (sr (i 0).val) f v hle x7 x8 x9 x10)
  isplitl [Hx]; · iexact Hx
  isplitl [Hz]; · iexact Hz
  isplitl [H7]; · iexact H7
  isplitl [H8]; · iexact H8
  isplitl [H9]; · iexact H9
  isplitl [H10]; · iexact H10
  iintro ⟨Hx, ⟨%f', %hf, Hz⟩, H7, H8, H9, H10⟩
  rw [wp_bind]
  rw [← hv] at hG ⊢
  iapply (seg6_wp i a3 ha3 a4 ha4 a5 ha5 a7 ha7 a8 ha8 a9 ha9 a10 ha10 c fullShare d5 f' v hle hc (dr (i 0).val) (fun k _ => hd _ k) (fun k hk _ => h5 k hk) V G
    (fun k hk l => (hG k (lt_of_lt_of_le hk hle) hk l).trans (hf (by omega) ⟨k, lt_of_lt_of_le hk hle⟩ l).symm))
  isplitl [H5]; · iexact H5
  isplitl [Hss Hz]
  · iapply (sIdle_close c _ _)
    isplitl [Hss]; · iexact Hss
    iexact Hz
  isplitl [Hr]; · iexact Hr
  iintro ⟨H5, Hs⟩
  rw [wp_bind]
  iapply (seg7_wp i a3 ha3 a4 ha4 a5 ha5 a7 ha7 a8 ha8 a9 ha9 a10 ha10 c v hle hc)
  iapply (seg8_wp i a3 ha3 a4 ha4 a5 ha5 a7 ha7 a8 ha8 a9 ha9 a10 ha10 c q T v hle hc (nr ((i 0).val - 1)) (hn _) (dr (i 0).val) (dr ((i 0).val - 1)) G
    (fun e hu => by rw [e]; exact hT 574 hu) W2)
  isplitl [Ht]; · iexact Ht
  isplitl [Hs]; · iexact Hs
  isplitl [Hs']; · iexact Hs'
  isplitl [Ho]; · iexact Ho
  iintro ⟨Ht, Hf, Ho⟩
  iapply Hk
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [Ht]; · iexact Ht
  rw [gInv_succ]
  isplitl [Hg' Hgs Hx Hgt]
  · isplitl [Hg']; · iexact Hg'
    iexists _
    iapply (gIdle_close c H _ _)
    isplitl [Hgs]; · iexact Hgs
    isplitl [Hx]; · iexact Hx
    iexact Hgt
  by_cases hl : (i 0).val = 575
  · rw [sInv_end c nr dr G _ (by omega), freed_end c nr dr G _ hl]
    ihave Hf := (Entails.of_eq (if_pos hl)) $$ Hf
    icases Hf with ⟨Hs, Hs', Hr, Hr'⟩
    isplitl [Hs Hs']
    · isplitl [Hs']; · iexact Hs'
      iexact Hs
    isplitl [Hd Hr Hr']
    · isplitl [Hd]; · iexact Hd
      isplitl [Hr]; · rw [← hv]; iexact Hr
      iexact Hr'
    iexact Ho
  · rw [sInv_succ c nr dr G _ (by omega), freed_mid c nr dr G _ hl]
    ihave Hf := (Entails.of_eq (if_neg hl)) $$ Hf
    icases Hf with ⟨Hs, Hs'⟩
    isplitl [Hs Hs']
    · isplitl [Hs']; · iexact Hs'
      rw [← hv]; iexact Hs
    isplitl [Hd]
    · isplitl [Hd]; · iexact Hd
      iempintro
    iexact Ho

end Tile

end Cert.Kernel6Ideal.Hand
-- ==== Proof.FfnInv.lean ====
module

public import proofs.«01_k».proof.Proof.FfnBody

/-!
  The expert network's invariant between tiles, entered from whole buffers and left to them.
-/

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

theorem slots_union : bufSlot 0 ∪ bufSlot 1 = Finset.univ := by
  ext y
  have h : (y 0).val < 2 := (y 0).isLt
  simp only [bufSlot, Finset.mem_union, Finset.mem_filter, Finset.mem_univ, _root_.true_and, iff_true]
  omega
theorem slots_disjoint : Disjoint (bufSlot 0) (bufSlot 1) := by
  rw [Finset.disjoint_left]; intro y
  simp only [bufSlot, Finset.mem_filter, Finset.mem_univ, _root_.true_and]
  omega

theorem xHalves (c : Dev nD) (f : Vec F S2x256x2048 .f32) : xAt c Finset.univ f ⊢ iprop(xAt c (bufSlot 0) f ∗ xAt c (bufSlot 1) f) := by
  rw [← slots_union]; exact (pointsTo_union slots_disjoint).1
theorem zHalves (c : Dev nD) (f : Vec F S2x256x2048 .f32) : zAt c Finset.univ f ⊢ iprop(zAt c (bufSlot 0) f ∗ zAt c (bufSlot 1) f) := by
  rw [← slots_union]; exact (pointsTo_union slots_disjoint).1

/-- The two slots, whatever they hold, as the whole buffer. -/
theorem joined (f g : Vec F S2x256x2048 .f32) : ∃ h : Vec F S2x256x2048 .f32, (∀ y ∈ bufSlot 0, f y = h y) ∧ ∀ y ∈ bufSlot 1, g y = h y := by
  refine ⟨fun y => if (y 0).val = 0 then f y else g y, fun y hy => ?_, fun y hy => ?_⟩
  · simp only [bufSlot, Finset.mem_filter, Finset.mem_univ, _root_.true_and] at hy
    exact (if_pos hy).symm
  · simp only [bufSlot, Finset.mem_filter, Finset.mem_univ, _root_.true_and] at hy
    exact (if_neg (by omega)).symm
theorem xJoin (c : Dev nD) (f g : Vec F S2x256x2048 .f32) : iprop(xAt c (bufSlot 0) f ∗ xAt c (bufSlot 1) g) ⊢ iprop(∃ h, xAt c Finset.univ h) := by
  obtain ⟨h, h0, h1⟩ := joined f g
  rw [show (xAt c (bufSlot 0) f : sProp 𝕄) = xAt c (bufSlot 0) h from pointsTo_congr h0, show (xAt c (bufSlot 1) g : sProp 𝕄) = xAt c (bufSlot 1) h from pointsTo_congr h1]
  have e := (pointsTo_union (ℓ := xM.view.loc (c : Thread nD τ)) (q := fullShare) (f := h) (Ix := Unit) (Name := ℕ) (U := Pipeline.UD sig nD τ) (Lvl := ℕ) slots_disjoint).2
  rw [slots_union] at e
  iintro H
  iexists h
  iapply e
  iexact H
theorem zJoin (c : Dev nD) (f g : Vec F S2x256x2048 .f32) : iprop(zAt c (bufSlot 0) f ∗ zAt c (bufSlot 1) g) ⊢ iprop(∃ h, zAt c Finset.univ h) := by
  obtain ⟨h, h0, h1⟩ := joined f g
  rw [show (zAt c (bufSlot 0) f : sProp 𝕄) = zAt c (bufSlot 0) h from pointsTo_congr h0, show (zAt c (bufSlot 1) g : sProp 𝕄) = zAt c (bufSlot 1) h from pointsTo_congr h1]
  have e := (pointsTo_union (ℓ := zM.view.loc (c : Thread nD τ)) (q := fullShare) (f := h) (Ix := Unit) (Name := ℕ) (U := Pipeline.UD sig nD τ) (Lvl := ℕ) slots_disjoint).2
  rw [slots_union] at e
  iintro H
  iexists h
  iapply e
  iexact H

theorem swap3 (P Q R : sProp 𝕄) : iprop(P ∗ Q ∗ R) = iprop(Q ∗ P ∗ R) := by
  have h : ∀ P Q R : sProp 𝕄, iprop(P ∗ Q ∗ R) ⊢ iprop(Q ∗ P ∗ R) := fun P Q R => by
    iintro ⟨A, B, C⟩
    isplitl [B]; · iexact B
    isplitl [A]; · iexact A
    iexact C
  exact Idealize.SL.BI.Entails.antisymm (h _ _ _) (h _ _ _)

theorem range_add (Φ : ℕ → sProp 𝕄) (n k : ℕ) :
    bigSep (Finset.range (n + k)) Φ = iprop(bigSep (Finset.range n) Φ ∗ bigSep (Finset.range k) fun i => Φ (n + i)) := by
  induction k with
  | zero =>
    rw [Finset.range_zero, BI.bigSep_empty]
    exact Entails.antisymm sep_emp.2 sep_emp.1
  | succ k ih =>
    rw [show n + (k + 1) = (n + k) + 1 from rfl, BI.bigSep_range_succ, BI.bigSep_range_succ, ih]
    exact swap3 _ _ _

theorem hToks (c : Dev nD) (H : Vec F S34816x2048 .f32) (n : ℕ) :
    (hAt c Finset.univ fullShare H : sProp 𝕄) = iprop(hAt c Finset.univ (Transfers.shareDrop fullShare (n + n)) H
      ∗ (bigSep (Finset.range n) fun i => hAt c Finset.univ (Transfers.shareTokN fullShare i) H) ∗ bigSep (Finset.range n) fun i => hAt c Finset.univ (Transfers.shareTokN fullShare (n + i)) H) := by
  have e := Transfers.pointsTo_toks_range (ℓ := hM.view.loc (c : Thread nD τ)) (S := Finset.univ) (f := H) (Ix := Unit) (Name := ℕ) (U := Pipeline.UD sig nD τ) (Lvl := ℕ) fullShare (n + n)
  have e' := BI.equiv_iff.mp ⟨e.1, e.2⟩
  rw [range_add] at e'
  exact e'

/-- The states as the part never lent and the rows' read shares. -/
theorem hSplit (c : Dev nD) (H : Vec F S34816x2048 .f32) :
    (hAt c Finset.univ fullShare H : sProp 𝕄) = iprop(hAt c Finset.univ (Transfers.shareDrop fullShare (256 + 256)) H
      ∗ (bigSep (Finset.range 256) fun i => hAt c Finset.univ (tok 0 i) H) ∗ bigSep (Finset.range 256) fun i => hAt c Finset.univ (tok 1 i) H) := by
  have h0 : ∀ i, Transfers.shareTokN fullShare i = tok 0 i := fun i => by unfold tok; rw [show 256 * (0 : Fin 2).val + i = i by simp]
  have h1 : ∀ i, Transfers.shareTokN fullShare (256 + i) = tok 1 i := fun i => by unfold tok; rw [show 256 * (1 : Fin 2).val + i = 256 + i by simp]
  have a := funext fun i => congrArg (fun q => (hAt c Finset.univ q H : sProp 𝕄)) (h0 i)
  have b := funext fun i => congrArg (fun q => (hAt c Finset.univ q H : sProp 𝕄)) (h1 i)
  exact (hToks c H 256).trans (congrArg₂ (fun A B : ℕ → sProp 𝕄 => iprop(hAt c Finset.univ (Transfers.shareDrop fullShare (256 + 256)) H ∗ bigSep (Finset.range 256) A ∗ bigSep (Finset.range 256) B)) a b)

/-- The result's rows by tile. -/
theorem outSplit (c : Dev nD) (nr : ℕ → ℕ) (dr : ℕ → ℕ → ℕ)
    (hinj : ∀ u k u' k', u < 576 → u' < 576 → k < nr u → k' < nr u' → dr u k = dr u' k' → u = u' ∧ k = k')
    (hcov : ∀ r, r < 139264 → ∃ u k, u < 576 ∧ k < nr u ∧ dr u k = r) (V : Vec F S139264x2048 .f32) :
    (oAt c Finset.univ V : sProp 𝕄) = bigSep (Finset.range 576) fun u => outRows c (nr u) (dr u) V := by
  have hu : Finset.univ = (Finset.range 576).biUnion fun u => (Finset.range (nr u)).biUnion fun k => oRow (dr u k) := by
    ext y
    simp only [Finset.mem_univ, Finset.mem_biUnion, Finset.mem_range, oRow, Finset.mem_filter, _root_.true_and, true_iff]
    obtain ⟨u, k, hu, hk, e⟩ := hcov (y 0).val (y 0).isLt
    exact ⟨u, hu, k, hk, e.symm⟩
  unfold outRows
  have hd : ∀ a b, a ≠ b → Disjoint (oRow a) (oRow b) := fun a b h => by
    rw [Finset.disjoint_left]; intro y
    simp only [oRow, Finset.mem_filter, Finset.mem_univ, _root_.true_and]
    intro e e'; exact h (e.symm.trans e')
  show (oM.view.loc (c : Thread nD τ) ↦[Finset.univ]{fullShare} V : sProp 𝕄) = _
  rw [hu, pointsTo_biUnion]
  · refine BI.bigSep_congr fun u hu' => pointsTo_biUnion _ _ fun k hk k' hk' h => hd _ _ fun e => ?_
    exact h (hinj u k u k' (Finset.mem_range.mp hu') (Finset.mem_range.mp hu') (Finset.mem_range.mp hk) (Finset.mem_range.mp hk') e).2
  · intro u hu' u' hu'' h
    rw [Finset.disjoint_biUnion_left]; intro k hk
    rw [Finset.disjoint_biUnion_right]; intro k' hk'
    exact hd _ _ fun e => h (hinj u k u' k' (Finset.mem_range.mp hu') (Finset.mem_range.mp hu'') (Finset.mem_range.mp hk) (Finset.mem_range.mp hk') e).1

/-- The rows written before tile `t`. -/
def doneRows (c : Dev nD) (nr : ℕ → ℕ) (dr : ℕ → ℕ → ℕ) (G : Vec F S139264x2048 .f32) (t : ℕ) : sProp 𝕄 :=
  bigSep (Finset.range (if t < 576 then t - 2 else 576)) fun u => outRows c (nr u) (dr u) G

theorem done_step (c : Dev nD) (nr : ℕ → ℕ) (dr : ℕ → ℕ → ℕ) (G : Vec F S139264x2048 .f32) (t : ℕ) (ht : t < 576) :
    iprop(doneRows c nr dr G t ∗ freed c nr dr G t) ⊢ doneRows c nr dr G (t + 1) := by
  unfold doneRows freed
  rw [if_pos ht]
  by_cases hl : t = 575
  · subst hl
    rw [if_neg (show ¬575 + 1 < 576 by omega), if_pos (show 2 ≤ 575 by omega), if_pos rfl]
    rw [BI.bigSep_range_succ 575, BI.bigSep_range_succ 574, BI.bigSep_range_succ 573]
    iintro ⟨Hd, H1, H2, H3⟩
    isplitl [H2]; · iexact H2
    isplitl [H3]; · iexact H3
    isplitl [H1]; · iexact H1
    iexact Hd
  · rw [if_pos (show t + 1 < 576 by omega), if_neg hl]
    by_cases h2 : 2 ≤ t
    · rw [if_pos h2, show t + 1 - 2 = (t - 2) + 1 by omega, BI.bigSep_range_succ]
      iintro ⟨Hd, H1, -⟩
      isplitl [H1]; · iexact H1
      iexact Hd
    · rw [if_neg h2, show t + 1 - 2 = t - 2 by omega]
      iintro ⟨Hd, -, -⟩
      iexact Hd

/-- The rows to be written from tile `t` on. -/
def todoRows (c : Dev nD) (nr : ℕ → ℕ) (dr : ℕ → ℕ → ℕ) (V : Vec F S139264x2048 .f32) (t : ℕ) : sProp 𝕄 :=
  bigSep (Finset.Ico t 576) fun u => outRows c (nr u) (dr u) V

theorem todo_step (c : Dev nD) (nr : ℕ → ℕ) (dr : ℕ → ℕ → ℕ) (V : Vec F S139264x2048 .f32) (t : ℕ) (ht : t < 576) :
    todoRows c nr dr V t = iprop(outRows c (nr t) (dr t) V ∗ todoRows c nr dr V (t + 1)) := by
  unfold todoRows
  exact bigSep_Ico_succ_bot ht _

end Cert.Kernel6Ideal.Hand
-- ==== Proof.FfnData.lean ====
module

public import proofs.«01_k».proof.Proof.FfnInv
public import proofs.«01_k».proof.Proof.Gen.Kernel6Ideal.Launch
public import Idealize.ShloMosaic.Lib.Claim
public import Idealize.ShloMosaic.Lib.Pipeline.FrameValue

/-!
  The expert network's run: what the tables say, the body's obligation, the launch.
-/

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

/-! ## What the tables say -/

variable (m : (ℓ : Loc nD τ sig) → Buf (Elt F) ℓ) (ρ : Dev nD → PrngReg) (a : (pcfg0 (F := F)).Adm)

/-- The contents the run starts from. -/
abbrev V (c : Dev nD) (b : Ref sig .tc) : Buf (Elt F) ((c : Thread nD τ).loc b) := m ((c : Thread nD τ).loc b)

abbrev tNr (c : Dev nD) : Vec F S576 .i32 := V m c main_arg2
abbrev tSrc (c : Dev nD) : Vec F S576x1x256 .i32 := V m c main_arg3
abbrev tDst (c : Dev nD) : Vec F S576x1x256 .i32 := V m c main_arg4
abbrev hs0 (c : Dev nD) : Vec F S34816x2048 .f32 := V m c main_arg0

/-- Rows of tile `u`; the states its rows come from; the rows of the result they go to. -/
def nr (c : Dev nD) (u : ℕ) : ℕ := if h : u < 576 then (tabAt (tNr m c) u h).toNat else 0
def sr (c : Dev nD) (u k : ℕ) : ℕ := if h : u < 576 ∧ k < 256 then BitVec.toNat (tSrc m c (ix3 ⟨u, h.1⟩ 0 ⟨k, h.2⟩)) else 0
def dr (c : Dev nD) (u k : ℕ) : ℕ := if h : u < 576 ∧ k < 256 then BitVec.toNat (tDst m c (ix3 ⟨u, h.1⟩ 0 ⟨k, h.2⟩)) else 0

/-- The tables route every row of the result exactly once. -/
structure Routes (c : Dev nD) : Prop where
  hn : ∀ u, nr m c u ≤ 256
  hs : ∀ u k, sr m c u k < 34816
  hd : ∀ u k, dr m c u k < 139264
  inj : ∀ u k u' k', u < 576 → u' < 576 → k < nr m c u → k' < nr m c u' → dr m c u k = dr m c u' k' → u = u' ∧ k = k'
  cov : ∀ r, r < 139264 → ∃ u k, u < 576 ∧ k < nr m c u ∧ dr m c u k = r

/-- A window's block at a tile. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- A tile's result. -/
def outT (c : Dev nD) (t : Fin (cfg0 a).N) : FVec F S256x2048 .f32 :=
  tileOut (hs0 m c) (sr m c t.val) (iblk m a c 3 t) (iblk m a c 4 t) (iblk m a c 5 t) (iblk m a c 6 t)

/-- The result, each row from the tile that owns it. -/
def outG (c : Dev nD) : Vec F S139264x2048 .f32 := by
  classical
  exact fun y => if h : ∃ p : Fin (cfg0 a).N × Fin 256, p.2.val < nr m c p.1.val ∧ dr m c p.1.val p.2.val = (y 0).val then outT m a c h.choose.1 (ix2 h.choose.2 (y 1))
    else V m c main_v0 y

theorem N_eq : (cfg0 a).N = 576 := N_0

/-- The result at a routed row. -/
theorem outG_at (c : Dev nD) (R : Routes m c) (t : Fin (cfg0 a).N) (k : ℕ) (hk : k < 256) (hl : k < nr m c t.val) (l : Fin 2048) :
    outG m a c (ix2 ⟨dr m c t.val k, R.hd _ _⟩ l) = outT m a c t (ix2 ⟨k, hk⟩ l) := by
  have h : ∃ p : Fin (cfg0 a).N × Fin 256, p.2.val < nr m c p.1.val ∧ dr m c p.1.val p.2.val = ((ix2 ⟨dr m c t.val k, R.hd _ _⟩ l : S139264x2048.Idx) 0).val := ⟨(t, ⟨k, hk⟩), hl, rfl⟩
  refine Eq.trans (dif_pos h) ?_
  have hc := h.choose_spec
  have e := R.inj _ _ _ _ (Nat.lt_of_lt_of_eq h.choose.1.isLt (N_eq a)) (Nat.lt_of_lt_of_eq t.isLt (N_eq a)) hc.1 hl hc.2
  have e1 : h.choose.1 = t := Fin.ext e.1
  have e2 : h.choose.2 = ⟨k, hk⟩ := Fin.ext e.2
  rw [e1, e2]
  rfl

/-! ## The proof data -/

/-- Between tiles. -/
def inv (c : Dev nD) (t : ℕ) : sProp 𝕄 :=
  iprop(gInv c (hs0 m c) (sr m c) t ∗ sInv c (nr m c) (dr m c) (outG m a c) t ∗ doneRows c (nr m c) (dr m c) (outG m a c) t ∗ todoRows c (nr m c) (dr m c) (V m c main_v0) t
    ∗ hAt c Finset.univ (Transfers.shareDrop fullShare (256 + 256)) (hs0 m c) ∗ (∃ r, prngReg c r) ∗ owns (c : Thread nD τ) tM fullShare.right (V m c main_arg1) ∗ owns (c : Thread nD τ) nM fullShare.right (V m c main_arg2))

/-- The proof data. -/
def dat (c : Dev nD) : Dat τ (Elt F) Unit ℕ (Pipeline.UD sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => iblk m a c 5 t
    | ⟨6, _⟩ => iblk m a c 6 t
  Φ t := inv m a c t.val
  q w := Pipeline.shareOf spec0 w
  owed _ := 0

theorem A_eq (c : Dev nD) (w : Fin (cfg0 a).W) : (dat m a c).A w = V m c (Pipeline.arrRef spec0 w) := by dsimp only [dat]
theorem after_0 (c : Dev nD) (t : Fin (cfg0 a).N) : (dat m a c).after 0 t = iblk m a c 0 t := rfl
theorem after_1 (c : Dev nD) (t : Fin (cfg0 a).N) : (dat m a c).after 1 t = iblk m a c 1 t := rfl
theorem after_2 (c : Dev nD) (t : Fin (cfg0 a).N) : (dat m a c).after 2 t = iblk m a c 2 t := rfl
theorem after_3 (c : Dev nD) (t : Fin (cfg0 a).N) : (dat m a c).after 3 t = iblk m a c 3 t := rfl
theorem after_4 (c : Dev nD) (t : Fin (cfg0 a).N) : (dat m a c).after 4 t = iblk m a c 4 t := rfl
theorem after_5 (c : Dev nD) (t : Fin (cfg0 a).N) : (dat m a c).after 5 t = iblk m a c 5 t := rfl
theorem after_6 (c : Dev nD) (t : Fin (cfg0 a).N) : (dat m a c).after 6 t = iblk m a c 6 t := rfl

theorem before_0 (c : Dev nD) (t : Fin (cfg0 a).N) (d) : (dat m a c).before 0 t d = iblk m a c 0 t :=
  ((dat m a c).before_in_eq_fetched 0 rfl (fun _ => rfl) (fun _ _ _ => rfl) (fun t => by rw [after_0]; rfl) t d).trans rfl
theorem before_1 (c : Dev nD) (t : Fin (cfg0 a).N) (d) : (dat m a c).before 1 t d = iblk m a c 1 t :=
  ((dat m a c).before_in_eq_fetched 1 rfl (fun _ => rfl) (fun _ _ _ => rfl) (fun t => by rw [after_1]; rfl) t d).trans rfl
theorem before_2 (c : Dev nD) (t : Fin (cfg0 a).N) (d) : (dat m a c).before 2 t d = iblk m a c 2 t :=
  ((dat m a c).before_in_eq_fetched 2 rfl (fun _ => rfl) (fun _ _ _ => rfl) (fun t => by rw [after_2]; rfl) t d).trans rfl
theorem before_3 (c : Dev nD) (t : Fin (cfg0 a).N) (d) : (dat m a c).before 3 t d = iblk m a c 3 t :=
  ((dat m a c).before_in_eq_fetched 3 rfl (fun _ => rfl) (fun _ _ _ => rfl) (fun t => by rw [after_3]; rfl) t d).trans rfl
theorem before_4 (c : Dev nD) (t : Fin (cfg0 a).N) (d) : (dat m a c).before 4 t d = iblk m a c 4 t :=
  ((dat m a c).before_in_eq_fetched 4 rfl (fun _ => rfl) (fun _ _ _ => rfl) (fun t => by rw [after_4]; rfl) t d).trans rfl
theorem before_5 (c : Dev nD) (t : Fin (cfg0 a).N) (d) : (dat m a c).before 5 t d = iblk m a c 5 t :=
  ((dat m a c).before_in_eq_fetched 5 rfl (fun _ => rfl) (fun _ _ _ => rfl) (fun t => by rw [after_5]; rfl) t d).trans rfl
theorem before_6 (c : Dev nD) (t : Fin (cfg0 a).N) (d) : (dat m a c).before 6 t d = iblk m a c 6 t :=
  ((dat m a c).before_in_eq_fetched 6 rfl (fun _ => rfl) (fun _ _ _ => rfl) (fun t => by rw [after_6]; rfl) t d).trans rfl

/-! ## The words a tile reads -/

theorem coord0 : ∀ t : Fin grid0.N, (grid0.coords t 0).val = t.val := by decide +kernel
theorem ix_src : ∀ t : Fin grid0.N, cc0_transform_0 (grid0.coords t) = ![t.val, 0, 0] := by decide +kernel
theorem ix_next : ∀ t : Fin grid0.N, cc0_transform_1 (grid0.coords t) = ![min (t.val + 1) 575, 0, 0] := by decide +kernel
theorem ix_dst : ∀ t : Fin grid0.N, cc0_transform_2 (grid0.coords t) = ![t.val, 0, 0] := by decide +kernel

theorem word_src (c : Dev nD) (t : Fin (cfg0 a).N) (k : ℕ) (hk : k < 256) :
    (wordAt (iblk m a c 0 t) k hk).toNat = sr m c t.val k := by
  have ht : t.val < 576 := Nat.lt_of_lt_of_eq t.isLt (N_eq a)
  unfold sr
  rw [dif_pos ⟨ht, hk⟩]
  have e := ix_src t
  refine congrArg (fun y => BitVec.toNat (tSrc m c y)) ?_
  funext b
  apply Fin.ext
  fin_cases b
  · show cc0_transform_0 (grid0.coords t) 0 * 1 + 1 * (0 + 1 * 0) = t.val
    rw [e]; simp
  · show cc0_transform_0 (grid0.coords t) 1 * 1 + 1 * (0 + 1 * 0) = 0
    rw [e]; simp
  · show cc0_transform_0 (grid0.coords t) 2 * 256 + 1 * (k + 1 * 0) = k
    rw [e]; simp
theorem word_next (c : Dev nD) (t : Fin (cfg0 a).N) (h : t.val + 1 < 576) (k : ℕ) (hk : k < 256) :
    (wordAt (iblk m a c 1 t) k hk).toNat = sr m c (t.val + 1) k := by
  unfold sr
  rw [dif_pos ⟨h, hk⟩]
  have e := ix_next t
  refine congrArg (fun y => BitVec.toNat (tSrc m c y)) ?_
  funext b
  apply Fin.ext
  fin_cases b
  · show cc0_transform_1 (grid0.coords t) 0 * 1 + 1 * (0 + 1 * 0) = t.val + 1
    rw [e]; simp; omega
  · show cc0_transform_1 (grid0.coords t) 1 * 1 + 1 * (0 + 1 * 0) = 0
    rw [e]; simp
  · show cc0_transform_1 (grid0.coords t) 2 * 256 + 1 * (k + 1 * 0) = k
    rw [e]; simp
theorem word_dst (c : Dev nD) (t : Fin (cfg0 a).N) (k : ℕ) (hk : k < 256) :
    (wordAt (iblk m a c 2 t) k hk).toNat = dr m c t.val k := by
  have ht : t.val < 576 := Nat.lt_of_lt_of_eq t.isLt (N_eq a)
  unfold dr
  rw [dif_pos ⟨ht, hk⟩]
  have e := ix_dst t
  refine congrArg (fun y => BitVec.toNat (tDst m c y)) ?_
  funext b
  apply Fin.ext
  fin_cases b
  · show cc0_transform_2 (grid0.coords t) 0 * 1 + 1 * (0 + 1 * 0) = t.val
    rw [e]; simp
  · show cc0_transform_2 (grid0.coords t) 1 * 1 + 1 * (0 + 1 * 0) = 0
    rw [e]; simp
  · show cc0_transform_2 (grid0.coords t) 2 * 256 + 1 * (k + 1 * 0) = k
    rw [e]; simp

end Cert.Kernel6Ideal.Hand
-- ==== Proof.FfnLaunch.lean ====
module

public import proofs.«01_k».proof.Proof.FfnData

/-!
  The expert network's launch.
-/

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg) (a : (pcfg0 (F := F)).Adm)

theorem tab_nr (c : Dev nD) (u : ℕ) (hu : u < 576) : (tabAt (tNr m c) u hu).toNat = nr m c u := by
  unfold nr; rw [dif_pos hu]

abbrev st (w : Fin (cfg0 a).W) (t : Fin (cfg0 a).N) := ((cfg0 a).win w).stage ((cfg0 a).slots t w)

/-- The body at a tile. -/
def bodyAt (t : Fin (cfg0 a).N) : Prog (TpuEff nD τ sig (Elt F) Λ₀ .tc) PUnit :=
  cc0_expert_ffn (grid0.coords t) tM (Memref.isWhole_whole _) nM (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) hM (Memref.isWhole_whole _)
    (spec0_3.stage ((cfg0 a).slots t 3)) (hstage0_3 (((cfg0 a).slots t 3).cast nbuf0_3)) (spec0_4.stage ((cfg0 a).slots t 4)) (hstage0_4 (((cfg0 a).slots t 4).cast nbuf0_4))
    (spec0_5.stage ((cfg0 a).slots t 5)) (hstage0_5 (((cfg0 a).slots t 5).cast nbuf0_5)) (spec0_6.stage ((cfg0 a).slots t 6)) (hstage0_6 (((cfg0 a).slots t 6).cast nbuf0_6))
    oM (Memref.isWhole_whole _) xM (Memref.isWhole_whole _) zM (Memref.isWhole_whole _) cc0_scratch2 cc0_scratch3

theorem defs₀_row (t : Fin (cfg0 a).N) : defs₀ (F := F) .tc (cfg0 a).body ((cfg0 a).bodyArgs t ((cfg0 a).slots t)) = bodyAt a t := by
  unfold defs₀; rw [Defs.onTc_tc]; rfl

def bodyPre (c : Dev nD) (t : Fin (cfg0 a).N) : sProp 𝕄 :=
  iprop((dat m a c).Φ t.castSucc ∗ (dat m a c).owesAt () t.castSucc
    ∗ (∃ d, owns (c : Thread nD τ) (st a 0 t) fullShare ((dat m a c).before 0 t d))
    ∗ (∃ d, owns (c : Thread nD τ) (st a 1 t) fullShare ((dat m a c).before 1 t d))
    ∗ (∃ d, owns (c : Thread nD τ) (st a 2 t) fullShare ((dat m a c).before 2 t d))
    ∗ (∃ d, owns (c : Thread nD τ) (st a 3 t) fullShare ((dat m a c).before 3 t d))
    ∗ (∃ d, owns (c : Thread nD τ) (st a 4 t) fullShare ((dat m a c).before 4 t d))
    ∗ (∃ d, owns (c : Thread nD τ) (st a 5 t) fullShare ((dat m a c).before 5 t d))
    ∗ (∃ d, owns (c : Thread nD τ) (st a 6 t) fullShare ((dat m a c).before 6 t d)))

def bodyPost (c : Dev nD) (t : Fin (cfg0 a).N) : sProp 𝕄 :=
  iprop((dat m a c).Φ t.succ ∗ (dat m a c).owesAt () t.succ
    ∗ owns (c : Thread nD τ) (st a 0 t) fullShare ((dat m a c).after 0 t)
    ∗ owns (c : Thread nD τ) (st a 1 t) fullShare ((dat m a c).after 1 t)
    ∗ owns (c : Thread nD τ) (st a 2 t) fullShare ((dat m a c).after 2 t)
    ∗ owns (c : Thread nD τ) (st a 3 t) fullShare ((dat m a c).after 3 t)
    ∗ owns (c : Thread nD τ) (st a 4 t) fullShare ((dat m a c).after 4 t)
    ∗ owns (c : Thread nD τ) (st a 5 t) fullShare ((dat m a c).after 5 t)
    ∗ owns (c : Thread nD τ) (st a 6 t) fullShare ((dat m a c).after 6 t))

theorem inv_open (c : Dev nD) (t : Fin (cfg0 a).N) : (dat m a c).Φ t.castSucc = iprop(gInv c (hs0 m c) (sr m c) (grid0.coords t 0).val ∗ sInv c (nr m c) (dr m c) (outG m a c) (grid0.coords t 0).val ∗ doneRows c (nr m c) (dr m c) (outG m a c) (grid0.coords t 0).val
    ∗ (outRows c (nr m c (grid0.coords t 0).val) (dr m c (grid0.coords t 0).val) (V m c main_v0) ∗ todoRows c (nr m c) (dr m c) (V m c main_v0) ((grid0.coords t 0).val + 1))
    ∗ hAt c Finset.univ (Transfers.shareDrop fullShare (256 + 256)) (hs0 m c) ∗ (∃ r, prngReg c r) ∗ owns (c : Thread nD τ) tM fullShare.right (V m c main_arg1) ∗ owns (c : Thread nD τ) nM fullShare.right (V m c main_arg2)) := by
  have h := todo_step c (nr m c) (dr m c) (V m c main_v0) (grid0.coords t 0).val (by rw [coord0]; exact Nat.lt_of_lt_of_eq t.isLt (N_eq a))
  rw [← h, coord0]
  rfl

theorem inv_close (c : Dev nD) (t : Fin (cfg0 a).N) : (dat m a c).Φ t.succ = inv m a c ((grid0.coords t 0).val + 1) := by
  rw [coord0]; rfl

set_option maxHeartbeats 3200000 in
/-- The body at any tile. -/
theorem sound_body (c : Dev nD) (R : Routes m c) (t : Fin (cfg0 a).N) :
    bodyPre m a c t ⊢ wp frame (wpE (defs₀ (F := F)) Variants.none c none) Set.univ (bodyAt a t) (fun _ => bodyPost m a c t) := by
  have e := coord0 t
  have ht : (grid0.coords t 0).val < 576 := by rw [e]; exact Nat.lt_of_lt_of_eq t.isLt (N_eq a)
  unfold bodyPre bodyPost bodyAt
  simp only [before_0, before_1, before_2, before_3, before_4, before_5, before_6]
  rw [show (dat m a c).owesAt () t.succ = (dat m a c).owesAt () t.castSucc from rfl,
    after_0, after_1, after_2, after_3, after_4, after_5, after_6, inv_open, inv_close]
  unfold Dat.owesAt Pipeline.owesWithin
  rw [show (dat m a c).owed t.castSucc = 0 from rfl]
  iintro ⟨⟨Hg, Hs, Hd, ⟨Hr, Ht⟩, Hh, Hp, HT, HN⟩, ⟨%W, %hW, HO⟩, ⟨%d0, H0⟩, ⟨%d1, H1⟩, ⟨%d2, H2⟩, ⟨%d3, H3⟩, ⟨%d4, H4⟩, ⟨%d5, H5⟩, ⟨%d6, H6⟩⟩
  iapply (tile_wp (grid0.coords t) _ _ _ _ _ _ _ _ _ _ _ _ _ _ c fullShare.right (V m c main_arg2) (iblk m a c 0 t) (iblk m a c 1 t) (iblk m a c 2 t) (hs0 m c) (V m c main_v0) (outG m a c)
    (nr m c) (sr m c) (dr m c) R.hn (tab_nr m c) R.hs R.hd (by rw [e]; exact word_src m a c t) (by rw [e]; exact word_next m a c t) (by rw [e]; exact word_dst m a c t)
    (iblk m a c 3 t) (iblk m a c 4 t) (iblk m a c 5 t) (iblk m a c 6 t)
    (by rw [e]; exact outG_at m a c R t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HN]; · iexact HN
  isplitl [Hg]; · iexact Hg
  isplitl [Hs]; · iexact Hs
  isplitl [Hr]; · iexact Hr
  isplitl [HO]; · iexact HO
  iintro ⟨H0, H1, H2, H3, H4, H5, H6, HN, Hg, Hs, Hf, ⟨%W', HO⟩⟩
  isplitl [Hg Hs Hf Hd Ht Hh Hp HT HN]
  · unfold inv
    isplitl [Hg]; · iexact Hg
    isplitl [Hs]; · iexact Hs
    isplitl [Hf Hd]
    · iapply (done_step c (nr m c) (dr m c) (outG m a c) (grid0.coords t 0).val ht)
      isplitl [Hd]; · iexact Hd
      iexact Hf
    isplitl [Ht]; · iexact Ht
    isplitl [Hh]; · iexact Hh
    isplitl [Hp]; · iexact Hp
    isplitl [HT]; · iexact HT
    iexact HN
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) (R : Routes m c) : BodyObligation (dat (F := F) m a c) (defs₀ (F := F)) Variants.none () Set.univ := fun t => by
  rw [bigSep_W0, bigSep_W0, defs₀_row]
  exact triple_restated (sound_body m a c R t) rfl .rfl fun _ => .rfl

/-! ## The launch -/

abbrev osem0 : Fin 4 → SemLoc sig := ![.dma (gsem 0), .dma (gsem 1), .dma (ssem 0), .dma (ssem 1)]

theorem ownFacts : Pipeline.OwnSemFacts spec0 osem0 := by decide
theorem H_sub : ({main_arg0} : Finset (Ref sig .tc)) ⊆ Pipeline.restRefsP sig pre0 spec0 := by decide
theorem R_sub : ({main_v0} : Finset (Ref sig .tc)) ⊆ Pipeline.restRefsP sig pre0 spec0 \ {main_arg0} := by decide

/-- The contents a routed buffer ends with. -/
def endG (c : Dev nD) (b : Ref sig .tc) : Buf (Elt F) ((c : Thread nD τ).loc b) :=
  if h : b = main_v0 then h ▸ (outG m a c : Buf (Elt F) ((c : Thread nD τ).loc main_v0)) else V m c b
theorem endG_v0 (c : Dev nD) : endG m a c main_v0 = outG m a c := by unfold endG; rw [dif_pos rfl]

theorem drg (G : (c : Dev nD) → (b : Ref sig .tc) → Buf (Elt F) ((c : Thread nD τ).loc b)) (c : Dev nD) :
    (Pipeline.ΦDRG osem0 spec0 {main_arg0} {main_v0} (V m) G c : sProp 𝕄)
      = iprop((((∃ f, xAt c Finset.univ f) ∗ ∃ f, zAt c Finset.univ f)) ∗ (∃ r, prngReg c r)
        ∗ (semVal ((c : Thread nD τ), SemLoc.dma (gsem 0)) 0 ∗ semVal ((c : Thread nD τ), SemLoc.dma (gsem 1)) 0 ∗ semVal ((c : Thread nD τ), SemLoc.dma (ssem 0)) 0 ∗ semVal ((c : Thread nD τ), SemLoc.dma (ssem 1)) 0)
        ∗ hAt c Finset.univ fullShare (hs0 m c) ∗ oAt c Finset.univ (G c main_v0)) := by
  rw [Pipeline.ΦDRG_eq, scopedRest0_eq, Pipeline.ownSems0_eq_of_list c osem0 [0, 1, 2, 3] (by decide) (by decide), BI.bigSep_singleton, Pipeline.routed_singleton]
  rfl

theorem tables (c : Dev nD) (hpf : ∀ k, V m c (pre0.ref k) = a.1 k) :
    (Pipeline.ΦT pre0 a.1 c : sProp 𝕄) = iprop(owns (c : Thread nD τ) tM fullShare.right (V m c main_arg1) ∗ owns (c : Thread nD τ) nM fullShare.right (V m c main_arg2)) := by
  rw [show a.1 = fun k => V m c (pre0.ref k) from funext fun k => (hpf k).symm]
  rw [owns_whole, owns_whole]
  unfold Pipeline.ΦT Pipeline.prefHeld
  rw [bigSep_univ_eq_bigSepL [(0 : Fin 2), (1 : Fin 2)] (by decide) (by decide)]
  rfl

theorem hin (c : Dev nD) (R : Routes m c) (hpf : ∀ k, V m c (pre0.ref k) = a.1 k) :
    iprop(Pipeline.ΦDRG osem0 spec0 {main_arg0} {main_v0} (V m) (V m) c ∗ Pipeline.ΦT pre0 a.1 c) ⊢ (dat m a c).Φ 0 := by
  rw [drg, tables m a c hpf, hSplit, outSplit c (nr m c) (dr m c) R.inj R.cov]
  show _ ⊢ inv m a c 0
  unfold inv
  rw [gInv_lt _ _ _ _ (by omega), sInv_lt _ _ _ _ _ (by omega)]
  unfold gSt sSt doneRows todoRows
  rw [if_neg (by omega), if_neg (by omega), if_neg (by omega), if_pos (by omega)]
  rw [show Finset.range (0 - 2) = ∅ from rfl, BI.bigSep_empty, ← Finset.range_eq_Ico]
  iintro ⟨⟨⟨⟨%f, HX⟩, ⟨%g, HZ⟩⟩, Hp, ⟨Hg0, Hg1, Hs0, Hs1⟩, ⟨Hh, Ht0, Ht1⟩, Ho⟩, HT, HN⟩
  ihave HX := (xHalves c f) $$ HX
  ihave HZ := (zHalves c g) $$ HZ
  icases HX with ⟨HX0, HX1⟩
  icases HZ with ⟨HZ0, HZ1⟩
  isplitl [Hg0 HX0 Ht0 Hg1 HX1 Ht1]
  · isplitl [Hg0 HX0 Ht0]
    · iexists f
      iapply (gIdle_close c (hs0 m c) 0 f)
      isplitl [Hg0]; · iexact Hg0
      isplitl [HX0]; · iexact HX0
      iexact Ht0
    iexists f
    iapply (gIdle_close c (hs0 m c) 1 f)
    isplitl [Hg1]; · iexact Hg1
    isplitl [HX1]; · iexact HX1
    iexact Ht1
  isplitl [Hs0 HZ0 Hs1 HZ1]
  · isplitl [Hs0 HZ0]
    · iexists g
      iapply (sIdle_close c 0 g)
      isplitl [Hs0]; · iexact Hs0
      iexact HZ0
    iexists g
    iapply (sIdle_close c 1 g)
    isplitl [Hs1]; · iexact Hs1
    iexact HZ1
  isplitr; · iempintro
  isplitl [Ho]; · iexact Ho
  isplitl [Hh]; · iexact Hh
  isplitl [Hp]; · iexact Hp
  isplitl [HT]; · iexact HT
  iexact HN

theorem hout (c : Dev nD) (R : Routes m c) : (dat m a c).Φ (Fin.last (cfg0 a).N) ⊢ Pipeline.ΦDRG osem0 spec0 {main_arg0} {main_v0} (V m) (endG m a) c := by
  rw [drg, endG_v0, hSplit, outSplit c (nr m c) (dr m c) R.inj R.cov]
  rw [show (dat m a c).Φ (Fin.last (cfg0 a).N) = inv m a c (575 + 1) from congrArg (inv m a c) (N_eq a)]
  unfold inv
  rw [gInv_succ, sInv_end _ _ _ _ _ (by omega)]
  unfold gSt doneRows
  rw [if_neg (by omega), if_neg (by omega), show slot (575 + 1) = 0 from rfl, show slot 575 = 1 from rfl]
  iintro ⟨⟨⟨%f, G0⟩, ⟨%f', G1⟩⟩, ⟨⟨%g, S0⟩, ⟨%g', S1⟩⟩, Hd, -, Hh, Hp, -, -⟩
  ihave G0 := (gIdle_open c (hs0 m c) 0 f) $$ G0
  ihave G1 := (gIdle_open c (hs0 m c) 1 f') $$ G1
  ihave S0 := (sIdle_open c 0 g) $$ S0
  ihave S1 := (sIdle_open c 1 g') $$ S1
  icases G0 with ⟨Hg0, HX0, Ht0⟩
  icases G1 with ⟨Hg1, HX1, Ht1⟩
  icases S0 with ⟨Hs0, HZ0⟩
  icases S1 with ⟨Hs1, HZ1⟩
  isplitl [HX0 HX1 HZ0 HZ1]
  · isplitl [HX0 HX1]
    · iapply (xJoin c f f')
      isplitl [HX0]; · iexact HX0
      iexact HX1
    iapply (zJoin c g g')
    isplitl [HZ0]; · iexact HZ0
    iexact HZ1
  isplitl [Hp]; · iexact Hp
  isplitl [Hg0 Hg1 Hs0 Hs1]
  · isplitl [Hg0]; · iexact Hg0
    isplitl [Hg1]; · iexact Hg1
    isplitl [Hs0]; · iexact Hs0
    iexact Hs1
  isplitl [Hh Ht0 Ht1]
  · isplitl [Hh]; · iexact Hh
    isplitl [Ht0]; · iexact Ht0
    iexact Ht1
  iexact Hd

theorem hmainP : Pipeline.HMainP (Ix := Unit) (Name := ℕ) (U := Pipeline.UD sig nD τ) (Lvl := ℕ) pcfgs 0 defs₀ Variants.none m (main (F := F)) (V m) :=
  Pipeline.hmainP_region pcfgs 0 defs₀ Variants.none m main fun c => (main_chain c).trans rfl

set_option backward.isDefEq.respectTransparency.types false in
theorem run_main (R : ∀ c, Routes m c) (hpf : ∀ c k, V m c (pre0.ref k) = a.1 k) :
    θ_run defs (onTc (τ := τ) (main (F := F))) (s₀ m ρ)
      (fun r => Pipeline.FramePostRG (Pipeline.pin pcfgs (fun _ => a)) (fun _ c => dat m a c) 0 {main_v0} (V m) (endG m a) r ∧ r.2.sem = fun _ => 0) :=
  Pipeline.θ_run_frameP_dmaRG_shared (Q' := _) pcfgs (fun _ => a) (fun _ c => dat m a c) 0 launch₀0 osem0 defs₀ Variants.none ownFacts {main_arg0} {main_v0} H_sub R_sub m ρ main
    (hbody := fun c => (body_obligation m a c (R c)).loose) (hq := fun _ _ _ => rfl) (howed := fun _ _ => rfl) (V := V m) (hmain := hmainP m) (hA := A_eq m a) (hpf := hpf)
    (G := endG m a) (hin := fun c => hin m a c (R c) (hpf c)) (hout := fun c => hout m a c (R c))

theorem rest_0 : main_arg0 ∈ Pipeline.restRefs sig spec0 \ {main_v0} := by decide
theorem rest_1 : main_arg1 ∈ Pipeline.restRefs sig spec0 \ {main_v0} := by decide
theorem rest_2 : main_arg2 ∈ Pipeline.restRefs sig spec0 \ {main_v0} := by decide

/-- The arguments end unchanged, the result is the tiles' rows, and every semaphore is at zero. -/
theorem run (R : ∀ c, Routes m c) (hpf : ∀ c k, V m c (pre0.ref k) = a.1 k) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_v0) = outG m a c) ∧ r.2.sem = fun _ => 0) :=
  (θ_run defs _ _).mono (fun r h => ⟨fun c =>
    ⟨(h.1.1 c).2 main_arg0 rest_0, (h.1.1 c).2 main_arg1 rest_1, (h.1.1 c).2 main_arg2 rest_2,
      ((h.1.1 c).1 0).trans (((dat m a c).arrAt_in 0 rfl _).trans (A_eq m a c 0)),
      ((h.1.1 c).1 2).trans (((dat m a c).arrAt_in 2 rfl _).trans (A_eq m a c 2)),
      ((h.1.1 c).1 3).trans (((dat m a c).arrAt_in 3 rfl _).trans (A_eq m a c 3)),
      ((h.1.1 c).1 4).trans (((dat m a c).arrAt_in 4 rfl _).trans (A_eq m a c 4)),
      ((h.1.1 c).1 5).trans (((dat m a c).arrAt_in 5 rfl _).trans (A_eq m a c 5)),
      ((h.1.1 c).1 6).trans (((dat m a c).arrAt_in 6 rfl _).trans (A_eq m a c 6)),
      (h.1.2 c main_v0 (by decide)).trans (endG_v0 m a c)⟩, h.2⟩)
    (run_main m ρ a R hpf)

end Cert.Kernel6Ideal.Hand
-- ==== Proof.FfnTables.lean ====
module

public import proofs.«01_k».proof.Pre_tables_route
public import Idealize.ShloMosaic.Lib.Routing.OpsSet
public import Idealize.ShloMosaic.Lib.Pointwise

/-!
  What the routing precondition says of the tables.
-/

@[expose] public section

set_option maxRecDepth 16384

noncomputable section

namespace Cert.Proof.Tables

open Idealize.ShloMosaic Cert.Pre_tables_route Cert.Pre_tables_route.Facts

theorem both_one (a b : BitVec 1) (h : IntOp.andi a b = 1#1) : a = 1#1 ∧ b = 1#1 := by
  revert a b; decide
theorem of_or_not (a b : BitVec 1) (h : IntOp.ori (~~~a) b = 1#1) (ha : a = 1#1) : b = 1#1 := by
  revert a b; decide
theorem of_bool (b : Bool) (h : BitVec.ofBool b = 1#1) : b = true := by cases b <;> simp_all

theorem lt_of_range (x n : BitVec 32) (hn : n.toNat < 2 ^ 31) (h : IntOp.andi (IntOp.cmpi .sge x 0#32) (IntOp.cmpi .slt x n) = 1#1) : x.toNat < n.toNat := by
  obtain ⟨h0, h1⟩ := both_one _ _ h
  have h0 : (0#32).sle x = true := of_bool _ h0
  have h1 : x.slt n = true := of_bool _ h1
  simp only [BitVec.sle, BitVec.slt, decide_eq_true_eq, BitVec.toInt_eq_toNat_cond] at h0 h1
  have hx := x.isLt
  simp at h0
  split at h0 <;> split at h1 <;> omega
theorem le_of_range (x n : BitVec 32) (hn : n.toNat < 2 ^ 31) (h : IntOp.andi (IntOp.cmpi .sge x 0#32) (IntOp.cmpi .sle x n) = 1#1) : x.toNat ≤ n.toNat := by
  obtain ⟨h0, h1⟩ := both_one _ _ h
  have h0 : (0#32).sle x = true := of_bool _ h0
  have h1 : x.sle n = true := of_bool _ h1
  simp only [BitVec.sle, BitVec.slt, decide_eq_true_eq, BitVec.toInt_eq_toNat_cond] at h0 h1
  have hx := x.isLt
  simp at h0
  split at h0 <;> split at h1 <;> omega

/-- What a live slot is. -/
theorem live_iff (k : ℕ) (x : BitVec 32) (hk : k < 256) (hx : x.toNat ≤ 256) : IntOp.cmpi .slt (BitVec.ofNat 32 k) x = 1#1 ↔ k < x.toNat := by
  have e : (BitVec.ofNat 32 k).toNat = k := by rw [BitVec.toNat_ofNat]; omega
  rw [StableHlo.Predicate.slt_iff_toNat (by omega) (by omega), e]

variable [Facts] {F : FTy → Type} [FloatOps F]

/-- Which slots hold a row; the slots' destinations; which slot owns a row of the result. -/
def liveT (tr : IVec S576 32) : IVec S147456 1 :=
  shapeCast S147456 (cmpi .slt (broadcastInDim S576x256 ![0, 1] bcast_S1x256_S576x256_0_1 (broadcastInDim S1x256 ![1] bcast_S256_S1x256_1 (iotaInDim S256 32 0)))
    (broadcastInDim S576x256 ![0, 1] bcast_S576x1_S576x256_0_1 (broadcastInDim S576x1 ![0] bcast_S576_S576x1_0 tr))) shapeCasts_S576x256_S147456
def dstT (dst : IVec S576x1x256 32) : IVec S147456 32 := shapeCast S147456 dst shapeCasts_S576x1x256_S147456
def pickT (F : FTy → Type) [FloatOps F] (tr : IVec S576 32) (dst : IVec S576x1x256 32) : IVec S147456 32 := fn_where (F := F) (liveT tr) (dstT dst) (constantI S_ 32 139264#32)
def ownerT (F : FTy → Type) [FloatOps F] (tr : IVec S576 32) (dst : IVec S576x1x256 32) : IVec S139264 32 :=
  Host.scatter scatter_S139264_S147456x1_S147456_n_0_0_1 (fun _ b => b) (broadcastInDim S139264 ![] bcast_S_S139264 (constantI S_ 32 0#32))
    (broadcastInDim S147456x1 ![0] bcast_S147456_S147456x1_0 (select (cmpi .slt (pickT F tr dst) (broadcastInDim S147456 ![] bcast_S_S147456 (constantI S_ 32 0#32)))
      (addi (pickT F tr dst) (broadcastInDim S147456 ![] bcast_S_S147456 (constantI S_ 32 139264#32))) (pickT F tr dst)))
    (iotaInDim S147456 32 0)

theorem liveT_at (tr : IVec S576 32) (u : Fin 576) (k : Fin 256) (h : 256 * u.val + k.val < 147456) :
    liveT tr (ix1 ⟨256 * u.val + k.val, h⟩) = IntOp.cmpi .slt (BitVec.ofNat 32 k.val) (tr (ix1 u)) := by
  have e : Shape.reshapeEquiv shapeCasts_S576x256_S147456 (ix1 ⟨256 * u.val + k.val, h⟩ : S147456.Idx) = (ix2 u k : S576x256.Idx) := by
    apply Shape.reshapeEquiv_eq_of_rowMajor
    have a := Shape.rowMajor_val_two (d := ![576, 256]) (ix2 u k : S576x256.Idx)
    have b := Shape.rowMajor_val_one (d := ![147456]) (ix1 ⟨256 * u.val + k.val, h⟩ : S147456.Idx)
    refine a.trans (Eq.trans ?_ b.symm)
    simp; omega
  unfold liveT
  show cmpi .slt _ _ (Shape.reshapeEquiv shapeCasts_S576x256_S147456 (ix1 ⟨256 * u.val + k.val, h⟩ : S147456.Idx)) = _
  rw [e]
  pointwise

theorem dstT_at (dst : IVec S576x1x256 32) (u : Fin 576) (k : Fin 256) (h : 256 * u.val + k.val < 147456) :
    dstT dst (ix1 ⟨256 * u.val + k.val, h⟩) = dst (ix3 u 0 k) := by
  unfold dstT
  show dst (Shape.reshapeEquiv shapeCasts_S576x1x256_S147456 (ix1 ⟨256 * u.val + k.val, h⟩ : S147456.Idx)) = _
  congr 1
  apply Shape.reshapeEquiv_eq_of_rowMajor
  have a := Shape.rowMajor_val_three (d := ![576, 1, 256]) (ix3 u 0 k : S576x1x256.Idx)
  have b := Shape.rowMajor_val_one (d := ![147456]) (ix1 ⟨256 * u.val + k.val, h⟩ : S147456.Idx)
  refine a.trans (Eq.trans ?_ b.symm)
  simp; omega

/-- What the precondition says. -/
structure Says (te tr : IVec S576 32) (src dst : IVec S576x1x256 32) (o : IVec S139264 32) : Prop where
  teR : ∀ y, (te y).toNat < 32
  trR : ∀ y, (tr y).toNat ≤ 256
  srcR : ∀ y, (src y).toNat < 34816
  dstR : ∀ y, (dst y).toNat < 139264
  own : ∀ r : Fin 139264, ∃ (u : Fin 576) (k : Fin 256), o (ix1 r) = BitVec.ofNat 32 (256 * u.val + k.val) ∧ k.val < (tr (ix1 u)).toNat ∧ (dst (ix3 u 0 k)).toNat = r.val
  back : ∀ (u : Fin 576) (k : Fin 256), k.val < (tr (ix1 u)).toNat → ∀ r : Fin 139264, (dst (ix3 u 0 k)).toNat = r.val → o (ix1 r) = BitVec.ofNat 32 (256 * u.val + k.val)

theorem take_at {α : Type} (x : S147456.Idx → α) (o : IVec S139264 32) (r : Fin 139264) (b : Fin 147456) (hb : o (ix1 r) = BitVec.ofNat 32 b.val) :
    Host.gather gather_S147456_S139264x1_S139264_n_0_n_n_0_1_1 x (broadcastInDim S139264x1 ![0] bcast_S139264_S139264x1_0 o) (ix1 r) = x (ix1 b) :=
  Routing.gather_take1 gather_S147456_S139264x1_S139264_n_0_n_n_0_1_1 rfl rfl rfl rfl x _ r b (by rw [← hb]; pointwise) (by omega)
theorem take_back {α : Type} (x : S139264.Idx → α) (d : IVec S147456 32) (s : Fin 147456) (b : Fin 139264) (hb : d (ix1 s) = BitVec.ofNat 32 b.val) :
    Host.gather gather_S139264_S147456x1_S147456_n_0_n_n_0_1_1 x (broadcastInDim S147456x1 ![0] bcast_S147456_S147456x1_0 d) (ix1 s) = x (ix1 b) :=
  Routing.gather_take1 gather_S139264_S147456x1_S147456_n_0_n_n_0_1_1 rfl rfl rfl rfl x _ s b (by rw [← hb]; pointwise) (by omega)

theorem reads (x0 : FVec F S34816x2048 .f32) (te tr : IVec S576 32) (src dst : IVec S576x1x256 32) (x5 : FVec F S32x2048x2048 .bf16) (x6 : FVec F S32x1x2048 .f32) (x7 : FVec F S32x1024x2048 .bf16) (x8 : FVec F S32x1x2048 .f32)
    (h : (fn (F := F) x0 te tr src dst x5 x6 x7 x8).1 = (fun _ => 1#1)
      ∧ (fn (F := F) x0 te tr src dst x5 x6 x7 x8).2.1 = (fun _ => 1#1)
      ∧ (fn (F := F) x0 te tr src dst x5 x6 x7 x8).2.2.1 = (fun _ => 1#1)
      ∧ (fn (F := F) x0 te tr src dst x5 x6 x7 x8).2.2.2.1 = (fun _ => 1#1)
      ∧ (fn (F := F) x0 te tr src dst x5 x6 x7 x8).2.2.2.2.1 = (fun _ => 1#1)
      ∧ (fn (F := F) x0 te tr src dst x5 x6 x7 x8).2.2.2.2.2.1 = (fun _ => 1#1)
      ∧ (fn (F := F) x0 te tr src dst x5 x6 x7 x8).2.2.2.2.2.2 = (fun _ => 1#1)) : Says te tr src dst (ownerT F tr dst) := by
  obtain ⟨h1, h2, h3, h4, h5, h6, h7⟩ := h
  have htr : ∀ y, (tr y).toNat ≤ 256 := fun y => le_of_range (tr y) 256#32 (by decide) (congrFun h2 y)
  have hdst : ∀ y, (dst y).toNat < 139264 := fun y => lt_of_range (dst y) 139264#32 (by decide) (congrFun h4 y)
  have hof : ∀ (x : BitVec 32), x = BitVec.ofNat 32 x.toNat := fun x => by rw [BitVec.ofNat_toNat, BitVec.setWidth_eq]
  refine ⟨fun y => lt_of_range (te y) 32#32 (by decide) (congrFun h1 y), htr, fun y => lt_of_range (src y) 34816#32 (by decide) (congrFun h3 y), hdst, fun r => ?_, fun u k hk r hr => ?_⟩
  · have hlt : (ownerT F tr dst (ix1 r)).toNat < 147456 := lt_of_range (ownerT F tr dst (ix1 r)) 147456#32 (by decide) (congrFun h5 (ix1 r))
    have h6 : IntOp.andi (Host.gather gather_S147456_S139264x1_S139264_n_0_n_n_0_1_1 (liveT tr) (broadcastInDim S139264x1 ![0] bcast_S139264_S139264x1_0 (ownerT F tr dst)) (ix1 r))
      (IntOp.cmpi .eq (Host.gather gather_S147456_S139264x1_S139264_n_0_n_n_0_1_1 (dstT dst) (broadcastInDim S139264x1 ![0] bcast_S139264_S139264x1_0 (ownerT F tr dst)) (ix1 r)) (BitVec.ofNat 32 r.val)) = 1#1 := congrFun h6 (ix1 r)
    have hs : 256 * ((ownerT F tr dst (ix1 r)).toNat / 256) + (ownerT F tr dst (ix1 r)).toNat % 256 = (ownerT F tr dst (ix1 r)).toNat := Nat.div_add_mod _ _
    let u : Fin 576 := ⟨(ownerT F tr dst (ix1 r)).toNat / 256, by omega⟩
    let k : Fin 256 := ⟨(ownerT F tr dst (ix1 r)).toNat % 256, by omega⟩
    have hb : ownerT F tr dst (ix1 r) = BitVec.ofNat 32 (256 * u.val + k.val) := by
      show _ = BitVec.ofNat 32 (256 * ((ownerT F tr dst (ix1 r)).toNat / 256) + (ownerT F tr dst (ix1 r)).toNat % 256)
      rw [hs]; exact hof _
    have hl : 256 * u.val + k.val < 147456 := by omega
    rw [take_at _ _ r ⟨256 * u.val + k.val, hl⟩ hb, take_at _ _ r ⟨256 * u.val + k.val, hl⟩ hb, liveT_at, dstT_at] at h6
    obtain ⟨ha, hc⟩ := both_one _ _ h6
    refine ⟨u, k, hb, (live_iff _ _ k.isLt (htr _)).mp ha, ?_⟩
    rw [StableHlo.Predicate.cmpi_eq_iff.mp hc, BitVec.toNat_ofNat]
    have := r.isLt
    omega
  · have hl : 256 * u.val + k.val < 147456 := by omega
    have h7 : IntOp.ori (~~~(liveT tr (ix1 ⟨256 * u.val + k.val, hl⟩)))
      (IntOp.cmpi .eq (Host.gather gather_S139264_S147456x1_S147456_n_0_n_n_0_1_1 (ownerT F tr dst) (broadcastInDim S147456x1 ![0] bcast_S147456_S147456x1_0 (dstT dst)) (ix1 ⟨256 * u.val + k.val, hl⟩)) (BitVec.ofNat 32 (256 * u.val + k.val))) = 1#1 := congrFun h7 (ix1 ⟨256 * u.val + k.val, hl⟩)
    rw [take_back _ _ _ r (by rw [dstT_at, ← hr]; exact hof _), liveT_at] at h7
    exact StableHlo.Predicate.cmpi_eq_iff.mp (of_or_not _ _ h7 ((live_iff _ _ k.isLt (htr _)).mpr hk))

end Cert.Proof.Tables

end
-- ==== Proof.FfnRoute.lean ====
module

public import proofs.«01_k».proof.Proof.FfnLaunch
public import proofs.«01_k».proof.Proof.FfnTables

/-!
  The expert network's run under the routing precondition.
-/

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

abbrev tExp (c : Dev nD) : Vec F S576 .i32 := V m c main_arg1

/-- The tables the run reads. -/
def tabs : pre0.Contents (Elt F) := fun k => V m 0 (pre0.ref k)

theorem word_exp (i : grid0.Coords) :
    (tabs m).at 0 (Rect.unit (s := S576) ![(Scalar.indexCast (BitVec.ofNat 32 (i 0).val)).toNat] S1.size (k0_off1_inb i)) numel1_S1 = tExp m 0 (ix1 (i 0)) := by
  refine congrArg (tExp m 0) ?_
  funext b
  apply Fin.ext
  fin_cases b
  have hi : (i 0).val < 576 := (i 0).isLt
  show (BitVec.ofNat 32 (i 0).val).toNat + 1 * 0 = (i 0).val
  rw [BitVec.toNat_ofNat]; omega

theorem ix_w1 (i : grid0.Coords) : cc0_transform_4 k0_off1_inb numel1_S1 (tabs m) i = ![BitVec.toNat (tExp m 0 (ix1 (i 0))), 0, 0] :=
  congrArg (fun v : BitVec 32 => (![v.toNat, 0, 0] : Fin 3 → ℕ)) (word_exp m i)
theorem ix_b1 (i : grid0.Coords) : cc0_transform_5 k0_off1_inb numel1_S1 (tabs m) i = ![BitVec.toNat (tExp m 0 (ix1 (i 0))), 0, 0] :=
  congrArg (fun v : BitVec 32 => (![v.toNat, 0, 0] : Fin 3 → ℕ)) (word_exp m i)
theorem ix_w2 (i : grid0.Coords) : cc0_transform_6 k0_off1_inb numel1_S1 (tabs m) i = ![BitVec.toNat (tExp m 0 (ix1 (i 0))), 0, 0] :=
  congrArg (fun v : BitVec 32 => (![v.toNat, 0, 0] : Fin 3 → ℕ)) (word_exp m i)
theorem ix_b2 (i : grid0.Coords) : cc0_transform_7 k0_off1_inb numel1_S1 (tabs m) i = ![BitVec.toNat (tExp m 0 (ix1 (i 0))), 0, 0] :=
  congrArg (fun v : BitVec 32 => (![v.toNat, 0, 0] : Fin 3 → ℕ)) (word_exp m i)

theorem tabs_ok (h : ∀ y, BitVec.toNat (tExp m 0 y) < 32) : ok0 (tabs m) := by
  refine ⟨fun i => ⟨?_, .inr (Affine.block_words_dvd (of_decide_eq_true rfl) (by decide))⟩, fun i => ⟨?_, .inl rfl⟩,
    fun i => ⟨?_, .inr (Affine.block_words_dvd (of_decide_eq_true rfl) (by decide))⟩, fun i => ⟨?_, .inl rfl⟩⟩
  · rw [ix_w1]; intro b; have := h (ix1 (i 0)); fin_cases b
    · show (BitVec.toNat (tExp m 0 (ix1 (i 0))) + 1) * 1 ≤ 32; omega
    · show (0 + 1) * 2048 ≤ 2048; omega
    · show (0 + 1) * 2048 ≤ 2048; omega
  · rw [ix_b1]; intro b; have := h (ix1 (i 0)); fin_cases b
    · show (BitVec.toNat (tExp m 0 (ix1 (i 0))) + 1) * 1 ≤ 32; omega
    · show (0 + 1) * 1 ≤ 1; omega
    · show (0 + 1) * 2048 ≤ 2048; omega
  · rw [ix_w2]; intro b; have := h (ix1 (i 0)); fin_cases b
    · show (BitVec.toNat (tExp m 0 (ix1 (i 0))) + 1) * 1 ≤ 32; omega
    · show (0 + 1) * 1024 ≤ 1024; omega
    · show (0 + 1) * 2048 ≤ 2048; omega
  · rw [ix_b2]; intro b; have := h (ix1 (i 0)); fin_cases b
    · show (BitVec.toNat (tExp m 0 (ix1 (i 0))) + 1) * 1 ≤ 32; omega
    · show (0 + 1) * 1 ≤ 1; omega
    · show (0 + 1) * 2048 ≤ 2048; omega

/-- The tables, admitted. -/
def adm (h : ∀ y, BitVec.toNat (tExp m 0 y) < 32) : (pcfg0 (F := F)).Adm := ⟨tabs m, tabs_ok m h⟩

theorem adm_eq (h : ∀ y, BitVec.toNat (tExp m 0 y) < 32) (c : Dev nD) (k : Fin 2) : V m c (pre0.ref k) = (adm m h).1 k := by
  obtain rfl : c = 0 := Subsingleton.elim _ _
  rfl

/-- An expert's weights and biases at a tile. -/
theorem blk_w1 (h : ∀ y, BitVec.toNat (tExp m 0 y) < 32) (c : Dev nD) (t : Fin (cfg0 (adm m h)).N) (y : S1x2048x2048.Idx) :
    iblk m (adm m h) c 3 t y = (V m c main_arg5 : Vec F S32x2048x2048 .bf16) (ix3 ⟨BitVec.toNat (tExp m 0 (ix1 ⟨t.val, Nat.lt_of_lt_of_eq t.isLt (N_eq _)⟩)), h _⟩ (y 1) (y 2)) := by
  have e := ix_w1 m (grid0.coords t)
  rw [show grid0.coords t 0 = ⟨t.val, Nat.lt_of_lt_of_eq t.isLt (N_eq _)⟩ from Fin.ext (coord0 t)] at e
  have y0 : (y 0).val = 0 := by have : (y 0).val < 1 := (y 0).isLt; omega
  refine congrArg (V m c main_arg5 : Vec F S32x2048x2048 .bf16) ?_
  funext b
  apply Fin.ext
  fin_cases b
  · show cc0_transform_4 k0_off1_inb numel1_S1 (tabs m) (grid0.coords t) 0 * 1 + 1 * (y 0).val = _
    rw [e, y0]; simp
  · show cc0_transform_4 k0_off1_inb numel1_S1 (tabs m) (grid0.coords t) 1 * 2048 + 1 * (y 1).val = (y 1).val
    rw [e]; simp
  · show cc0_transform_4 k0_off1_inb numel1_S1 (tabs m) (grid0.coords t) 2 * 2048 + 1 * (y 2).val = (y 2).val
    rw [e]; simp
theorem blk_b1 (h : ∀ y, BitVec.toNat (tExp m 0 y) < 32) (c : Dev nD) (t : Fin (cfg0 (adm m h)).N) (y : S1x1x2048.Idx) :
    iblk m (adm m h) c 4 t y = (V m c main_arg6 : Vec F S32x1x2048 .f32) (ix3 ⟨BitVec.toNat (tExp m 0 (ix1 ⟨t.val, Nat.lt_of_lt_of_eq t.isLt (N_eq _)⟩)), h _⟩ (y 1) (y 2)) := by
  have e := ix_b1 m (grid0.coords t)
  rw [show grid0.coords t 0 = ⟨t.val, Nat.lt_of_lt_of_eq t.isLt (N_eq _)⟩ from Fin.ext (coord0 t)] at e
  have y0 : (y 0).val = 0 := by have : (y 0).val < 1 := (y 0).isLt; omega
  refine congrArg (V m c main_arg6 : Vec F S32x1x2048 .f32) ?_
  funext b
  apply Fin.ext
  fin_cases b
  · show cc0_transform_5 k0_off1_inb numel1_S1 (tabs m) (grid0.coords t) 0 * 1 + 1 * (y 0).val = _
    rw [e, y0]; simp
  · show cc0_transform_5 k0_off1_inb numel1_S1 (tabs m) (grid0.coords t) 1 * 1 + 1 * (y 1).val = (y 1).val
    rw [e]; simp
  · show cc0_transform_5 k0_off1_inb numel1_S1 (tabs m) (grid0.coords t) 2 * 2048 + 1 * (y 2).val = (y 2).val
    rw [e]; simp
theorem blk_w2 (h : ∀ y, BitVec.toNat (tExp m 0 y) < 32) (c : Dev nD) (t : Fin (cfg0 (adm m h)).N) (y : S1x1024x2048.Idx) :
    iblk m (adm m h) c 5 t y = (V m c main_arg7 : Vec F S32x1024x2048 .bf16) (ix3 ⟨BitVec.toNat (tExp m 0 (ix1 ⟨t.val, Nat.lt_of_lt_of_eq t.isLt (N_eq _)⟩)), h _⟩ (y 1) (y 2)) := by
  have e := ix_w2 m (grid0.coords t)
  rw [show grid0.coords t 0 = ⟨t.val, Nat.lt_of_lt_of_eq t.isLt (N_eq _)⟩ from Fin.ext (coord0 t)] at e
  have y0 : (y 0).val = 0 := by have : (y 0).val < 1 := (y 0).isLt; omega
  refine congrArg (V m c main_arg7 : Vec F S32x1024x2048 .bf16) ?_
  funext b
  apply Fin.ext
  fin_cases b
  · show cc0_transform_6 k0_off1_inb numel1_S1 (tabs m) (grid0.coords t) 0 * 1 + 1 * (y 0).val = _
    rw [e, y0]; simp
  · show cc0_transform_6 k0_off1_inb numel1_S1 (tabs m) (grid0.coords t) 1 * 1024 + 1 * (y 1).val = (y 1).val
    rw [e]; simp
  · show cc0_transform_6 k0_off1_inb numel1_S1 (tabs m) (grid0.coords t) 2 * 2048 + 1 * (y 2).val = (y 2).val
    rw [e]; simp
theorem blk_b2 (h : ∀ y, BitVec.toNat (tExp m 0 y) < 32) (c : Dev nD) (t : Fin (cfg0 (adm m h)).N) (y : S1x1x2048.Idx) :
    iblk m (adm m h) c 6 t y = (V m c main_arg8 : Vec F S32x1x2048 .f32) (ix3 ⟨BitVec.toNat (tExp m 0 (ix1 ⟨t.val, Nat.lt_of_lt_of_eq t.isLt (N_eq _)⟩)), h _⟩ (y 1) (y 2)) := by
  have e := ix_b2 m (grid0.coords t)
  rw [show grid0.coords t 0 = ⟨t.val, Nat.lt_of_lt_of_eq t.isLt (N_eq _)⟩ from Fin.ext (coord0 t)] at e
  have y0 : (y 0).val = 0 := by have : (y 0).val < 1 := (y 0).isLt; omega
  refine congrArg (V m c main_arg8 : Vec F S32x1x2048 .f32) ?_
  funext b
  apply Fin.ext
  fin_cases b
  · show cc0_transform_7 k0_off1_inb numel1_S1 (tabs m) (grid0.coords t) 0 * 1 + 1 * (y 0).val = _
    rw [e, y0]; simp
  · show cc0_transform_7 k0_off1_inb numel1_S1 (tabs m) (grid0.coords t) 1 * 1 + 1 * (y 1).val = (y 1).val
    rw [e]; simp
  · show cc0_transform_7 k0_off1_inb numel1_S1 (tabs m) (grid0.coords t) 2 * 2048 + 1 * (y 2).val = (y 2).val
    rw [e]; simp

/-! ## The routing -/

theorem nr_at (c : Dev nD) (u : Fin 576) : nr m c u.val = BitVec.toNat (tNr m c (ix1 u)) := by
  rw [← tab_nr m c u.val u.isLt]
  refine congrArg (fun y => BitVec.toNat (tNr m c y)) ?_
  funext b
  apply Fin.ext
  fin_cases b
  show u.val + 1 * 0 = u.val
  omega
theorem sr_at (c : Dev nD) (u : Fin 576) (k : Fin 256) : sr m c u.val k.val = BitVec.toNat (tSrc m c (ix3 u 0 k)) := by
  unfold sr; rw [dif_pos ⟨u.isLt, k.isLt⟩]
theorem dr_at (c : Dev nD) (u : Fin 576) (k : Fin 256) : dr m c u.val k.val = BitVec.toNat (tDst m c (ix3 u 0 k)) := by
  unfold dr; rw [dif_pos ⟨u.isLt, k.isLt⟩]

variable (o : Dev nD → IVec Cert.Pre_tables_route.S139264 32)

theorem routes (c : Dev nD) (S : Cert.Proof.Tables.Says (tExp m c) (tNr m c) (tSrc m c) (tDst m c) (o c)) : Routes m c := by
  have hn : ∀ u, nr m c u ≤ 256 := fun u => by
    by_cases h : u < 576
    · exact (nr_at m c ⟨u, h⟩).trans_le (S.trR _)
    · unfold nr; rw [dif_neg h]; omega
  have hb : ∀ u k, u < 576 → k < nr m c u → ∀ r : Fin 139264, dr m c u k = r.val → o c (ix1 r) = BitVec.ofNat 32 (256 * u + k) := fun u k hu hk r hr =>
    S.back ⟨u, hu⟩ ⟨k, Nat.lt_of_lt_of_le hk (hn u)⟩ (by rw [← nr_at]; exact hk) r (by rw [← dr_at]; exact hr)
  have hd : ∀ u k, dr m c u k < 139264 := fun u k => by
    unfold dr; split
    · exact S.dstR _
    · omega
  refine ⟨hn, fun u k => ?_, hd, fun u k u' k' hu hu' hk hk' e => ?_, fun r hr => ?_⟩
  · unfold sr; split
    · exact S.srcR _
    · omega
  · have e1 := hb u k hu hk ⟨dr m c u k, hd u k⟩ rfl
    have e2 := hb u' k' hu' hk' ⟨dr m c u k, hd u k⟩ e.symm
    have e3 := congrArg BitVec.toNat (e1.symm.trans e2)
    rw [BitVec.toNat_ofNat, BitVec.toNat_ofNat] at e3
    have := hn u; have := hn u'
    omega
  · obtain ⟨u, k, _, hk, e⟩ := S.own ⟨r, hr⟩
    exact ⟨u.val, k.val, u.isLt, by rw [nr_at]; exact hk, by rw [dr_at]; exact e⟩

/-- The run from tables that route. -/
theorem run_at (S : ∀ c, Cert.Proof.Tables.Says (tExp m c) (tNr m c) (tSrc m c) (tDst m c) (o c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_v0) = outG m (adm m (S 0).teR) c) ∧ r.2.sem = fun _ => 0) :=
  run m ρ (adm m (S 0).teR) (fun c => routes m o c (S c)) (adm_eq m (S 0).teR)

end Cert.Kernel6Ideal.Hand
-- ==== Proof.FfnValue.lean ====
module

public import proofs.«01_k».proof.Proof.FfnRoute
public import proofs.«01_k».proof.Proof.Gen.Reference6Ideal.Run
public import proofs.«01_k».proof.Proof.Gen.Reference6Ideal.Read

/-!
  The expert network's rows, as the kernel and as the reference compute them.
-/

@[expose] public section

set_option maxRecDepth 16384

noncomputable section

namespace Cert.Proof.Ffn

open Idealize.ShloMosaic Idealize.ShloMosaic.TcCoe Idealize.SL.Sem

/-- The gated product: the clamped gate's half times its logistic, times the clamped linear half plus one. -/
def gated (g a : EReal) : EReal :=
  min g (Ideal.ofBits FTy.f32 0x40E00000#32)
    * Ideal.logistic (Ideal.ofBits FTy.f32 0x3FD9DB23#32 * min g (Ideal.ofBits FTy.f32 0x40E00000#32))
    * (min (Ideal.ofBits FTy.f32 0x40E00000#32) (max (Ideal.ofBits FTy.f32 0xC0E00000#32) a) + 1)

/-- A hidden lane: the row's product with an expert's first weights, and the bias. -/
def hidden {A : ℕ} (x : Fin 2048 → EReal) (w : Shape.Idx ⟨3, ![A, 2048, 2048]⟩ → EReal) (b : Shape.Idx ⟨3, ![A, 1, 2048]⟩ → EReal)
    (e : Fin A) (j : Fin 2048) : EReal :=
  (∑ c : Fin 2048, x c * w (ix3 e c j)) + b (ix3 e 0 j)

/-- An output lane. -/
def expertRow {A : ℕ} (x : Fin 2048 → EReal) (w : Shape.Idx ⟨3, ![A, 2048, 2048]⟩ → EReal) (b : Shape.Idx ⟨3, ![A, 1, 2048]⟩ → EReal)
    (w' : Shape.Idx ⟨3, ![A, 1024, 2048]⟩ → EReal) (b' : Shape.Idx ⟨3, ![A, 1, 2048]⟩ → EReal) (e : Fin A) (l : Fin 2048) : EReal :=
  (∑ j : Fin 1024, gated (hidden x w b e ⟨j.val, by omega⟩) (hidden x w b e ⟨1024 + j.val, by omega⟩) * w' (ix3 e j l)) + b' (ix3 e 0 l)

section

open Cert.Kernel6Ideal Cert.Kernel6Ideal.Gen

theorem pay_at (x : Vec Ideal S1x256x2048 .f32) (w : Vec Ideal S1x2048x2048 .bf16) (b : Vec Ideal S1x1x2048 .f32)
    (w' : Vec Ideal S1x1024x2048 .bf16) (b' : Vec Ideal S1x1x2048 .f32) (k : Fin 256) (l : Fin 2048) :
    k0_pay1 x w b w' b' (ix2 k l) = expertRow (fun c => x (ix3 0 k c)) w b w' b' 0 l := by
  unfold k0_pay1
  pointwise
  rfl

end

section

variable {α : Type}

/-- Whole slabs picked by one word each. -/
theorem gather_slab {N A B n : ℕ}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (u : Fin n) (a : Fin A) (b : Fin B) (e : Fin N)
    (he : (idx (ix2 u 0)).toInt.toNat = e.val) :
    Host.gather (⟨[1, 2], [0], [], [], [0], 1, ![1, A, B], wf⟩ : GatherDims ⟨3, ![N, A, B]⟩ ⟨2, ![n, 1]⟩ ⟨3, ![n, A, B]⟩) x idx (ix3 u a b) = x (ix3 e a b) := by
  set d : GatherDims ⟨3, ![N, A, B]⟩ ⟨2, ![n, 1]⟩ ⟨3, ![n, A, B]⟩ := ⟨[1, 2], [0], [], [], [0], 1, ![1, A, B], wf⟩ with hd
  unfold Host.gather
  congr 1
  funext q
  refine Fin.ext ?_
  show d.start (ix3 u a b) idx q + d.batchCoord (ix3 u a b) q + d.offCoord (ix3 u a b) q = _
  rw [GatherDims.batchCoord_eq_zero _ _ _ List.not_mem_nil]
  match q with
  | ⟨0, _⟩ =>
    show d.start (ix3 u a b) idx 0 + 0 + d.offCoord (ix3 u a b) 0 = e.val
    rw [GatherDims.offCoord_eq_zero _ _ _ (fun h => ((GatherDims.mem_sKept _ _).mp h).1 (List.mem_singleton.mpr rfl))]
    unfold GatherDims.start
    rw [dif_pos (show (0 : Fin 3) ∈ d.startIndexMap from List.mem_singleton.mpr rfl)]
    have hsi : d.siIdx (ix3 u a b) ⟨List.idxOf (0 : Fin 3) d.startIndexMap,
        List.idxOf_lt_length_iff.2 (List.mem_singleton.mpr rfl)⟩ = ix2 u 0 := by
      funext z; refine Fin.ext ?_
      match z with
      | ⟨0, _⟩ => rfl
      | ⟨1, _⟩ => rfl
    rw [hsi, he]
    show min e.val (N - 1) + 0 + 0 = e.val
    omega
  | ⟨1, _⟩ =>
    have : d.start (ix3 u a b) idx 1 = 0 := by
      unfold GatherDims.start
      rw [dif_neg (show ¬ (1 : Fin 3) ∈ d.startIndexMap from by show ¬ (1 : Fin 3) ∈ [(0 : Fin 3)]; decide)]
    show d.start (ix3 u a b) idx 1 + 0 + d.offCoord (ix3 u a b) 1 = a.val
    rw [this]
    show 0 + 0 + a.val = a.val
    omega
  | ⟨2, _⟩ =>
    have : d.start (ix3 u a b) idx 2 = 0 := by
      unfold GatherDims.start
      rw [dif_neg (show ¬ (2 : Fin 3) ∈ d.startIndexMap from by show ¬ (2 : Fin 3) ∈ [(0 : Fin 3)]; decide)]
    show d.start (ix3 u a b) idx 2 + 0 + d.offCoord (ix3 u a b) 2 = b.val
    rw [this]
    show 0 + 0 + b.val = b.val
    omega

end

theorem expertRow_congr {A B : ℕ} (x y : Fin 2048 → EReal) (w : Shape.Idx ⟨3, ![A, 2048, 2048]⟩ → EReal) (b : Shape.Idx ⟨3, ![A, 1, 2048]⟩ → EReal)
    (w' : Shape.Idx ⟨3, ![A, 1024, 2048]⟩ → EReal) (b' : Shape.Idx ⟨3, ![A, 1, 2048]⟩ → EReal) (e : Fin A)
    (W : Shape.Idx ⟨3, ![B, 2048, 2048]⟩ → EReal) (C : Shape.Idx ⟨3, ![B, 1, 2048]⟩ → EReal)
    (W' : Shape.Idx ⟨3, ![B, 1024, 2048]⟩ → EReal) (C' : Shape.Idx ⟨3, ![B, 1, 2048]⟩ → EReal) (E : Fin B) (l : Fin 2048)
    (hx : ∀ c, x c = y c) (hw : ∀ i j, w (ix3 e i j) = W (ix3 E i j)) (hb : ∀ j, b (ix3 e 0 j) = C (ix3 E 0 j))
    (hw' : ∀ i j, w' (ix3 e i j) = W' (ix3 E i j)) (hb' : ∀ j, b' (ix3 e 0 j) = C' (ix3 E 0 j)) :
    expertRow x w b w' b' e l = expertRow y W C W' C' E l := by
  unfold expertRow hidden
  simp only [hx, hw, hb, hw', hb']

section

open Cert.Reference6Ideal Cert.Reference6Ideal.Gen Cert.Reference6Ideal.Read

variable (x0 : Vec Ideal S34816x2048 .f32) (x1 x2 : IVec S576 32) (x3 x4 : IVec S576x1x256 32) (x5 : Vec Ideal S32x2048x2048 .bf16)
  (x6 : Vec Ideal S32x1x2048 .f32) (x7 : Vec Ideal S32x1024x2048 .bf16) (x8 : Vec Ideal S32x1x2048 .f32)

theorem word_lt (w : BitVec 32) (n : ℕ) (h : w.toNat < n) (hn : n < 2 ^ 31) : w.toInt.toNat = w.toNat := by
  rw [BitVec.toInt_eq_toNat_of_lt (by omega)]; rfl

/-- The expert of a row, from the slot that owns it. -/
theorem expert_at (r : Fin 139264) (u : Fin 576) (k : Fin 256)
    (ho : val_main_v17 (F := Ideal) x2 x4 (ix1 r) = BitVec.ofNat 32 (256 * u.val + k.val)) :
    val_main_v21 (F := Ideal) x1 x2 x4 (ix1 r) = x1 (ix1 u) := by
  unfold val_main_v21
  refine (Routing.gather_take1 gather_S147456_S139264x1_S139264_n_0_n_n_0_1_1 rfl rfl rfl rfl _ _ r ⟨256 * u.val + k.val, by omega⟩ ?_ (by omega)).trans ?_
  · refine (val_main_call1_v0_apply x2 x4 _).trans (Eq.trans (congrArg _ ?_) ho)
    funext a; obtain rfl : a = 0 := Subsingleton.elim _ _; rfl
  · rw [val_main_v20_apply, val_main_v19_apply, val_main_v18_apply]
    refine congrArg x1 ?_
    funext a; refine Fin.ext ?_
    match a with
    | ⟨0, _⟩ => show (256 * u.val + k.val) / 256 = u.val; omega

/-- The source row of a row, from the slot that owns it. -/
theorem source_at (r : Fin 139264) (u : Fin 576) (k : Fin 256)
    (ho : val_main_v17 (F := Ideal) x2 x4 (ix1 r) = BitVec.ofNat 32 (256 * u.val + k.val)) :
    val_main_v23 (F := Ideal) x2 x3 x4 (ix1 r) = x3 (ix3 u 0 k) := by
  unfold val_main_v23
  refine (Routing.gather_take1 gather_S147456_S139264x1_S139264_n_0_n_n_0_1_1 rfl rfl rfl rfl _ _ r ⟨256 * u.val + k.val, by omega⟩ ?_ (by omega)).trans ?_
  · refine (val_main_call2_v0_apply x2 x4 _).trans (Eq.trans (congrArg _ ?_) ho)
    funext a; obtain rfl : a = 0 := Subsingleton.elim _ _; rfl
  · rw [val_main_v22_apply]
    refine congrArg x3 ?_
    funext a; refine Fin.ext ?_
    match a with
    | ⟨0, _⟩ => show (256 * u.val + k.val) / 256 = u.val; omega
    | ⟨1, _⟩ => rfl
    | ⟨2, _⟩ => show (256 * u.val + k.val) % 256 = k.val; omega

variable (h1 : ∀ y, (x1 y).toNat < 32) (h3 : ∀ y, (x3 y).toNat < 34816) (r : Fin 139264) (u : Fin 576) (k : Fin 256)
  (ho : val_main_v17 (F := Ideal) x2 x4 (ix1 r) = BitVec.ofNat 32 (256 * u.val + k.val))

include ho

theorem rows_at (c : Fin 2048) :
    val_main_v24 (F := Ideal) x0 x2 x3 x4 (ix2 r c) = x0 (ix2 ⟨(x3 (ix3 u 0 k)).toNat, h3 _⟩ c) := by
  unfold val_main_v24
  refine Routing.gather_row gather_S34816x2048_S139264x1_S139264x2048_1_0_n_n_0_1_12048 rfl rfl rfl rfl rfl _ _ r c ⟨_, h3 (ix3 u 0 k)⟩ ?_ (by omega)
  refine (val_main_call3_v0_apply x2 x3 x4 _).trans (Eq.trans (congrArg _ ?_) ((source_at x2 x3 x4 r u k ho).trans ?_))
  · funext a; obtain rfl : a = 0 := Subsingleton.elim _ _; rfl
  · exact (BitVec.ofNat_toNat 32 _ |>.trans (BitVec.setWidth_eq _)).symm

theorem w1_at (a : Fin 2048) (b : Fin 2048) :
    val_main_v25 (F := Ideal) x1 x2 x4 x5 (ix3 r a b) = x5 (ix3 ⟨(x1 (ix1 u)).toNat, h1 _⟩ a b) := by
  unfold val_main_v25
  refine gather_slab _ x5 _ r a b ⟨_, h1 (ix1 u)⟩ ?_
  rw [val_main_call4_v0_apply, show idx_main_call4_v0 (ix2 r 0) = ix1 r from by funext a; obtain rfl : a = 0 := Subsingleton.elim _ _; rfl,
    expert_at x1 x2 x4 r u k ho]
  exact word_lt _ 32 (h1 _) (by omega)

theorem b1_at (a : Fin 1) (b : Fin 2048) :
    val_main_v27 (F := Ideal) x1 x2 x4 x6 (ix3 r a b) = x6 (ix3 ⟨(x1 (ix1 u)).toNat, h1 _⟩ a b) := by
  unfold val_main_v27
  refine gather_slab _ x6 _ r a b ⟨_, h1 (ix1 u)⟩ ?_
  rw [val_main_call5_v0_apply, show idx_main_call5_v0 (ix2 r 0) = ix1 r from by funext a; obtain rfl : a = 0 := Subsingleton.elim _ _; rfl,
    expert_at x1 x2 x4 r u k ho]
  exact word_lt _ 32 (h1 _) (by omega)

theorem w2_at (a : Fin 1024) (b : Fin 2048) :
    val_main_v28 (F := Ideal) x1 x2 x4 x7 (ix3 r a b) = x7 (ix3 ⟨(x1 (ix1 u)).toNat, h1 _⟩ a b) := by
  unfold val_main_v28
  refine gather_slab _ x7 _ r a b ⟨_, h1 (ix1 u)⟩ ?_
  rw [val_main_call6_v0_apply, show idx_main_call6_v0 (ix2 r 0) = ix1 r from by funext a; obtain rfl : a = 0 := Subsingleton.elim _ _; rfl,
    expert_at x1 x2 x4 r u k ho]
  exact word_lt _ 32 (h1 _) (by omega)

theorem b2_at (a : Fin 1) (b : Fin 2048) :
    val_main_v30 (F := Ideal) x1 x2 x4 x8 (ix3 r a b) = x8 (ix3 ⟨(x1 (ix1 u)).toNat, h1 _⟩ a b) := by
  unfold val_main_v30
  refine gather_slab _ x8 _ r a b ⟨_, h1 (ix1 u)⟩ ?_
  rw [val_main_call7_v0_apply, show idx_main_call7_v0 (ix2 r 0) = ix1 r from by funext a; obtain rfl : a = 0 := Subsingleton.elim _ _; rfl,
    expert_at x1 x2 x4 r u k ho]
  exact word_lt _ 32 (h1 _) (by omega)

theorem hidden_at (j : Fin 2048) :
    val_main_v33 (F := Ideal) x0 x1 x2 x3 x4 x5 x6 (ix3 r 0 j)
      = hidden (fun c => x0 (ix2 ⟨(x3 (ix3 u 0 k)).toNat, h3 _⟩ c)) x5 x6 ⟨(x1 (ix1 u)).toNat, h1 _⟩ j := by
  rw [val_main_v33_apply, val_main_v32_apply]
  refine congrArg₂ (fun a b : EReal => a + b) (Finset.sum_congr rfl fun c _ => congrArg₂ (fun a b : EReal => a * b) ?_ ?_) (b1_at x1 x2 x4 x6 h1 r u k ho 0 j)
  · rw [val_main_v31_apply]
    refine Eq.trans (congrArg (val_main_v24 (F := Ideal) x0 x2 x3 x4) ?_) (rows_at x0 x2 x3 x4 h3 r u k ho c)
    funext a; refine Fin.ext ?_
    match a with
    | ⟨0, _⟩ => rfl
    | ⟨1, _⟩ => rfl
  · refine Eq.trans (congrArg (val_main_v25 (F := Ideal) x1 x2 x4 x5) ?_) (w1_at x1 x2 x4 x5 h1 r u k ho c j)
    funext a; refine Fin.ext ?_
    match a with
    | ⟨0, _⟩ => rfl
    | ⟨1, _⟩ => rfl
    | ⟨2, _⟩ => rfl

omit ho in
theorem act_at (j : Fin 1024) :
    val_main_v50 (F := Ideal) x0 x1 x2 x3 x4 x5 x6 (ix3 r 0 j)
      = gated (val_main_v33 (F := Ideal) x0 x1 x2 x3 x4 x5 x6 (ix3 r 0 ⟨j.val, by omega⟩)) (val_main_v33 (F := Ideal) x0 x1 x2 x3 x4 x5 x6 (ix3 r 0 ⟨1024 + j.val, by omega⟩)) := by
  unfold val_main_v50 val_main_v49 val_main_v48 val_main_v47 val_main_v46 val_main_v45 val_main_v44 val_main_v43 val_main_v42 val_main_v41 val_main_v40 val_main_v39 val_main_v38 val_main_call8_v4 val_main_call8_v3 val_main_call8_v2 val_main_call8_v1 val_main_call8_v0 val_main_v37 val_main_v36 val_main_v35 val_main_v34 val_main_cst val_main_cst_3 val_main_cst_4 val_main_cst_5 val_main_cst_6 val_main_cst_7 val_main_cst_8
  generalize val_main_v33 (F := Ideal) x0 x1 x2 x3 x4 x5 x6 = y
  pointwise
  simp only [id_eq]
  pointwise
  unfold gated Ideal.logistic
  rfl

theorem out_at (l : Fin 2048) :
    val_main_v52 (F := Ideal) x0 x1 x2 x3 x4 x5 x6 x7 x8 (ix3 r 0 l)
      = expertRow (fun c => x0 (ix2 ⟨(x3 (ix3 u 0 k)).toNat, h3 _⟩ c)) x5 x6 x7 x8 ⟨(x1 (ix1 u)).toNat, h1 _⟩ l := by
  rw [val_main_v52_apply, val_main_v51_apply]
  refine congrArg₂ (fun a b : EReal => a + b) (Finset.sum_congr rfl fun j _ => congrArg₂ (fun a b : EReal => a * b) ?_ ?_) (b2_at x1 x2 x4 x8 h1 r u k ho 0 l)
  · refine Eq.trans (congrArg (val_main_v50 (F := Ideal) x0 x1 x2 x3 x4 x5 x6) ?_) ((act_at x0 x1 x2 x3 x4 x5 x6 r j).trans ?_)
    · funext a; refine Fin.ext ?_
      match a with
      | ⟨0, _⟩ => rfl
      | ⟨1, _⟩ => rfl
      | ⟨2, _⟩ => rfl
    rw [hidden_at x0 x1 x2 x3 x4 x5 x6 h1 h3 r u k ho, hidden_at x0 x1 x2 x3 x4 x5 x6 h1 h3 r u k ho]
  · refine Eq.trans (congrArg (val_main_v28 (F := Ideal) x1 x2 x4 x7) ?_) (w2_at x1 x2 x4 x7 h1 r u k ho j l)
    funext a; refine Fin.ext ?_
    match a with
    | ⟨0, _⟩ => rfl
    | ⟨1, _⟩ => rfl
    | ⟨2, _⟩ => rfl

/-- The reference's row, from the slot that owns it. -/
theorem result_at (l : Fin 2048) :
    val_main_v53 (F := Ideal) x0 x1 x2 x3 x4 x5 x6 x7 x8 (ix2 r l)
      = expertRow (fun c => x0 (ix2 ⟨(x3 (ix3 u 0 k)).toNat, h3 _⟩ c)) x5 x6 x7 x8 ⟨(x1 (ix1 u)).toNat, h1 _⟩ l := by
  refine (val_main_v53_apply x0 x1 x2 x3 x4 x5 x6 x7 x8 _).trans (Eq.trans (congrArg _ ?_) (out_at x0 x1 x2 x3 x4 x5 x6 x7 x8 h1 h3 r u k ho l))
  funext a; refine Fin.ext ?_
  match a with
  | ⟨0, _⟩ => show (r.val * 2048 + l.val) / 2048 = r.val; omega
  | ⟨1, _⟩ => rfl
  | ⟨2, _⟩ => show (r.val * 2048 + l.val) % 2048 = l.val; omega

end

section

open Cert.Reference6Ideal Cert.Reference6Ideal.Gen Cert.Reference6Ideal.Read

/-- The reference's owner of a row is the precondition's. -/
theorem owner_eq [Cert.Pre_tables_route.Facts] (x2 : IVec S576 32) (x4 : IVec S576x1x256 32) :
    val_main_v17 (F := Ideal) x2 x4 = Cert.Proof.Tables.ownerT Ideal x2 x4 := by
  have e6 : val_main_v6 (F := Ideal) x2 = Cert.Proof.Tables.liveT x2 := by
    unfold val_main_v6 val_main_v5 val_main_v4 val_main_v3 val_main_v2 val_main_v1 val_main_v0 Cert.Proof.Tables.liveT; rfl
  have e7 : val_main_v7 (F := Ideal) x4 = Cert.Proof.Tables.dstT x4 := by
    unfold val_main_v7 Cert.Proof.Tables.dstT; rfl
  have e10 : val_main_v10 (F := Ideal) x2 x4 = Cert.Proof.Tables.pickT Ideal x2 x4 := by
    unfold val_main_v10 Cert.Proof.Tables.pickT
    rw [e6, e7]
    generalize Cert.Proof.Tables.liveT x2 = a
    generalize Cert.Proof.Tables.dstT x4 = b
    unfold val_main_call0_v1 val_main_call0_v0 val_main_c_0 Cert.Pre_tables_route.fn_where; rfl
  unfold val_main_v17 val_main_v16 val_main_v15 val_main_v14 val_main_v13 val_main_v12 val_main_v11 val_main_v9 val_main_v8 Cert.Proof.Tables.ownerT
  rw [e10]
  generalize Cert.Proof.Tables.pickT Ideal x2 x4 = a
  unfold val_main_c val_main_c_1 val_main_c_2
  rfl

end

section

open Cert.Kernel6Ideal Cert.Kernel6Ideal.Gen Cert.Kernel6Ideal.Hand

variable (m : (ℓ : Loc nD τ sig) → Buf (Elt Ideal) ℓ)

/-- The kernel's result is the reference's. -/
theorem value [Cert.Pre_tables_route.Facts] (h : ∀ y, BitVec.toNat (tExp m 0 y) < 32) (c : Dev nD)
    (S : Cert.Proof.Tables.Says (tExp m c) (tNr m c) (tSrc m c) (tDst m c) (Cert.Proof.Tables.ownerT Ideal (tNr m c) (tDst m c)))
    (R : Routes m c) :
    outG m (adm m h) c = Cert.Reference6Ideal.Read.val_main_v53 (F := Ideal) (hs0 m c) (tExp m c) (tNr m c) (tSrc m c) (tDst m c)
      (V m c main_arg5) (V m c main_arg6) (V m c main_arg7) (V m c main_arg8) := by
  obtain rfl : c = 0 := Subsingleton.elim _ _
  funext j
  obtain ⟨r, l, rfl⟩ : ∃ (r : Fin 139264) (l : Fin 2048), j = ix2 r l := ⟨j 0, j 1, eq_ix2 j⟩
  obtain ⟨u, k, ho, hk, hd⟩ := S.own r
  refine Eq.trans ?_ (result_at (hs0 m 0) (tExp m 0) (tNr m 0) (tSrc m 0) (tDst m 0) (V m 0 main_arg5) (V m 0 main_arg6) (V m 0 main_arg7) (V m 0 main_arg8) S.teR S.srcR r u k (by rw [owner_eq]; exact ho) l).symm
  have hk' : k.val < nr m 0 u.val := by rw [nr_at]; exact hk
  have e := outG_at m (adm m h) 0 R ⟨u.val, Nat.lt_of_lt_of_eq u.isLt (N_eq _).symm⟩ k.val k.isLt hk' l
  have er : (⟨dr m 0 u.val k.val, R.hd _ _⟩ : Fin 139264) = r := Fin.ext ((dr_at m 0 u k).trans hd)
  rw [← er]
  refine e.trans ?_
  unfold outT tileOut
  refine (pay_at _ _ _ _ _ k l).trans (expertRow_congr _ _ _ _ _ _ _ _ _ _ _ _ l (fun q => ?_) (fun a b => ?_) (fun b => ?_) (fun a b => ?_) (fun b => ?_))
  · unfold tileX
    refine congrArg (hs0 m 0) ?_
    funext a; refine Fin.ext ?_
    match a with
    | ⟨0, _⟩ =>
      show sr m 0 u.val k.val % 34816 = _
      rw [sr_at, Nat.mod_eq_of_lt (S.srcR _)]; rfl
    | ⟨1, _⟩ => rfl
  · exact blk_w1 m h 0 _ _
  · exact blk_b1 m h 0 _ _
  · exact blk_w2 m h 0 _ _
  · exact blk_b2 m h 0 _ _

end

end Cert.Proof.Ffn

end
-- ==== Proof.lean ====
module

public import Idealize.ShloMosaic.Lib.Quiescent
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Frame
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel5Ideal.Frame
public import proofs.«01_k».proof.Proof.Gen.Pre_scores_finite
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Finite
public import proofs.«01_k».proof.Proof.Gen.Kernel3.Frame
public import proofs.«01_k».proof.Proof.Gen.Kernel3Ideal.Frame
public import proofs.«01_k».proof.Proof.Gen.Kernel3Ideal.Skeleton
public import proofs.«01_k».proof.Proof.Gen.Kernel3.Skeleton
public import proofs.«01_k».proof.Proof.Gen.Reference3Ideal.Run
public import proofs.«01_k».proof.Proof.Gen.Reference3Ideal.Read
public import proofs.«01_k».proof.Proof.Readout
public import proofs.«01_k».proof.Proof.Merge
public import proofs.«01_k».proof.Proof.Inproj
public import proofs.«01_k».proof.Proof.Even
public import proofs.«01_k».proof.Proof.EvenBits
public import proofs.«01_k».proof.Proof.Gen.Kernel6
public import proofs.«01_k».proof.Proof.Gen.Kernel6Ideal
public import proofs.«01_k».proof.Proof.Gen.Kernel6.Skeleton
public import proofs.«01_k».proof.Proof.Gen.Kernel6.Loops
public import proofs.«01_k».proof.Proof.Gen.Kernel6.Launch
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_tables_route
public import proofs.«01_k».proof.Proof.FfnValue
public import proofs.«01_k».proof.Proof.FfnBitsRoute
public import Idealize.ShloMosaic.Adequacy
public import Idealize.ShloMosaic.Init

@[expose] public section

set_option maxRecDepth 16384

noncomputable section

namespace Cert.Proof

open Idealize.ShloMosaic Idealize.SL.Sem Cert.Kernel

/-- Over the extended reals kernel and reference compute the same array from queries, keys and biases that are finite. -/
theorem attention (hpre : Cert.Pre_scores_finite.Facts) :
    @Cert.algebraic_KernelIdeal_ReferenceIdeal_pre_scores_finite Cert.KernelIdeal.Gen.facts Cert.ReferenceIdeal.Gen.facts hpre := by
  intro m g m' g' hp hag
  refine ⟨fun c => attended (projs m c) (biases m c), ?_, ?_⟩
  · refine (θ_run _ _ _).mono (fun r h c => ⟨(h c).1.trans (final m c), (h c).2⟩) (Cert.KernelIdeal.Value.run_blocks m g)
  · refine (θ_run _ _ _).mono (fun r h c => ⟨(h c).1.trans ?_, (h c).2⟩) (Cert.ReferenceIdeal.Value.run m' g')
    rw [Cert.ReferenceIdeal.Read.val_main_v123_eq, (hag c).1, (hag c).2]
    exact (attended_eq (projs m c) (biases m c) (realScores_of_pre _ _ (hp c))).symm

/-- The reference ends without fault, leaves its arguments as they were and, having no semaphore, every counter at zero. -/
theorem reference_frame : @Cert.quiescent_ReferenceIdeal Cert.ReferenceIdeal.Gen.facts := fun m ρ _ =>
  (θ_run (Cert.ReferenceIdeal.defs (F := Ideal)) _ _).mono
    (fun r h => And.intro (fun c => (h c).2) (sem_eq_zero_of_no_sems (by decide) r.2))
    (Cert.ReferenceIdeal.Value.run (F := Ideal) m ρ)

/-- The projections: kernel and reference compute the same array. -/
theorem projection :
    @Cert.algebraic_Kernel2Ideal_Reference2Ideal Cert.Kernel2Ideal.Gen.facts Cert.Reference2Ideal.Gen.facts := by
  intro m g m' g' _ hag
  refine ⟨fun c => fun j => Inproj.projected (Inproj.rowsIn m c) (Inproj.mods m c) (Inproj.norms m c) (Inproj.weights m c) (j 0).val (j 1).val, ?_, ?_⟩
  · refine (θ_run _ _ _).mono (fun r h c => ⟨(h c).1.trans (Inproj.final m c), (h c).2⟩) (Cert.Kernel2Ideal.Value.run_blocks m g)
  · refine (θ_run _ _ _).mono (fun r h c => ⟨(h c).1.trans ?_, (h c).2⟩) (Cert.Reference2Ideal.Value.run m' g')
    rw [Cert.Reference2Ideal.Read.val_main_v64_eq, (hag c).1, (hag c).2.1, (hag c).2.2.1, (hag c).2.2.2]
    exact Inproj.reference_at _ _ _ _

/-- The reference of the projections ends without fault, leaves its arguments as they were and, having no semaphore, every counter at zero. -/
theorem projection_reference_frame : @Cert.quiescent_Reference2Ideal Cert.Reference2Ideal.Gen.facts := fun m ρ _ =>
  (θ_run (Cert.Reference2Ideal.defs (F := Ideal)) _ _).mono
    (fun r h => And.intro (fun c => (h c).2) (sem_eq_zero_of_no_sems (by decide) r.2))
    (Cert.Reference2Ideal.Value.run (F := Ideal) m ρ)

/-- The merge: kernel and reference compute the same array. -/
theorem merge :
    @Cert.algebraic_Kernel4Ideal_Reference4Ideal Cert.Kernel4Ideal.Gen.facts Cert.Reference4Ideal.Gen.facts := by
  intro m g m' g' _ hag
  refine ⟨fun c => fun j => Merge.merged (Merge.attn m c) (Merge.scans m c) (Merge.inputs m c) (Merge.skips m c) (Merge.gluW m c) (Merge.outW m c) (j 0).val (j 1).val, ?_, ?_⟩
  · refine (θ_run _ _ _).mono (fun r h c => ⟨(h c).1.trans (Merge.final m c), (h c).2⟩) (Cert.Kernel4Ideal.Value.run_blocks m g)
  · refine (θ_run _ _ _).mono (fun r h c => ⟨(h c).1.trans ?_, (h c).2⟩) (Cert.Reference4Ideal.Value.run m' g')
    rw [Cert.Reference4Ideal.Read.val_main_v36_eq, (hag c).1, (hag c).2.1, (hag c).2.2.1, (hag c).2.2.2.1, (hag c).2.2.2.2.1, (hag c).2.2.2.2.2]
    exact Merge.reference_at _ _ _ _ _ _

/-- The reference of the merge ends without fault, leaves its arguments as they were and, having no semaphore, every counter at zero. -/
theorem merge_reference_frame : @Cert.quiescent_Reference4Ideal Cert.Reference4Ideal.Gen.facts := fun m ρ _ =>
  (θ_run (Cert.Reference4Ideal.defs (F := Ideal)) _ _).mono
    (fun r h => And.intro (fun c => (h c).2) (sem_eq_zero_of_no_sems (by decide) r.2))
    (Cert.Reference4Ideal.Value.run (F := Ideal) m ρ)

/-- The readout: kernel and reference compute the same array. -/
theorem readout :
    @Cert.algebraic_Kernel5Ideal_Reference5Ideal Cert.Kernel5Ideal.Gen.facts Cert.Reference5Ideal.Gen.facts := by
  intro m g m' g' _ hag
  refine ⟨fun c => Readout.readOut (Readout.outs m c) (Readout.gates m c) (Readout.norms m c) (Readout.weights m c), ?_, ?_⟩
  · refine (θ_run _ _ _).mono (fun r h c => ⟨(h c).1.trans (Readout.final m c), (h c).2⟩) (Cert.Kernel5Ideal.Value.run_blocks m g)
  · refine (θ_run _ _ _).mono (fun r h c => ⟨(h c).1.trans ?_, (h c).2⟩) (Cert.Reference5Ideal.Value.run m' g')
    rw [Cert.Reference5Ideal.Read.val_main_v11_eq, (hag c).1, (hag c).2.1, (hag c).2.2.1, (hag c).2.2.2]
    exact Readout.reference_at _ _ _ _

/-- The reference of the readout ends without fault, leaves its arguments as they were and, having no semaphore, every counter at zero. -/
theorem readout_reference_frame : @Cert.quiescent_Reference5Ideal Cert.Reference5Ideal.Gen.facts := fun m ρ _ =>
  (θ_run (Cert.Reference5Ideal.defs (F := Ideal)) _ _).mono
    (fun r h => And.intro (fun c => (h c).2) (sem_eq_zero_of_no_sems (by decide) r.2))
    (Cert.Reference5Ideal.Value.run (F := Ideal) m ρ)

/-- The even layer's projections: kernel and reference compute the same two arrays. -/
theorem even_projection :
    @Cert.algebraic_Kernel3Ideal_Reference3Ideal Cert.Kernel3Ideal.Gen.facts Cert.Reference3Ideal.Gen.facts := by
  intro m g m' g' _ hag
  refine ⟨fun c => fun j => Even.projected (Even.rowsIn m c) (Even.mods m c) (Even.norms m c) (Even.weights m c) (j 0).val (j 1).val,
    fun c => fun j => Even.projected (Even.rowsIn m c) (Even.mods m c) (Even.norms m c) (Even.weights m c) (j 0).val (3072 + (j 1).val), ?_, ?_⟩
  · refine (θ_run _ _ _).mono (fun r h c => ⟨(h c).1.trans (Even.final4 m c), (h c).2.1.trans (Even.final5 m c), (h c).2.2⟩) (Even.run_blocks m g)
  · refine (θ_run _ _ _).mono (fun r h c => ⟨(h c).1.trans ?_, (h c).2.1.trans ?_, (h c).2.2⟩) (Cert.Reference3Ideal.Value.run m' g')
    · rw [Cert.Reference3Ideal.Read.val_main_v65_eq, (hag c).1, (hag c).2.1, (hag c).2.2.1, (hag c).2.2.2]
      exact Even.reference_rounded _ _ _ _
    · rw [Cert.Reference3Ideal.Read.val_main_v66_eq, (hag c).1, (hag c).2.1, (hag c).2.2.1, (hag c).2.2.2]
      exact Even.reference_exact _ _ _ _

/-- The reference of the even layer's projections ends without fault, leaves its arguments as they were and, having no semaphore, every counter at zero. -/
theorem even_projection_reference_frame : @Cert.quiescent_Reference3Ideal Cert.Reference3Ideal.Gen.facts := fun m ρ _ =>
  (θ_run (Cert.Reference3Ideal.defs (F := Ideal)) _ _).mono
    (fun r h => And.intro (fun c => ⟨(h c).2.2.1, (h c).2.2.2.1, (h c).2.2.2.2.1, (h c).2.2.2.2.2⟩) (sem_eq_zero_of_no_sems (by decide) r.2))
    (Cert.Reference3Ideal.Value.run (F := Ideal) m ρ)

/-- What the routing precondition says of the expert network's tables. -/
theorem experts_say [Cert.Pre_tables_route.Facts] (m) (h : Cert.Pre_Kernel6Ideal m) (c : Dev Cert.Kernel6Ideal.nD) :
    Tables.Says (Cert.Kernel6Ideal.Hand.tExp m c) (Cert.Kernel6Ideal.Hand.tNr m c) (Cert.Kernel6Ideal.Hand.tSrc m c) (Cert.Kernel6Ideal.Hand.tDst m c)
      (Tables.ownerT Ideal (Cert.Kernel6Ideal.Hand.tNr m c) (Cert.Kernel6Ideal.Hand.tDst m c)) :=
  Tables.reads (F := Ideal) _ _ _ _ _ _ _ _ _ (h c)
theorem experts_say_bits [Cert.Pre_tables_route.Facts] (m) (h : Cert.Pre_Kernel6 m) (c : Dev Cert.Kernel6.nD) :
    Tables.Says (Cert.Kernel6.Hand.tExp m c) (Cert.Kernel6.Hand.tNr m c) (Cert.Kernel6.Hand.tSrc m c) (Cert.Kernel6.Hand.tDst m c)
      (Tables.ownerT Bits (Cert.Kernel6.Hand.tNr m c) (Cert.Kernel6.Hand.tDst m c)) :=
  Tables.reads (F := Bits) _ _ _ _ _ _ _ _ _ (h c)

/-- The expert network ends without fault, leaves its arguments as they were and every counter at zero, from tables that route. -/
theorem experts_frame (hp : Cert.Pre_tables_route.Facts) : @Cert.quiescent_Kernel6Ideal Cert.Kernel6Ideal.Gen.facts hp := by
  intro m ρ h
  refine (θ_run _ _ _).mono (fun r q => ⟨fun c => ?_, q.2⟩) (Cert.Kernel6Ideal.Hand.run_at m ρ _ (experts_say m h))
  obtain ⟨q0, q1, q2, q3, q4, q5, q6, q7, q8, q9⟩ := q.1 c
  exact ⟨q0, q1, q2, q3, q4, q5, q6, q7, q8⟩
theorem experts_frame_bits (hp : Cert.Pre_tables_route.Facts) : @Cert.quiescent_Kernel6 Cert.Kernel6.Gen.facts hp := by
  intro m ρ h
  refine (θ_run _ _ _).mono (fun r q => ⟨fun c => ?_, q.2⟩) (Cert.Kernel6.Hand.run_at m ρ _ (experts_say_bits m h))
  obtain ⟨q0, q1, q2, q3, q4, q5, q6, q7, q8, q9⟩ := q.1 c
  exact ⟨q0, q1, q2, q3, q4, q5, q6, q7, q8⟩

/-- The expert network: kernel and reference compute the same array from tables that route. -/
theorem experts (hp : Cert.Pre_tables_route.Facts) :
    @Cert.algebraic_Kernel6Ideal_Reference6Ideal Cert.Kernel6Ideal.Gen.facts Cert.Reference6Ideal.Gen.facts hp := by
  intro m g m' g' h hag
  refine ⟨fun c => Cert.Kernel6Ideal.Hand.outG m (Cert.Kernel6Ideal.Hand.adm m (experts_say m h 0).teR) c, ?_, ?_⟩
  · refine (θ_run _ _ _).mono (fun r q c => ?_) (Cert.Kernel6Ideal.Hand.run_at m g _ (experts_say m h))
    obtain ⟨q0, q1, q2, q3, q4, q5, q6, q7, q8, q9⟩ := q.1 c
    exact ⟨q9, q0, q1, q2, q3, q4, q5, q6, q7, q8⟩
  · refine (θ_run _ _ _).mono (fun r q c => ⟨(q c).1.trans ?_, (q c).2⟩) (Cert.Reference6Ideal.Value.run m' g')
    obtain ⟨a0, a1, a2, a3, a4, a5, a6, a7, a8⟩ := hag c
    rw [Cert.Reference6Ideal.Read.val_main_v53_eq, a0, a1, a2, a3, a4, a5, a6, a7, a8]
    exact (Ffn.value m (experts_say m h 0).teR c (experts_say m h c) (Cert.Kernel6Ideal.Hand.routes m (fun c => Tables.ownerT Ideal (Cert.Kernel6Ideal.Hand.tNr m c) (Cert.Kernel6Ideal.Hand.tDst m c)) c (experts_say m h c))).symm

/-- The reference of the expert network ends without fault, leaves its arguments as they were and, having no semaphore, every counter at zero. -/
theorem experts_reference_frame : @Cert.quiescent_Reference6Ideal Cert.Reference6Ideal.Gen.facts := fun m ρ _ =>
  (θ_run (Cert.Reference6Ideal.defs (F := Ideal)) _ _).mono
    (fun r h => And.intro (fun c => (h c).2) (sem_eq_zero_of_no_sems (by decide) r.2))
    (Cert.Reference6Ideal.Value.run (F := Ideal) m ρ)

/-- The frames, the correspondences and the six values. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel3.Gen.facts, Cert.Kernel3Ideal.Gen.facts, Cert.Reference3Ideal.Gen.facts,
    Cert.Kernel6.Gen.facts, Cert.Kernel6Ideal.Gen.facts, Cert.Reference6Ideal.Gen.facts,
    Cert.Pre_scores_finite.Gen.facts, Cert.Pre_tables_route.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.Kernel2.Gen.frame m ρ,
    fun m ρ _ => Cert.Kernel2Ideal.Gen.frame m ρ,
    projection_reference_frame,
    fun m ρ _ => Cert.Kernel4.Gen.frame m ρ,
    fun m ρ _ => Cert.Kernel4Ideal.Gen.frame m ρ,
    merge_reference_frame,
    fun m ρ _ => Cert.Kernel5.Gen.frame m ρ,
    fun m ρ _ => Cert.Kernel5Ideal.Gen.frame m ρ,
    readout_reference_frame,
    fun m ρ _ => EvenBits.frame m ρ,
    fun m ρ _ => Even.frame m ρ,
    even_projection_reference_frame,
    experts_frame_bits _, experts_frame _, experts_reference_frame, fun m ρ _ => experts_reference_frame m ρ trivial,
    trivial, attention _, trivial, projection, trivial, merge, trivial, readout, trivial, even_projection, trivial, experts _⟩

end Cert.Proof

end
